-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x6144 : Shape := ⟨3, ![2, 1024, 6144]⟩
abbrev S2x1024x192 : Shape := ⟨3, ![2, 1024, 192]⟩
abbrev S6144x160 : Shape := ⟨2, ![6144, 160]⟩
abbrev S2x1024x6 : Shape := ⟨3, ![2, 1024, 6]⟩
abbrev S2048x6144 : Shape := ⟨2, ![2048, 6144]⟩
abbrev S2048x192 : Shape := ⟨2, ![2048, 192]⟩
abbrev S2048x6 : Shape := ⟨2, ![2048, 6]⟩
abbrev S2048x160 : Shape := ⟨2, ![2048, 160]⟩
abbrev S8x256x6144 : Shape := ⟨3, ![8, 256, 6144]⟩
abbrev S160x6144 : Shape := ⟨2, ![160, 6144]⟩
abbrev S192x256 : Shape := ⟨2, ![192, 256]⟩
abbrev S6144x2048 : Shape := ⟨2, ![6144, 2048]⟩
abbrev S160x2048 : Shape := ⟨2, ![160, 2048]⟩
abbrev S2x2048x512 : Shape := ⟨3, ![2, 2048, 512]⟩
abbrev S2x512x160 : Shape := ⟨3, ![2, 512, 160]⟩
abbrev S8 : Shape := ⟨1, ![8]⟩
abbrev S4 : Shape := ⟨1, ![4]⟩
abbrev S2 : Shape := ⟨1, ![2]⟩
abbrev S_ : Shape := ⟨0, ![]⟩
abbrev S1 : Shape := ⟨1, ![1]⟩
abbrev S1x256x6144 : Shape := ⟨3, ![1, 256, 6144]⟩
abbrev S256x6144 : Shape := ⟨2, ![256, 6144]⟩
abbrev S512x160 : Shape := ⟨2, ![512, 160]⟩
abbrev S160x512 : Shape := ⟨2, ![160, 512]⟩
abbrev S256x192 : Shape := ⟨2, ![256, 192]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S32x256 : Shape := ⟨2, ![32, 256]⟩
abbrev S6144x256 : Shape := ⟨2, ![6144, 256]⟩
abbrev S160x256 : Shape := ⟨2, ![160, 256]⟩
abbrev S256x6 : Shape := ⟨2, ![256, 6]⟩
abbrev S6x256 : Shape := ⟨2, ![6, 256]⟩
abbrev S256 : Shape := ⟨1, ![256]⟩
abbrev S256x160 : Shape := ⟨2, ![256, 160]⟩
abbrev S2048x512 : Shape := ⟨2, ![2048, 512]⟩
abbrev S1x2048x512 : Shape := ⟨3, ![1, 2048, 512]⟩
abbrev S1x512x160 : Shape := ⟨3, ![1, 512, 160]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S2x1024x6144, .fp8e4m3⟩
  | .hbm, ⟨1, _⟩ => ⟨S2x1024x192, .f32⟩
  | .hbm, ⟨2, _⟩ => ⟨S6144x160, .bf16⟩
  | .hbm, ⟨3, _⟩ => ⟨S2x1024x6, .i32⟩
  | .hbm, ⟨4, _⟩ => ⟨S2x1024x6, .bf16⟩
  | .hbm, ⟨5, _⟩ => ⟨S2048x6144, .fp8e4m3⟩
  | .hbm, ⟨6, _⟩ => ⟨S2048x192, .f32⟩
  | .hbm, ⟨7, _⟩ => ⟨S2048x6, .i32⟩
  | .hbm, ⟨8, _⟩ => ⟨S2048x6, .bf16⟩
  | .hbm, ⟨9, _⟩ => ⟨S2048x6144, .bf16⟩
  | .hbm, ⟨10, _⟩ => ⟨S6144x160, .f32⟩
  | .hbm, ⟨11, _⟩ => ⟨S2048x160, .f32⟩
  | .local _ .vmem, ⟨0, _⟩ => ⟨S8x256x6144, .fp8e4m3⟩
  | .local _ .vmem, ⟨1, _⟩ => ⟨S2048x192, .f32⟩
  | .local _ .vmem, ⟨2, _⟩ => ⟨S6144x160, .bf16⟩
  | .local _ .vmem, ⟨3, _⟩ => ⟨S2048x6, .i32⟩
  | .local _ .vmem, ⟨4, _⟩ => ⟨S2048x6, .bf16⟩
  | .local _ .vmem, ⟨5, _⟩ => ⟨S160x6144, .bf16⟩
  | .local _ .vmem, ⟨6, _⟩ => ⟨S192x256, .f32⟩
  | .local _ .vmem, ⟨7, _⟩ => ⟨S6144x2048, .bf16⟩
  | .local _ .vmem, ⟨8, _⟩ => ⟨S160x2048, .bf16⟩
  | .local _ .vmem, ⟨9, _⟩ => ⟨S2048x160, .bf16⟩
  | .local _ .vmem, ⟨10, _⟩ => ⟨S2048x160, .f32⟩
  | .local _ .vmem, ⟨11, _⟩ => ⟨S2x2048x512, .bf16⟩
  | .local _ .vmem, ⟨12, _⟩ => ⟨S2x512x160, .f32⟩
  | _, _ => ⟨S2x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c12_i32 : BitVec 32 := 12#32
  let v50 : BitVec 32 := Scalar.addi c0_i32_38 c12_i32
  let c1_i32_39 : BitVec 32 := 1#32
  ⟨c0_i32_38, v50, c1_i32_39⟩
def k0_off1 (k0_t1 : Fin k0_t1_loop.trips) : Fin 2 → Nat :=
  let c0_i32_74 : BitVec 32 := 0#32
  let c0_i32_38 : BitVec 32 := 0#32
  let c1_i32_39 : BitVec 32 := 1#32
  let arg26 : BitVec 32 := Scf.iv c0_i32_38 c1_i32_39 k0_t1
  let c1_i32_73 : BitVec 32 := 1#32
  let v79 : BitVec 32 := Scalar.muli arg26 c1_i32_73
  let v80 : BitVec 32 := Scalar.addi c0_i32_74 v79
  let c512_i32_75 : BitVec 32 := 512#32
  let v81 : BitVec 32 := Scalar.muli v80 c512_i32_75
  let v82 : Index := Scalar.indexCast v81
  let c0 : Index := 0#32
  ![v82.toNat, 0]
def k0_off2 (k0_t1 : Fin k0_t1_loop.trips) : Fin 2 → Nat :=
  let c0_77 : Index := 0#32
  let c0_i32_74 : BitVec 32 := 0#32
  let c0_i32_38 : BitVec 32 := 0#32
  let c1_i32_39 : BitVec 32 := 1#32
  let arg26 : BitVec 32 := Scf.iv c0_i32_38 c1_i32_39 k0_t1
  let c1_i32_73 : BitVec 32 := 1#32
  let v79 : BitVec 32 := Scalar.muli arg26 c1_i32_73
  let v80 : BitVec 32 := Scalar.addi c0_i32_74 v79
  let c512_i32_76 : BitVec 32 := 512#32
  let v85 : BitVec 32 := Scalar.muli v80 c512_i32_76
  let v86 : Index := Scalar.indexCast v85
  ![0, v86.toNat]
@[reducible] def k0_t2_loop : Scf.Loop 32 :=
  let c0_i32_44 : BitVec 32 := 0#32
  let c8_i32 : BitVec 32 := 8#32
  let v57 : BitVec 32 := Scalar.addi c0_i32_44 c8_i32
  let c1_i32_45 : BitVec 32 := 1#32
  ⟨c0_i32_44, v57, c1_i32_45⟩
def k0_off3 (k0_t2 : Fin k0_t2_loop.trips) : Fin 1 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  ![v80.toNat]
def k0_off4 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c0_i32_76 : BitVec 32 := 0#32
  let c0_i32_77 : BitVec 32 := 0#32
  ![v80.toNat, 0, 0]
def k0_off5 (k0_t2 : Fin k0_t2_loop.trips) : Fin 2 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_75 : BitVec 32 := 256#32
  let v81 : BitVec 32 := Scalar.muli v80 c256_i32_75
  let c0_i32_78 : BitVec 32 := 0#32
  ![v81.toNat, 0]
def k0_off6 (k0_t2 : Fin k0_t2_loop.trips) : Fin 2 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v88 : Index := Scalar.indexCast v87
  let c0 : Index := 0#32
  ![v88.toNat, 0]
def k0_off7 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v96 : Index := Scalar.indexCast v80
  let c0_82 : Index := 0#32
  let c0_83 : Index := 0#32
  ![v96.toNat, 0, 0]
def k0_off8 (k0_t2 : Fin k0_t2_loop.trips) : Fin 2 → Nat :=
  let c0_86 : Index := 0#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v107 : Index := Scalar.indexCast v87
  ![0, v107.toNat]
def k0_off9 (k0_t2 : Fin k0_t2_loop.trips) : Fin 2 → Nat :=
  let c32 : Index := 32#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v117 : Index := Scalar.indexCast v87
  ![32, v117.toNat]
def k0_off10 (k0_t2 : Fin k0_t2_loop.trips) : Fin 2 → Nat :=
  let c64 : Index := 64#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v127 : Index := Scalar.indexCast v87
  ![64, v127.toNat]
def k0_off11 (k0_t2 : Fin k0_t2_loop.trips) : Fin 2 → Nat :=
  let c96 : Index := 96#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v137 : Index := Scalar.indexCast v87
  ![96, v137.toNat]
def k0_off12 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v141 : Index := Scalar.indexCast v80
  let c0_90 : Index := 0#32
  let c128 : Index := 128#32
  ![v141.toNat, 0, 128]
def k0_off13 (k0_t2 : Fin k0_t2_loop.trips) : Fin 2 → Nat :=
  let c128_92 : Index := 128#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v152 : Index := Scalar.indexCast v87
  ![128, v152.toNat]
def k0_off14 (k0_t2 : Fin k0_t2_loop.trips) : Fin 2 → Nat :=
  let c160 : Index := 160#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v162 : Index := Scalar.indexCast v87
  ![160, v162.toNat]
def k0_off15 (k0_t2 : Fin k0_t2_loop.trips) : Fin 2 → Nat :=
  let c192 : Index := 192#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v172 : Index := Scalar.indexCast v87
  ![192, v172.toNat]
def k0_off16 (k0_t2 : Fin k0_t2_loop.trips) : Fin 2 → Nat :=
  let c224 : Index := 224#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v182 : Index := Scalar.indexCast v87
  ![224, v182.toNat]
def k0_off17 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v186 : Index := Scalar.indexCast v80
  let c0_96 : Index := 0#32
  let c256 : Index := 256#32
  ![v186.toNat, 0, 256]
def k0_off18 (k0_t2 : Fin k0_t2_loop.trips) : Fin 2 → Nat :=
  let c256_98 : Index := 256#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v197 : Index := Scalar.indexCast v87
  ![256, v197.toNat]
def k0_off19 (k0_t2 : Fin k0_t2_loop.trips) : Fin 2 → Nat :=
  let c288 : Index := 288#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v207 : Index := Scalar.indexCast v87
  ![288, v207.toNat]
def k0_off20 (k0_t2 : Fin k0_t2_loop.trips) : Fin 2 → Nat :=
  let c320 : Index := 320#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v217 : Index := Scalar.indexCast v87
  ![320, v217.toNat]
def k0_off21 (k0_t2 : Fin k0_t2_loop.trips) : Fin 2 → Nat :=
  let c352 : Index := 352#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v227 : Index := Scalar.indexCast v87
  ![352, v227.toNat]
def k0_off22 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v231 : Index := Scalar.indexCast v80
  let c0_102 : Index := 0#32
  let c384 : Index := 384#32
  ![v231.toNat, 0, 384]
def k0_off23 (k0_t2 : Fin k0_t2_loop.trips) : Fin 2 → Nat :=
  let c384_104 : Index := 384#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v242 : Index := Scalar.indexCast v87
  ![384, v242.toNat]
def k0_off24 (k0_t2 : Fin k0_t2_loop.trips) : Fin 2 → Nat :=
  let c416 : Index := 416#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v252 : Index := Scalar.indexCast v87
  ![416, v252.toNat]
def k0_off25 (k0_t2 : Fin k0_t2_loop.trips) : Fin 2 → Nat :=
  let c448 : Index := 448#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v262 : Index := Scalar.indexCast v87
  ![448, v262.toNat]
def k0_off26 (k0_t2 : Fin k0_t2_loop.trips) : Fin 2 → Nat :=
  let c480 : Index := 480#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v272 : Index := Scalar.indexCast v87
  ![480, v272.toNat]
def k0_off27 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v276 : Index := Scalar.indexCast v80
  let c0_108 : Index := 0#32
  let c512 : Index := 512#32
  ![v276.toNat, 0, 512]
def k0_off28 (k0_t2 : Fin k0_t2_loop.trips) : Fin 2 → Nat :=
  let c512_110 : Index := 512#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v287 : Index := Scalar.indexCast v87
  ![512, v287.toNat]
def k0_off29 (k0_t2 : Fin k0_t2_loop.trips) : Fin 2 → Nat :=
  let c544 : Index := 544#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v297 : Index := Scalar.indexCast v87
  ![544, v297.toNat]
def k0_off30 (k0_t2 : Fin k0_t2_loop.trips) : Fin 2 → Nat :=
  let c576 : Index := 576#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v307 : Index := Scalar.indexCast v87
  ![576, v307.toNat]
def k0_off31 (k0_t2 : Fin k0_t2_loop.trips) : Fin 2 → Nat :=
  let c608 : Index := 608#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v317 : Index := Scalar.indexCast v87
  ![608, v317.toNat]
def k0_off32 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v321 : Index := Scalar.indexCast v80
  let c0_114 : Index := 0#32
  let c640 : Index := 640#32
  ![v321.toNat, 0, 640]
def k0_off33 (k0_t2 : Fin k0_t2_loop.trips) : Fin 2 → Nat :=
  let c640_116 : Index := 640#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v332 : Index := Scalar.indexCast v87
  ![640, v332.toNat]
def k0_off34 (k0_t2 : Fin k0_t2_loop.trips) : Fin 2 → Nat :=
  let c672 : Index := 672#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v342 : Index := Scalar.indexCast v87
  ![672, v342.toNat]
def k0_off35 (k0_t2 : Fin k0_t2_loop.trips) : Fin 2 → Nat :=
  let c704 : Index := 704#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v352 : Index := Scalar.indexCast v87
  ![704, v352.toNat]
def k0_off36 (k0_t2 : Fin k0_t2_loop.trips) : Fin 2 → Nat :=
  let c736 : Index := 736#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v362 : Index := Scalar.indexCast v87
  ![736, v362.toNat]
def k0_off37 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v366 : Index := Scalar.indexCast v80
  let c0_120 : Index := 0#32
  let c768 : Index := 768#32
  ![v366.toNat, 0, 768]
def k0_off38 (k0_t2 : Fin k0_t2_loop.trips) : Fin 2 → Nat :=
  let c768_122 : Index := 768#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v377 : Index := Scalar.indexCast v87
  ![768, v377.toNat]
def k0_off39 (k0_t2 : Fin k0_t2_loop.trips) : Fin 2 → Nat :=
  let c800 : Index := 800#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v387 : Index := Scalar.indexCast v87
  ![800, v387.toNat]
def k0_off40 (k0_t2 : Fin k0_t2_loop.trips) : Fin 2 → Nat :=
  let c832 : Index := 832#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v397 : Index := Scalar.indexCast v87
  ![832, v397.toNat]
def k0_off41 (k0_t2 : Fin k0_t2_loop.trips) : Fin 2 → Nat :=
  let c864 : Index := 864#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v407 : Index := Scalar.indexCast v87
  ![864, v407.toNat]
def k0_off42 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v411 : Index := Scalar.indexCast v80
  let c0_126 : Index := 0#32
  let c896 : Index := 896#32
  ![v411.toNat, 0, 896]
def k0_off43 (k0_t2 : Fin k0_t2_loop.trips) : Fin 2 → Nat :=
  let c896_128 : Index := 896#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v422 : Index := Scalar.indexCast v87
  ![896, v422.toNat]
def k0_off44 (k0_t2 : Fin k0_t2_loop.trips) : Fin 2 → Nat :=
  let c928 : Index := 928#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v432 : Index := Scalar.indexCast v87
  ![928, v432.toNat]
def k0_off45 (k0_t2 : Fin k0_t2_loop.trips) : Fin 2 → Nat :=
  let c960 : Index := 960#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v442 : Index := Scalar.indexCast v87
  ![960, v442.toNat]
def k0_off46 (k0_t2 : Fin k0_t2_loop.trips) : Fin 2 → Nat :=
  let c992 : Index := 992#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v452 : Index := Scalar.indexCast v87
  ![992, v452.toNat]
def k0_off47 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v456 : Index := Scalar.indexCast v80
  let c0_132 : Index := 0#32
  let c1024 : Index := 1024#32
  ![v456.toNat, 0, 1024]
def k0_off48 (k0_t2 : Fin k0_t2_loop.trips) : Fin 2 → Nat :=
  let c1024_135 : Index := 1024#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v467 : Index := Scalar.indexCast v87
  ![1024, v467.toNat]
def k0_off49 (k0_t2 : Fin k0_t2_loop.trips) : Fin 2 → Nat :=
  let c1056 : Index := 1056#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v477 : Index := Scalar.indexCast v87
  ![1056, v477.toNat]
def k0_off50 (k0_t2 : Fin k0_t2_loop.trips) : Fin 2 → Nat :=
  let c1088 : Index := 1088#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v487 : Index := Scalar.indexCast v87
  ![1088, v487.toNat]
def k0_off51 (k0_t2 : Fin k0_t2_loop.trips) : Fin 2 → Nat :=
  let c1120 : Index := 1120#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v497 : Index := Scalar.indexCast v87
  ![1120, v497.toNat]
def k0_off52 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v501 : Index := Scalar.indexCast v80
  let c0_139 : Index := 0#32
  let c1152 : Index := 1152#32
  ![v501.toNat, 0, 1152]
def k0_off53 (k0_t2 : Fin k0_t2_loop.trips) : Fin 2 → Nat :=
  let c1152_141 : Index := 1152#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v512 : Index := Scalar.indexCast v87
  ![1152, v512.toNat]
def k0_off54 (k0_t2 : Fin k0_t2_loop.trips) : Fin 2 → Nat :=
  let c1184 : Index := 1184#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v522 : Index := Scalar.indexCast v87
  ![1184, v522.toNat]
def k0_off55 (k0_t2 : Fin k0_t2_loop.trips) : Fin 2 → Nat :=
  let c1216 : Index := 1216#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v532 : Index := Scalar.indexCast v87
  ![1216, v532.toNat]
def k0_off56 (k0_t2 : Fin k0_t2_loop.trips) : Fin 2 → Nat :=
  let c1248 : Index := 1248#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v542 : Index := Scalar.indexCast v87
  ![1248, v542.toNat]
def k0_off57 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v546 : Index := Scalar.indexCast v80
  let c0_145 : Index := 0#32
  let c1280 : Index := 1280#32
  ![v546.toNat, 0, 1280]
def k0_off58 (k0_t2 : Fin k0_t2_loop.trips) : Fin 2 → Nat :=
  let c1280_147 : Index := 1280#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v557 : Index := Scalar.indexCast v87
  ![1280, v557.toNat]
def k0_off59 (k0_t2 : Fin k0_t2_loop.trips) : Fin 2 → Nat :=
  let c1312 : Index := 1312#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v567 : Index := Scalar.indexCast v87
  ![1312, v567.toNat]
def k0_off60 (k0_t2 : Fin k0_t2_loop.trips) : Fin 2 → Nat :=
  let c1344 : Index := 1344#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v577 : Index := Scalar.indexCast v87
  ![1344, v577.toNat]
def k0_off61 (k0_t2 : Fin k0_t2_loop.trips) : Fin 2 → Nat :=
  let c1376 : Index := 1376#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v587 : Index := Scalar.indexCast v87
  ![1376, v587.toNat]
def k0_off62 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v591 : Index := Scalar.indexCast v80
  let c0_151 : Index := 0#32
  let c1408 : Index := 1408#32
  ![v591.toNat, 0, 1408]
def k0_off63 (k0_t2 : Fin k0_t2_loop.trips) : Fin 2 → Nat :=
  let c1408_153 : Index := 1408#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v602 : Index := Scalar.indexCast v87
  ![1408, v602.toNat]
def k0_off64 (k0_t2 : Fin k0_t2_loop.trips) : Fin 2 → Nat :=
  let c1440 : Index := 1440#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v612 : Index := Scalar.indexCast v87
  ![1440, v612.toNat]
def k0_off65 (k0_t2 : Fin k0_t2_loop.trips) : Fin 2 → Nat :=
  let c1472 : Index := 1472#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v622 : Index := Scalar.indexCast v87
  ![1472, v622.toNat]
def k0_off66 (k0_t2 : Fin k0_t2_loop.trips) : Fin 2 → Nat :=
  let c1504 : Index := 1504#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v632 : Index := Scalar.indexCast v87
  ![1504, v632.toNat]
def k0_off67 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v636 : Index := Scalar.indexCast v80
  let c0_157 : Index := 0#32
  let c1536 : Index := 1536#32
  ![v636.toNat, 0, 1536]
def k0_off68 (k0_t2 : Fin k0_t2_loop.trips) : Fin 2 → Nat :=
  let c1536_159 : Index := 1536#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v647 : Index := Scalar.indexCast v87
  ![1536, v647.toNat]
def k0_off69 (k0_t2 : Fin k0_t2_loop.trips) : Fin 2 → Nat :=
  let c1568 : Index := 1568#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v657 : Index := Scalar.indexCast v87
  ![1568, v657.toNat]
def k0_off70 (k0_t2 : Fin k0_t2_loop.trips) : Fin 2 → Nat :=
  let c1600 : Index := 1600#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v667 : Index := Scalar.indexCast v87
  ![1600, v667.toNat]
def k0_off71 (k0_t2 : Fin k0_t2_loop.trips) : Fin 2 → Nat :=
  let c1632 : Index := 1632#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v677 : Index := Scalar.indexCast v87
  ![1632, v677.toNat]
def k0_off72 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v681 : Index := Scalar.indexCast v80
  let c0_163 : Index := 0#32
  let c1664 : Index := 1664#32
  ![v681.toNat, 0, 1664]
def k0_off73 (k0_t2 : Fin k0_t2_loop.trips) : Fin 2 → Nat :=
  let c1664_165 : Index := 1664#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v692 : Index := Scalar.indexCast v87
  ![1664, v692.toNat]
def k0_off74 (k0_t2 : Fin k0_t2_loop.trips) : Fin 2 → Nat :=
  let c1696 : Index := 1696#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v702 : Index := Scalar.indexCast v87
  ![1696, v702.toNat]
def k0_off75 (k0_t2 : Fin k0_t2_loop.trips) : Fin 2 → Nat :=
  let c1728 : Index := 1728#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v712 : Index := Scalar.indexCast v87
  ![1728, v712.toNat]
def k0_off76 (k0_t2 : Fin k0_t2_loop.trips) : Fin 2 → Nat :=
  let c1760 : Index := 1760#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v722 : Index := Scalar.indexCast v87
  ![1760, v722.toNat]
def k0_off77 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v726 : Index := Scalar.indexCast v80
  let c0_169 : Index := 0#32
  let c1792 : Index := 1792#32
  ![v726.toNat, 0, 1792]
def k0_off78 (k0_t2 : Fin k0_t2_loop.trips) : Fin 2 → Nat :=
  let c1792_171 : Index := 1792#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v737 : Index := Scalar.indexCast v87
  ![1792, v737.toNat]
def k0_off79 (k0_t2 : Fin k0_t2_loop.trips) : Fin 2 → Nat :=
  let c1824 : Index := 1824#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v747 : Index := Scalar.indexCast v87
  ![1824, v747.toNat]
def k0_off80 (k0_t2 : Fin k0_t2_loop.trips) : Fin 2 → Nat :=
  let c1856 : Index := 1856#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v757 : Index := Scalar.indexCast v87
  ![1856, v757.toNat]
def k0_off81 (k0_t2 : Fin k0_t2_loop.trips) : Fin 2 → Nat :=
  let c1888 : Index := 1888#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v767 : Index := Scalar.indexCast v87
  ![1888, v767.toNat]
def k0_off82 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v771 : Index := Scalar.indexCast v80
  let c0_175 : Index := 0#32
  let c1920 : Index := 1920#32
  ![v771.toNat, 0, 1920]
def k0_off83 (k0_t2 : Fin k0_t2_loop.trips) : Fin 2 → Nat :=
  let c1920_177 : Index := 1920#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v782 : Index := Scalar.indexCast v87
  ![1920, v782.toNat]
def k0_off84 (k0_t2 : Fin k0_t2_loop.trips) : Fin 2 → Nat :=
  let c1952 : Index := 1952#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v792 : Index := Scalar.indexCast v87
  ![1952, v792.toNat]
def k0_off85 (k0_t2 : Fin k0_t2_loop.trips) : Fin 2 → Nat :=
  let c1984 : Index := 1984#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v802 : Index := Scalar.indexCast v87
  ![1984, v802.toNat]
def k0_off86 (k0_t2 : Fin k0_t2_loop.trips) : Fin 2 → Nat :=
  let c2016 : Index := 2016#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v812 : Index := Scalar.indexCast v87
  ![2016, v812.toNat]
def k0_off87 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v816 : Index := Scalar.indexCast v80
  let c0_181 : Index := 0#32
  let c2048 : Index := 2048#32
  ![v816.toNat, 0, 2048]
def k0_off88 (k0_t2 : Fin k0_t2_loop.trips) : Fin 2 → Nat :=
  let c2048_184 : Index := 2048#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v827 : Index := Scalar.indexCast v87
  ![2048, v827.toNat]
def k0_off89 (k0_t2 : Fin k0_t2_loop.trips) : Fin 2 → Nat :=
  let c2080 : Index := 2080#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v837 : Index := Scalar.indexCast v87
  ![2080, v837.toNat]
def k0_off90 (k0_t2 : Fin k0_t2_loop.trips) : Fin 2 → Nat :=
  let c2112 : Index := 2112#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v847 : Index := Scalar.indexCast v87
  ![2112, v847.toNat]
def k0_off91 (k0_t2 : Fin k0_t2_loop.trips) : Fin 2 → Nat :=
  let c2144 : Index := 2144#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v857 : Index := Scalar.indexCast v87
  ![2144, v857.toNat]
def k0_off92 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v861 : Index := Scalar.indexCast v80
  let c0_188 : Index := 0#32
  let c2176 : Index := 2176#32
  ![v861.toNat, 0, 2176]
def k0_off93 (k0_t2 : Fin k0_t2_loop.trips) : Fin 2 → Nat :=
  let c2176_190 : Index := 2176#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v872 : Index := Scalar.indexCast v87
  ![2176, v872.toNat]
def k0_off94 (k0_t2 : Fin k0_t2_loop.trips) : Fin 2 → Nat :=
  let c2208 : Index := 2208#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v882 : Index := Scalar.indexCast v87
  ![2208, v882.toNat]
def k0_off95 (k0_t2 : Fin k0_t2_loop.trips) : Fin 2 → Nat :=
  let c2240 : Index := 2240#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v892 : Index := Scalar.indexCast v87
  ![2240, v892.toNat]
def k0_off96 (k0_t2 : Fin k0_t2_loop.trips) : Fin 2 → Nat :=
  let c2272 : Index := 2272#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v902 : Index := Scalar.indexCast v87
  ![2272, v902.toNat]
def k0_off97 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v906 : Index := Scalar.indexCast v80
  let c0_194 : Index := 0#32
  let c2304 : Index := 2304#32
  ![v906.toNat, 0, 2304]
def k0_off98 (k0_t2 : Fin k0_t2_loop.trips) : Fin 2 → Nat :=
  let c2304_196 : Index := 2304#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v917 : Index := Scalar.indexCast v87
  ![2304, v917.toNat]
def k0_off99 (k0_t2 : Fin k0_t2_loop.trips) : Fin 2 → Nat :=
  let c2336 : Index := 2336#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v927 : Index := Scalar.indexCast v87
  ![2336, v927.toNat]
def k0_off100 (k0_t2 : Fin k0_t2_loop.trips) : Fin 2 → Nat :=
  let c2368 : Index := 2368#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v937 : Index := Scalar.indexCast v87
  ![2368, v937.toNat]
def k0_off101 (k0_t2 : Fin k0_t2_loop.trips) : Fin 2 → Nat :=
  let c2400 : Index := 2400#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v947 : Index := Scalar.indexCast v87
  ![2400, v947.toNat]
def k0_off102 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v951 : Index := Scalar.indexCast v80
  let c0_200 : Index := 0#32
  let c2432 : Index := 2432#32
  ![v951.toNat, 0, 2432]
def k0_off103 (k0_t2 : Fin k0_t2_loop.trips) : Fin 2 → Nat :=
  let c2432_202 : Index := 2432#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v962 : Index := Scalar.indexCast v87
  ![2432, v962.toNat]
def k0_off104 (k0_t2 : Fin k0_t2_loop.trips) : Fin 2 → Nat :=
  let c2464 : Index := 2464#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v972 : Index := Scalar.indexCast v87
  ![2464, v972.toNat]
def k0_off105 (k0_t2 : Fin k0_t2_loop.trips) : Fin 2 → Nat :=
  let c2496 : Index := 2496#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v982 : Index := Scalar.indexCast v87
  ![2496, v982.toNat]
def k0_off106 (k0_t2 : Fin k0_t2_loop.trips) : Fin 2 → Nat :=
  let c2528 : Index := 2528#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v992 : Index := Scalar.indexCast v87
  ![2528, v992.toNat]
def k0_off107 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v996 : Index := Scalar.indexCast v80
  let c0_206 : Index := 0#32
  let c2560 : Index := 2560#32
  ![v996.toNat, 0, 2560]
def k0_off108 (k0_t2 : Fin k0_t2_loop.trips) : Fin 2 → Nat :=
  let c2560_208 : Index := 2560#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1007 : Index := Scalar.indexCast v87
  ![2560, v1007.toNat]
def k0_off109 (k0_t2 : Fin k0_t2_loop.trips) : Fin 2 → Nat :=
  let c2592 : Index := 2592#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1017 : Index := Scalar.indexCast v87
  ![2592, v1017.toNat]
def k0_off110 (k0_t2 : Fin k0_t2_loop.trips) : Fin 2 → Nat :=
  let c2624 : Index := 2624#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1027 : Index := Scalar.indexCast v87
  ![2624, v1027.toNat]
def k0_off111 (k0_t2 : Fin k0_t2_loop.trips) : Fin 2 → Nat :=
  let c2656 : Index := 2656#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1037 : Index := Scalar.indexCast v87
  ![2656, v1037.toNat]
def k0_off112 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1041 : Index := Scalar.indexCast v80
  let c0_212 : Index := 0#32
  let c2688 : Index := 2688#32
  ![v1041.toNat, 0, 2688]
def k0_off113 (k0_t2 : Fin k0_t2_loop.trips) : Fin 2 → Nat :=
  let c2688_214 : Index := 2688#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1052 : Index := Scalar.indexCast v87
  ![2688, v1052.toNat]
def k0_off114 (k0_t2 : Fin k0_t2_loop.trips) : Fin 2 → Nat :=
  let c2720 : Index := 2720#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1062 : Index := Scalar.indexCast v87
  ![2720, v1062.toNat]
def k0_off115 (k0_t2 : Fin k0_t2_loop.trips) : Fin 2 → Nat :=
  let c2752 : Index := 2752#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1072 : Index := Scalar.indexCast v87
  ![2752, v1072.toNat]
def k0_off116 (k0_t2 : Fin k0_t2_loop.trips) : Fin 2 → Nat :=
  let c2784 : Index := 2784#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1082 : Index := Scalar.indexCast v87
  ![2784, v1082.toNat]
def k0_off117 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1086 : Index := Scalar.indexCast v80
  let c0_218 : Index := 0#32
  let c2816 : Index := 2816#32
  ![v1086.toNat, 0, 2816]
def k0_off118 (k0_t2 : Fin k0_t2_loop.trips) : Fin 2 → Nat :=
  let c2816_220 : Index := 2816#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1097 : Index := Scalar.indexCast v87
  ![2816, v1097.toNat]
def k0_off119 (k0_t2 : Fin k0_t2_loop.trips) : Fin 2 → Nat :=
  let c2848 : Index := 2848#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1107 : Index := Scalar.indexCast v87
  ![2848, v1107.toNat]
def k0_off120 (k0_t2 : Fin k0_t2_loop.trips) : Fin 2 → Nat :=
  let c2880 : Index := 2880#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1117 : Index := Scalar.indexCast v87
  ![2880, v1117.toNat]
def k0_off121 (k0_t2 : Fin k0_t2_loop.trips) : Fin 2 → Nat :=
  let c2912 : Index := 2912#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1127 : Index := Scalar.indexCast v87
  ![2912, v1127.toNat]
def k0_off122 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1131 : Index := Scalar.indexCast v80
  let c0_224 : Index := 0#32
  let c2944 : Index := 2944#32
  ![v1131.toNat, 0, 2944]
def k0_off123 (k0_t2 : Fin k0_t2_loop.trips) : Fin 2 → Nat :=
  let c2944_226 : Index := 2944#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1142 : Index := Scalar.indexCast v87
  ![2944, v1142.toNat]
def k0_off124 (k0_t2 : Fin k0_t2_loop.trips) : Fin 2 → Nat :=
  let c2976 : Index := 2976#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1152 : Index := Scalar.indexCast v87
  ![2976, v1152.toNat]
def k0_off125 (k0_t2 : Fin k0_t2_loop.trips) : Fin 2 → Nat :=
  let c3008 : Index := 3008#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1162 : Index := Scalar.indexCast v87
  ![3008, v1162.toNat]
def k0_off126 (k0_t2 : Fin k0_t2_loop.trips) : Fin 2 → Nat :=
  let c3040 : Index := 3040#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1172 : Index := Scalar.indexCast v87
  ![3040, v1172.toNat]
def k0_off127 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1176 : Index := Scalar.indexCast v80
  let c0_230 : Index := 0#32
  let c3072 : Index := 3072#32
  ![v1176.toNat, 0, 3072]
def k0_off128 (k0_t2 : Fin k0_t2_loop.trips) : Fin 2 → Nat :=
  let c3072_233 : Index := 3072#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1187 : Index := Scalar.indexCast v87
  ![3072, v1187.toNat]
def k0_off129 (k0_t2 : Fin k0_t2_loop.trips) : Fin 2 → Nat :=
  let c3104 : Index := 3104#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1197 : Index := Scalar.indexCast v87
  ![3104, v1197.toNat]
def k0_off130 (k0_t2 : Fin k0_t2_loop.trips) : Fin 2 → Nat :=
  let c3136 : Index := 3136#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1207 : Index := Scalar.indexCast v87
  ![3136, v1207.toNat]
def k0_off131 (k0_t2 : Fin k0_t2_loop.trips) : Fin 2 → Nat :=
  let c3168 : Index := 3168#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1217 : Index := Scalar.indexCast v87
  ![3168, v1217.toNat]
def k0_off132 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1221 : Index := Scalar.indexCast v80
  let c0_237 : Index := 0#32
  let c3200 : Index := 3200#32
  ![v1221.toNat, 0, 3200]
def k0_off133 (k0_t2 : Fin k0_t2_loop.trips) : Fin 2 → Nat :=
  let c3200_239 : Index := 3200#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1232 : Index := Scalar.indexCast v87
  ![3200, v1232.toNat]
def k0_off134 (k0_t2 : Fin k0_t2_loop.trips) : Fin 2 → Nat :=
  let c3232 : Index := 3232#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1242 : Index := Scalar.indexCast v87
  ![3232, v1242.toNat]
def k0_off135 (k0_t2 : Fin k0_t2_loop.trips) : Fin 2 → Nat :=
  let c3264 : Index := 3264#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1252 : Index := Scalar.indexCast v87
  ![3264, v1252.toNat]
def k0_off136 (k0_t2 : Fin k0_t2_loop.trips) : Fin 2 → Nat :=
  let c3296 : Index := 3296#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1262 : Index := Scalar.indexCast v87
  ![3296, v1262.toNat]
def k0_off137 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1266 : Index := Scalar.indexCast v80
  let c0_243 : Index := 0#32
  let c3328 : Index := 3328#32
  ![v1266.toNat, 0, 3328]
def k0_off138 (k0_t2 : Fin k0_t2_loop.trips) : Fin 2 → Nat :=
  let c3328_245 : Index := 3328#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1277 : Index := Scalar.indexCast v87
  ![3328, v1277.toNat]
def k0_off139 (k0_t2 : Fin k0_t2_loop.trips) : Fin 2 → Nat :=
  let c3360 : Index := 3360#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1287 : Index := Scalar.indexCast v87
  ![3360, v1287.toNat]
def k0_off140 (k0_t2 : Fin k0_t2_loop.trips) : Fin 2 → Nat :=
  let c3392 : Index := 3392#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1297 : Index := Scalar.indexCast v87
  ![3392, v1297.toNat]
def k0_off141 (k0_t2 : Fin k0_t2_loop.trips) : Fin 2 → Nat :=
  let c3424 : Index := 3424#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1307 : Index := Scalar.indexCast v87
  ![3424, v1307.toNat]
def k0_off142 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1311 : Index := Scalar.indexCast v80
  let c0_249 : Index := 0#32
  let c3456 : Index := 3456#32
  ![v1311.toNat, 0, 3456]
def k0_off143 (k0_t2 : Fin k0_t2_loop.trips) : Fin 2 → Nat :=
  let c3456_251 : Index := 3456#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1322 : Index := Scalar.indexCast v87
  ![3456, v1322.toNat]
def k0_off144 (k0_t2 : Fin k0_t2_loop.trips) : Fin 2 → Nat :=
  let c3488 : Index := 3488#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1332 : Index := Scalar.indexCast v87
  ![3488, v1332.toNat]
def k0_off145 (k0_t2 : Fin k0_t2_loop.trips) : Fin 2 → Nat :=
  let c3520 : Index := 3520#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1342 : Index := Scalar.indexCast v87
  ![3520, v1342.toNat]
def k0_off146 (k0_t2 : Fin k0_t2_loop.trips) : Fin 2 → Nat :=
  let c3552 : Index := 3552#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1352 : Index := Scalar.indexCast v87
  ![3552, v1352.toNat]
def k0_off147 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1356 : Index := Scalar.indexCast v80
  let c0_255 : Index := 0#32
  let c3584 : Index := 3584#32
  ![v1356.toNat, 0, 3584]
def k0_off148 (k0_t2 : Fin k0_t2_loop.trips) : Fin 2 → Nat :=
  let c3584_257 : Index := 3584#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1367 : Index := Scalar.indexCast v87
  ![3584, v1367.toNat]
def k0_off149 (k0_t2 : Fin k0_t2_loop.trips) : Fin 2 → Nat :=
  let c3616 : Index := 3616#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1377 : Index := Scalar.indexCast v87
  ![3616, v1377.toNat]
def k0_off150 (k0_t2 : Fin k0_t2_loop.trips) : Fin 2 → Nat :=
  let c3648 : Index := 3648#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1387 : Index := Scalar.indexCast v87
  ![3648, v1387.toNat]
def k0_off151 (k0_t2 : Fin k0_t2_loop.trips) : Fin 2 → Nat :=
  let c3680 : Index := 3680#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1397 : Index := Scalar.indexCast v87
  ![3680, v1397.toNat]
def k0_off152 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1401 : Index := Scalar.indexCast v80
  let c0_261 : Index := 0#32
  let c3712 : Index := 3712#32
  ![v1401.toNat, 0, 3712]
def k0_off153 (k0_t2 : Fin k0_t2_loop.trips) : Fin 2 → Nat :=
  let c3712_263 : Index := 3712#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1412 : Index := Scalar.indexCast v87
  ![3712, v1412.toNat]
def k0_off154 (k0_t2 : Fin k0_t2_loop.trips) : Fin 2 → Nat :=
  let c3744 : Index := 3744#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1422 : Index := Scalar.indexCast v87
  ![3744, v1422.toNat]
def k0_off155 (k0_t2 : Fin k0_t2_loop.trips) : Fin 2 → Nat :=
  let c3776 : Index := 3776#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1432 : Index := Scalar.indexCast v87
  ![3776, v1432.toNat]
def k0_off156 (k0_t2 : Fin k0_t2_loop.trips) : Fin 2 → Nat :=
  let c3808 : Index := 3808#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1442 : Index := Scalar.indexCast v87
  ![3808, v1442.toNat]
def k0_off157 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1446 : Index := Scalar.indexCast v80
  let c0_267 : Index := 0#32
  let c3840 : Index := 3840#32
  ![v1446.toNat, 0, 3840]
def k0_off158 (k0_t2 : Fin k0_t2_loop.trips) : Fin 2 → Nat :=
  let c3840_269 : Index := 3840#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1457 : Index := Scalar.indexCast v87
  ![3840, v1457.toNat]
def k0_off159 (k0_t2 : Fin k0_t2_loop.trips) : Fin 2 → Nat :=
  let c3872 : Index := 3872#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1467 : Index := Scalar.indexCast v87
  ![3872, v1467.toNat]
def k0_off160 (k0_t2 : Fin k0_t2_loop.trips) : Fin 2 → Nat :=
  let c3904 : Index := 3904#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1477 : Index := Scalar.indexCast v87
  ![3904, v1477.toNat]
def k0_off161 (k0_t2 : Fin k0_t2_loop.trips) : Fin 2 → Nat :=
  let c3936 : Index := 3936#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1487 : Index := Scalar.indexCast v87
  ![3936, v1487.toNat]
def k0_off162 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1491 : Index := Scalar.indexCast v80
  let c0_273 : Index := 0#32
  let c3968 : Index := 3968#32
  ![v1491.toNat, 0, 3968]
def k0_off163 (k0_t2 : Fin k0_t2_loop.trips) : Fin 2 → Nat :=
  let c3968_275 : Index := 3968#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1502 : Index := Scalar.indexCast v87
  ![3968, v1502.toNat]
def k0_off164 (k0_t2 : Fin k0_t2_loop.trips) : Fin 2 → Nat :=
  let c4000 : Index := 4000#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1512 : Index := Scalar.indexCast v87
  ![4000, v1512.toNat]
def k0_off165 (k0_t2 : Fin k0_t2_loop.trips) : Fin 2 → Nat :=
  let c4032 : Index := 4032#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1522 : Index := Scalar.indexCast v87
  ![4032, v1522.toNat]
def k0_off166 (k0_t2 : Fin k0_t2_loop.trips) : Fin 2 → Nat :=
  let c4064 : Index := 4064#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1532 : Index := Scalar.indexCast v87
  ![4064, v1532.toNat]
def k0_off167 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1536 : Index := Scalar.indexCast v80
  let c0_279 : Index := 0#32
  let c4096 : Index := 4096#32
  ![v1536.toNat, 0, 4096]
def k0_off168 (k0_t2 : Fin k0_t2_loop.trips) : Fin 2 → Nat :=
  let c4096_282 : Index := 4096#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1547 : Index := Scalar.indexCast v87
  ![4096, v1547.toNat]
def k0_off169 (k0_t2 : Fin k0_t2_loop.trips) : Fin 2 → Nat :=
  let c4128 : Index := 4128#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1557 : Index := Scalar.indexCast v87
  ![4128, v1557.toNat]
def k0_off170 (k0_t2 : Fin k0_t2_loop.trips) : Fin 2 → Nat :=
  let c4160 : Index := 4160#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1567 : Index := Scalar.indexCast v87
  ![4160, v1567.toNat]
def k0_off171 (k0_t2 : Fin k0_t2_loop.trips) : Fin 2 → Nat :=
  let c4192 : Index := 4192#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1577 : Index := Scalar.indexCast v87
  ![4192, v1577.toNat]
def k0_off172 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1581 : Index := Scalar.indexCast v80
  let c0_286 : Index := 0#32
  let c4224 : Index := 4224#32
  ![v1581.toNat, 0, 4224]
def k0_off173 (k0_t2 : Fin k0_t2_loop.trips) : Fin 2 → Nat :=
  let c4224_288 : Index := 4224#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1592 : Index := Scalar.indexCast v87
  ![4224, v1592.toNat]
def k0_off174 (k0_t2 : Fin k0_t2_loop.trips) : Fin 2 → Nat :=
  let c4256 : Index := 4256#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1602 : Index := Scalar.indexCast v87
  ![4256, v1602.toNat]
def k0_off175 (k0_t2 : Fin k0_t2_loop.trips) : Fin 2 → Nat :=
  let c4288 : Index := 4288#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1612 : Index := Scalar.indexCast v87
  ![4288, v1612.toNat]
def k0_off176 (k0_t2 : Fin k0_t2_loop.trips) : Fin 2 → Nat :=
  let c4320 : Index := 4320#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1622 : Index := Scalar.indexCast v87
  ![4320, v1622.toNat]
def k0_off177 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1626 : Index := Scalar.indexCast v80
  let c0_292 : Index := 0#32
  let c4352 : Index := 4352#32
  ![v1626.toNat, 0, 4352]
def k0_off178 (k0_t2 : Fin k0_t2_loop.trips) : Fin 2 → Nat :=
  let c4352_294 : Index := 4352#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1637 : Index := Scalar.indexCast v87
  ![4352, v1637.toNat]
def k0_off179 (k0_t2 : Fin k0_t2_loop.trips) : Fin 2 → Nat :=
  let c4384 : Index := 4384#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1647 : Index := Scalar.indexCast v87
  ![4384, v1647.toNat]
def k0_off180 (k0_t2 : Fin k0_t2_loop.trips) : Fin 2 → Nat :=
  let c4416 : Index := 4416#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1657 : Index := Scalar.indexCast v87
  ![4416, v1657.toNat]
def k0_off181 (k0_t2 : Fin k0_t2_loop.trips) : Fin 2 → Nat :=
  let c4448 : Index := 4448#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1667 : Index := Scalar.indexCast v87
  ![4448, v1667.toNat]
def k0_off182 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1671 : Index := Scalar.indexCast v80
  let c0_298 : Index := 0#32
  let c4480 : Index := 4480#32
  ![v1671.toNat, 0, 4480]
def k0_off183 (k0_t2 : Fin k0_t2_loop.trips) : Fin 2 → Nat :=
  let c4480_300 : Index := 4480#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1682 : Index := Scalar.indexCast v87
  ![4480, v1682.toNat]
def k0_off184 (k0_t2 : Fin k0_t2_loop.trips) : Fin 2 → Nat :=
  let c4512 : Index := 4512#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1692 : Index := Scalar.indexCast v87
  ![4512, v1692.toNat]
def k0_off185 (k0_t2 : Fin k0_t2_loop.trips) : Fin 2 → Nat :=
  let c4544 : Index := 4544#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1702 : Index := Scalar.indexCast v87
  ![4544, v1702.toNat]
def k0_off186 (k0_t2 : Fin k0_t2_loop.trips) : Fin 2 → Nat :=
  let c4576 : Index := 4576#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1712 : Index := Scalar.indexCast v87
  ![4576, v1712.toNat]
def k0_off187 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1716 : Index := Scalar.indexCast v80
  let c0_304 : Index := 0#32
  let c4608 : Index := 4608#32
  ![v1716.toNat, 0, 4608]
def k0_off188 (k0_t2 : Fin k0_t2_loop.trips) : Fin 2 → Nat :=
  let c4608_306 : Index := 4608#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1727 : Index := Scalar.indexCast v87
  ![4608, v1727.toNat]
def k0_off189 (k0_t2 : Fin k0_t2_loop.trips) : Fin 2 → Nat :=
  let c4640 : Index := 4640#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1737 : Index := Scalar.indexCast v87
  ![4640, v1737.toNat]
def k0_off190 (k0_t2 : Fin k0_t2_loop.trips) : Fin 2 → Nat :=
  let c4672 : Index := 4672#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1747 : Index := Scalar.indexCast v87
  ![4672, v1747.toNat]
def k0_off191 (k0_t2 : Fin k0_t2_loop.trips) : Fin 2 → Nat :=
  let c4704 : Index := 4704#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1757 : Index := Scalar.indexCast v87
  ![4704, v1757.toNat]
def k0_off192 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1761 : Index := Scalar.indexCast v80
  let c0_310 : Index := 0#32
  let c4736 : Index := 4736#32
  ![v1761.toNat, 0, 4736]
def k0_off193 (k0_t2 : Fin k0_t2_loop.trips) : Fin 2 → Nat :=
  let c4736_312 : Index := 4736#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1772 : Index := Scalar.indexCast v87
  ![4736, v1772.toNat]
def k0_off194 (k0_t2 : Fin k0_t2_loop.trips) : Fin 2 → Nat :=
  let c4768 : Index := 4768#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1782 : Index := Scalar.indexCast v87
  ![4768, v1782.toNat]
def k0_off195 (k0_t2 : Fin k0_t2_loop.trips) : Fin 2 → Nat :=
  let c4800 : Index := 4800#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1792 : Index := Scalar.indexCast v87
  ![4800, v1792.toNat]
def k0_off196 (k0_t2 : Fin k0_t2_loop.trips) : Fin 2 → Nat :=
  let c4832 : Index := 4832#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1802 : Index := Scalar.indexCast v87
  ![4832, v1802.toNat]
def k0_off197 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1806 : Index := Scalar.indexCast v80
  let c0_316 : Index := 0#32
  let c4864 : Index := 4864#32
  ![v1806.toNat, 0, 4864]
def k0_off198 (k0_t2 : Fin k0_t2_loop.trips) : Fin 2 → Nat :=
  let c4864_318 : Index := 4864#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1817 : Index := Scalar.indexCast v87
  ![4864, v1817.toNat]
def k0_off199 (k0_t2 : Fin k0_t2_loop.trips) : Fin 2 → Nat :=
  let c4896 : Index := 4896#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1827 : Index := Scalar.indexCast v87
  ![4896, v1827.toNat]
def k0_off200 (k0_t2 : Fin k0_t2_loop.trips) : Fin 2 → Nat :=
  let c4928 : Index := 4928#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1837 : Index := Scalar.indexCast v87
  ![4928, v1837.toNat]
def k0_off201 (k0_t2 : Fin k0_t2_loop.trips) : Fin 2 → Nat :=
  let c4960 : Index := 4960#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1847 : Index := Scalar.indexCast v87
  ![4960, v1847.toNat]
def k0_off202 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1851 : Index := Scalar.indexCast v80
  let c0_322 : Index := 0#32
  let c4992 : Index := 4992#32
  ![v1851.toNat, 0, 4992]
def k0_off203 (k0_t2 : Fin k0_t2_loop.trips) : Fin 2 → Nat :=
  let c4992_324 : Index := 4992#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1862 : Index := Scalar.indexCast v87
  ![4992, v1862.toNat]
def k0_off204 (k0_t2 : Fin k0_t2_loop.trips) : Fin 2 → Nat :=
  let c5024 : Index := 5024#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1872 : Index := Scalar.indexCast v87
  ![5024, v1872.toNat]
def k0_off205 (k0_t2 : Fin k0_t2_loop.trips) : Fin 2 → Nat :=
  let c5056 : Index := 5056#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1882 : Index := Scalar.indexCast v87
  ![5056, v1882.toNat]
def k0_off206 (k0_t2 : Fin k0_t2_loop.trips) : Fin 2 → Nat :=
  let c5088 : Index := 5088#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1892 : Index := Scalar.indexCast v87
  ![5088, v1892.toNat]
def k0_off207 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1896 : Index := Scalar.indexCast v80
  let c0_328 : Index := 0#32
  let c5120 : Index := 5120#32
  ![v1896.toNat, 0, 5120]
def k0_off208 (k0_t2 : Fin k0_t2_loop.trips) : Fin 2 → Nat :=
  let c5120_331 : Index := 5120#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1907 : Index := Scalar.indexCast v87
  ![5120, v1907.toNat]
def k0_off209 (k0_t2 : Fin k0_t2_loop.trips) : Fin 2 → Nat :=
  let c5152 : Index := 5152#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1917 : Index := Scalar.indexCast v87
  ![5152, v1917.toNat]
def k0_off210 (k0_t2 : Fin k0_t2_loop.trips) : Fin 2 → Nat :=
  let c5184 : Index := 5184#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1927 : Index := Scalar.indexCast v87
  ![5184, v1927.toNat]
def k0_off211 (k0_t2 : Fin k0_t2_loop.trips) : Fin 2 → Nat :=
  let c5216 : Index := 5216#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1937 : Index := Scalar.indexCast v87
  ![5216, v1937.toNat]
def k0_off212 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1941 : Index := Scalar.indexCast v80
  let c0_335 : Index := 0#32
  let c5248 : Index := 5248#32
  ![v1941.toNat, 0, 5248]
def k0_off213 (k0_t2 : Fin k0_t2_loop.trips) : Fin 2 → Nat :=
  let c5248_337 : Index := 5248#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1952 : Index := Scalar.indexCast v87
  ![5248, v1952.toNat]
def k0_off214 (k0_t2 : Fin k0_t2_loop.trips) : Fin 2 → Nat :=
  let c5280 : Index := 5280#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1962 : Index := Scalar.indexCast v87
  ![5280, v1962.toNat]
def k0_off215 (k0_t2 : Fin k0_t2_loop.trips) : Fin 2 → Nat :=
  let c5312 : Index := 5312#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1972 : Index := Scalar.indexCast v87
  ![5312, v1972.toNat]
def k0_off216 (k0_t2 : Fin k0_t2_loop.trips) : Fin 2 → Nat :=
  let c5344 : Index := 5344#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1982 : Index := Scalar.indexCast v87
  ![5344, v1982.toNat]
def k0_off217 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v1986 : Index := Scalar.indexCast v80
  let c0_341 : Index := 0#32
  let c5376 : Index := 5376#32
  ![v1986.toNat, 0, 5376]
def k0_off218 (k0_t2 : Fin k0_t2_loop.trips) : Fin 2 → Nat :=
  let c5376_343 : Index := 5376#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v1997 : Index := Scalar.indexCast v87
  ![5376, v1997.toNat]
def k0_off219 (k0_t2 : Fin k0_t2_loop.trips) : Fin 2 → Nat :=
  let c5408 : Index := 5408#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2007 : Index := Scalar.indexCast v87
  ![5408, v2007.toNat]
def k0_off220 (k0_t2 : Fin k0_t2_loop.trips) : Fin 2 → Nat :=
  let c5440 : Index := 5440#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2017 : Index := Scalar.indexCast v87
  ![5440, v2017.toNat]
def k0_off221 (k0_t2 : Fin k0_t2_loop.trips) : Fin 2 → Nat :=
  let c5472 : Index := 5472#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2027 : Index := Scalar.indexCast v87
  ![5472, v2027.toNat]
def k0_off222 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v2031 : Index := Scalar.indexCast v80
  let c0_347 : Index := 0#32
  let c5504 : Index := 5504#32
  ![v2031.toNat, 0, 5504]
def k0_off223 (k0_t2 : Fin k0_t2_loop.trips) : Fin 2 → Nat :=
  let c5504_349 : Index := 5504#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2042 : Index := Scalar.indexCast v87
  ![5504, v2042.toNat]
def k0_off224 (k0_t2 : Fin k0_t2_loop.trips) : Fin 2 → Nat :=
  let c5536 : Index := 5536#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2052 : Index := Scalar.indexCast v87
  ![5536, v2052.toNat]
def k0_off225 (k0_t2 : Fin k0_t2_loop.trips) : Fin 2 → Nat :=
  let c5568 : Index := 5568#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2062 : Index := Scalar.indexCast v87
  ![5568, v2062.toNat]
def k0_off226 (k0_t2 : Fin k0_t2_loop.trips) : Fin 2 → Nat :=
  let c5600 : Index := 5600#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2072 : Index := Scalar.indexCast v87
  ![5600, v2072.toNat]
def k0_off227 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v2076 : Index := Scalar.indexCast v80
  let c0_353 : Index := 0#32
  let c5632 : Index := 5632#32
  ![v2076.toNat, 0, 5632]
def k0_off228 (k0_t2 : Fin k0_t2_loop.trips) : Fin 2 → Nat :=
  let c5632_355 : Index := 5632#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2087 : Index := Scalar.indexCast v87
  ![5632, v2087.toNat]
def k0_off229 (k0_t2 : Fin k0_t2_loop.trips) : Fin 2 → Nat :=
  let c5664 : Index := 5664#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2097 : Index := Scalar.indexCast v87
  ![5664, v2097.toNat]
def k0_off230 (k0_t2 : Fin k0_t2_loop.trips) : Fin 2 → Nat :=
  let c5696 : Index := 5696#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2107 : Index := Scalar.indexCast v87
  ![5696, v2107.toNat]
def k0_off231 (k0_t2 : Fin k0_t2_loop.trips) : Fin 2 → Nat :=
  let c5728 : Index := 5728#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2117 : Index := Scalar.indexCast v87
  ![5728, v2117.toNat]
def k0_off232 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v2121 : Index := Scalar.indexCast v80
  let c0_359 : Index := 0#32
  let c5760 : Index := 5760#32
  ![v2121.toNat, 0, 5760]
def k0_off233 (k0_t2 : Fin k0_t2_loop.trips) : Fin 2 → Nat :=
  let c5760_361 : Index := 5760#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2132 : Index := Scalar.indexCast v87
  ![5760, v2132.toNat]
def k0_off234 (k0_t2 : Fin k0_t2_loop.trips) : Fin 2 → Nat :=
  let c5792 : Index := 5792#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2142 : Index := Scalar.indexCast v87
  ![5792, v2142.toNat]
def k0_off235 (k0_t2 : Fin k0_t2_loop.trips) : Fin 2 → Nat :=
  let c5824 : Index := 5824#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2152 : Index := Scalar.indexCast v87
  ![5824, v2152.toNat]
def k0_off236 (k0_t2 : Fin k0_t2_loop.trips) : Fin 2 → Nat :=
  let c5856 : Index := 5856#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2162 : Index := Scalar.indexCast v87
  ![5856, v2162.toNat]
def k0_off237 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v2166 : Index := Scalar.indexCast v80
  let c0_365 : Index := 0#32
  let c5888 : Index := 5888#32
  ![v2166.toNat, 0, 5888]
def k0_off238 (k0_t2 : Fin k0_t2_loop.trips) : Fin 2 → Nat :=
  let c5888_367 : Index := 5888#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2177 : Index := Scalar.indexCast v87
  ![5888, v2177.toNat]
def k0_off239 (k0_t2 : Fin k0_t2_loop.trips) : Fin 2 → Nat :=
  let c5920 : Index := 5920#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2187 : Index := Scalar.indexCast v87
  ![5920, v2187.toNat]
def k0_off240 (k0_t2 : Fin k0_t2_loop.trips) : Fin 2 → Nat :=
  let c5952 : Index := 5952#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2197 : Index := Scalar.indexCast v87
  ![5952, v2197.toNat]
def k0_off241 (k0_t2 : Fin k0_t2_loop.trips) : Fin 2 → Nat :=
  let c5984 : Index := 5984#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2207 : Index := Scalar.indexCast v87
  ![5984, v2207.toNat]
def k0_off242 (k0_t2 : Fin k0_t2_loop.trips) : Fin 3 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let v2211 : Index := Scalar.indexCast v80
  let c0_371 : Index := 0#32
  let c6016 : Index := 6016#32
  ![v2211.toNat, 0, 6016]
def k0_off243 (k0_t2 : Fin k0_t2_loop.trips) : Fin 2 → Nat :=
  let c6016_373 : Index := 6016#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2222 : Index := Scalar.indexCast v87
  ![6016, v2222.toNat]
def k0_off244 (k0_t2 : Fin k0_t2_loop.trips) : Fin 2 → Nat :=
  let c6048 : Index := 6048#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2232 : Index := Scalar.indexCast v87
  ![6048, v2232.toNat]
def k0_off245 (k0_t2 : Fin k0_t2_loop.trips) : Fin 2 → Nat :=
  let c6080 : Index := 6080#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2242 : Index := Scalar.indexCast v87
  ![6080, v2242.toNat]
def k0_off246 (k0_t2 : Fin k0_t2_loop.trips) : Fin 2 → Nat :=
  let c6112 : Index := 6112#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2252 : Index := Scalar.indexCast v87
  ![6112, v2252.toNat]
def k0_off247 (k0_t2 : Fin k0_t2_loop.trips) : Fin 2 → Nat :=
  let c0_379 : Index := 0#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2257 : Index := Scalar.indexCast v87
  ![0, v2257.toNat]
def k0_off248 (k0_t2 : Fin k0_t2_loop.trips) : Fin 2 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2260 : Index := Scalar.indexCast v87
  let c0_380 : Index := 0#32
  ![v2260.toNat, 0]
def k0_off249 (k0_t2 : Fin k0_t2_loop.trips) : Fin 2 → Nat :=
  let c0_401 : Index := 0#32
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2405 : Index := Scalar.indexCast v87
  ![0, v2405.toNat]
def k0_off250 (k0_t2 : Fin k0_t2_loop.trips) : Fin 2 → Nat :=
  let c0_i32_74 : BitVec 32 := 0#32
  let c0_i32_44 : BitVec 32 := 0#32
  let c1_i32_45 : BitVec 32 := 1#32
  let arg26 : BitVec 32 := Scf.iv c0_i32_44 c1_i32_45 k0_t2
  let c1_i32_73 : BitVec 32 := 1#32
  let v79 : BitVec 32 := Scalar.muli arg26 c1_i32_73
  let v80 : BitVec 32 := Scalar.addi c0_i32_74 v79
  let c256_i32_79 : BitVec 32 := 256#32
  let v87 : BitVec 32 := Scalar.muli v80 c256_i32_79
  let v2410 : Index := Scalar.indexCast v87
  let c0_402 : Index := 0#32
  ![v2410.toNat, 0]
@[reducible] def k0_t3_loop : Scf.Loop 32 :=
  let c0_i32_47 : BitVec 32 := 0#32
  let c12_i32_48 : BitVec 32 := 12#32
  let v58 : BitVec 32 := Scalar.addi c0_i32_47 c12_i32_48
  let c1_i32_49 : BitVec 32 := 1#32
  ⟨c0_i32_47, v58, c1_i32_49⟩
def k0_cond1 (k0_t3 : Fin k0_t3_loop.trips) : BitVec 1 :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_76 : BitVec 32 := 2#32
  let v82 : BitVec 1 := Scalar.cmpi .sge v80 c2_i32_76
  let v83 : BitVec 32 := Scalar.extui v82
  let c0_i32_77 : BitVec 32 := 0#32
  let v84 : BitVec 1 := Scalar.cmpi .ne v83 c0_i32_77
  v84

def k0_off251 (k0_t3 : Fin k0_t3_loop.trips) : Fin 1 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  ![v81.toNat]
def k0_off252 (k0_t3 : Fin k0_t3_loop.trips) : Fin 2 → Nat :=
  let c0_i32_99 : BitVec 32 := 0#32
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_97 : BitVec 32 := 2#32
  let v116 : BitVec 32 := Scalar.subi v80 c2_i32_97
  let c512_i32_98 : BitVec 32 := 512#32
  let v117 : BitVec 32 := Scalar.muli v116 c512_i32_98
  ![0, v117.toNat]
def k0_off253 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let c0_i32_100 : BitVec 32 := 0#32
  let c0_i32_101 : BitVec 32 := 0#32
  ![v81.toNat, 0, 0]
def k0_off254 (k0_t3 : Fin k0_t3_loop.trips) : Fin 2 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_102 : BitVec 32 := 2#32
  let v123 : BitVec 32 := Scalar.subi v80 c2_i32_102
  let c512_i32_103 : BitVec 32 := 512#32
  let v124 : BitVec 32 := Scalar.muli v123 c512_i32_103
  let c0_i32_104 : BitVec 32 := 0#32
  ![v124.toNat, 0]
def k0_off255 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let c0_i32_105 : BitVec 32 := 0#32
  let c0_i32_106 : BitVec 32 := 0#32
  ![v81.toNat, 0, 0]
def k0_off256 (k0_t3 : Fin k0_t3_loop.trips) : Fin 2 → Nat :=
  let c0_80 : Index := 0#32
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c512_i32_78 : BitVec 32 := 512#32
  let v85 : BitVec 32 := Scalar.muli v80 c512_i32_78
  let v87 : Index := Scalar.indexCast v85
  ![0, v87.toNat]
def k0_off257 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let v91 : Index := Scalar.indexCast v81
  let c0_81 : Index := 0#32
  let c0_82 : Index := 0#32
  ![v91.toNat, 0, 0]
def k0_off258 (k0_t3 : Fin k0_t3_loop.trips) : Fin 2 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c512_i32_78 : BitVec 32 := 512#32
  let v85 : BitVec 32 := Scalar.muli v80 c512_i32_78
  let v96 : Index := Scalar.indexCast v85
  let c0_85 : Index := 0#32
  ![v96.toNat, 0]
def k0_off259 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let v100 : Index := Scalar.indexCast v81
  let c0_87 : Index := 0#32
  let c0_88 : Index := 0#32
  ![v100.toNat, 0, 0]
def k0_off260 (k0_t3 : Fin k0_t3_loop.trips) : Fin 1 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  ![v81.toNat]
def k0_off261 (k0_t3 : Fin k0_t3_loop.trips) : Fin 2 → Nat :=
  let c0_i32_90 : BitVec 32 := 0#32
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c512_i32_89 : BitVec 32 := 512#32
  let v104 : BitVec 32 := Scalar.muli v80 c512_i32_89
  ![0, v104.toNat]
def k0_off262 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let c0_i32_91 : BitVec 32 := 0#32
  let c0_i32_92 : BitVec 32 := 0#32
  ![v81.toNat, 0, 0]
def k0_off263 (k0_t3 : Fin k0_t3_loop.trips) : Fin 2 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c512_i32_93 : BitVec 32 := 512#32
  let v110 : BitVec 32 := Scalar.muli v80 c512_i32_93
  let c0_i32_94 : BitVec 32 := 0#32
  ![v110.toNat, 0]
def k0_off264 (k0_t3 : Fin k0_t3_loop.trips) : Fin 3 → Nat :=
  let c0_i32_74 : BitVec 32 := 0#32
  let c0_i32_47 : BitVec 32 := 0#32
  let c1_i32_49 : BitVec 32 := 1#32
  let arg26 : BitVec 32 := Scf.iv c0_i32_47 c1_i32_49 k0_t3
  let c1_i32_73 : BitVec 32 := 1#32
  let v79 : BitVec 32 := Scalar.muli arg26 c1_i32_73
  let v80 : BitVec 32 := Scalar.addi c0_i32_74 v79
  let c2_i32_75 : BitVec 32 := 2#32
  let v81 : BitVec 32 := Scalar.remsi v80 c2_i32_75
  let c0_i32_95 : BitVec 32 := 0#32
  let c0_i32_96 : BitVec 32 := 0#32
  ![v81.toNat, 0, 0]
-- ==== ReferenceIdeal.lean ====
abbrev S2x1024x6144 : Shape := ⟨3, ![2, 1024, 6144]⟩
abbrev S2x1024x192 : Shape := ⟨3, ![2, 1024, 192]⟩
abbrev S6144x160 : Shape := ⟨2, ![6144, 160]⟩
abbrev S2x1024x6 : Shape := ⟨3, ![2, 1024, 6]⟩
abbrev S2048x192x32 : Shape := ⟨3, ![2048, 192, 32]⟩
abbrev S2048x192x1 : Shape := ⟨3, ![2048, 192, 1]⟩
abbrev S2048x6 : Shape := ⟨2, ![2048, 6]⟩
abbrev S2048x6144 : Shape := ⟨2, ![2048, 6144]⟩
abbrev S2048x160 : Shape := ⟨2, ![2048, 160]⟩
abbrev S2048x6x1 : Shape := ⟨3, ![2048, 6, 1]⟩
abbrev S1x1x160 : Shape := ⟨3, ![1, 1, 160]⟩
abbrev S2048x6x160 : Shape := ⟨3, ![2048, 6, 160]⟩
abbrev S2048x1x160 : Shape := ⟨3, ![2048, 1, 160]⟩
abbrev S2048 : Shape := ⟨1, ![2048]⟩
abbrev S2048x1 : Shape := ⟨2, ![2048, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x1024x6144, .fp8e4m3⟩
  | .hbm, ⟨1, _⟩ => ⟨S2x1024x192, .f32⟩
  | .hbm, ⟨2, _⟩ => ⟨S6144x160, .bf16⟩
  | .hbm, ⟨3, _⟩ => ⟨S2x1024x6, .i32⟩
  | .hbm, ⟨4, _⟩ => ⟨S2x1024x6, .bf16⟩
  | .hbm, ⟨5, _⟩ => ⟨S2048x192x32, .fp8e4m3⟩
  | .hbm, ⟨6, _⟩ => ⟨S2048x192x1, .f32⟩
  | .hbm, ⟨7, _⟩ => ⟨S2048x6, .i32⟩
  | .hbm, ⟨8, _⟩ => ⟨S2048x6, .bf16⟩
  | .hbm, ⟨9, _⟩ => ⟨S2048x6144, .bf16⟩
  | .hbm, ⟨10, _⟩ => ⟨S6144x160, .f32⟩
  | .hbm, ⟨11, _⟩ => ⟨S2048x160, .f32⟩
  | .local _ .vmem, ⟨0, _⟩ => ⟨S2048x192x32, .fp8e4m3⟩
  | .local _ .vmem, ⟨1, _⟩ => ⟨S2048x192x1, .f32⟩
  | .local _ .vmem, ⟨2, _⟩ => ⟨S6144x160, .bf16⟩
  | .local _ .vmem, ⟨3, _⟩ => ⟨S2048x6, .i32⟩
  | .local _ .vmem, ⟨4, _⟩ => ⟨S2048x6, .bf16⟩
  | .local _ .vmem, ⟨5, _⟩ => ⟨S2048x6144, .bf16⟩
  | .local _ .vmem, ⟨6, _⟩ => ⟨S6144x160, .f32⟩
  | .local _ .vmem, ⟨7, _⟩ => ⟨S2048x160, .f32⟩
  | _, _ => ⟨S2x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x192x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x6 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Steps.lean ====
/- The token-tile trip of the kernel in short form.

   The printed trip of the second loop is one line of 48 equal column slabs, each of four 32-row blocks, followed by the
   softmax of the tile. Here that text is given as a recursion over the slab number and one closing stretch, and
   `trip_eq` says the printed region IS that program. -/
module

public import proofs.«01_k».proof.Proof.Gen.Kernel.Skeleton
public import Idealize.ShloMosaic.Lib.Tactic

@[expose] public section

set_option maxRecDepth 16384

noncomputable section

namespace Cert.Kernel.Steps

open Idealize.ShloMosaic Idealize.ShloMosaic.TcCoe
open Idealize.SL Idealize.SL.Sem
open Cert.Kernel.Gen

variable {F : FTy → Type} [FloatOps F]

/-- The programs of the region. -/
abbrev Pgm (F : FTy → Type) := Prog (TpuEff nD τ sig (Elt F) Λ₀ .tc) Unit

/-! ## What the trip computes -/

/-- The tile's scales, transposed and rounded to bf16. -/
def scalesOf (s : Vec F S256x192 .f32) : FVec F S192x256 .f32 :=
  shapeCast S192x256 (extf .f32 (truncf .bf16 (transpose S192x256 [1, 0] s transposes_S256x192_p1_0_S192x256) bitsLt_bf16_f32) bitsLt_bf16_f32)
    shapeCasts_S192x256_S192x256

/-- A slab of 128 columns of the tile's codes, widened to bf16 and transposed. -/
def slabOf (x : Vec F S1x256x128 .fp8e4m3) : FVec F S128x256 .bf16 :=
  transpose S128x256 [1, 0] (extf .bf16 (shapeCast S256x128 x shapeCasts_S1x256x128_S256x128) bitsLt_fp8e4m3_bf16)
    transposes_S256x128_p1_0_S128x256

theorem slices_slab (b : Fin 4) : S128x256.Slices ![32 * b.val, 0] S32x256 := by revert b; decide

/-- The `b`-th block of 32 rows of a slab, multiplied by the block's row of scales. -/
def blockOf (v : FVec F S128x256 .bf16) (b : Fin 4) (s : Vec F S1x256 .f32) : FVec F S32x256 .bf16 :=
  shapeCast S32x256 (mulf (extractStridedSlice S32x256 ![32 * b.val, 0] v (slices_slab b))
    (truncf .bf16 (broadcastTo S32x256 (shapeCast S1x256 s shapeCasts_S1x256_S1x256) broadcasts_S1x256_S32x256) bitsLt_bf16_f32))
    shapeCasts_S32x256_S32x256

theorem slices_six (q : Fin 6) : S6x256.Slices ![q.val, 0] S1x256 := by revert q; decide

/-- The tile's logits, expert by token. -/
def logitsOf (w : Vec F S160x6144 .bf16) (a : Vec F S6144x256 .bf16) : FVec F S160x256 .f32 :=
  matmul dot_S160x6144_S6144x256_S160x256_1_0_0_1_n_n none w a (constant S160x256 .f32 0x00000000#32)

/-- Where the `q`-th chosen expert of each token of the tile is. -/
def hitOf (ids : Vec F S256x6 .i32) (q : Fin 6) : IVec S160x256 1 :=
  cmpi .eq (iota .tc S160x256 32 [0] iota_S160x256_d0_w32)
    (broadcastTo S160x256 (extractStridedSlice S1x256 ![q.val, 0] (transpose S6x256 [1, 0] ids transposes_S256x6_p1_0_S6x256) (slices_six q))
      broadcasts_S1x256_S160x256)

/-- The zero plane. -/
def zeros : FVec F S160x256 .f32 := broadcast S160x256 (Scalar.ofBits .f32 0x00000000#32 : F .f32)

/-- The logit of the `q`-th chosen expert of each token. -/
def selOf (L : FVec F S160x256 .f32) (ids : Vec F S256x6 .i32) (q : Fin 6) : FVec F S1x256 .f32 :=
  shapeCast S1x256 (multiReduction .add [0] S256 (select (hitOf ids q) L zeros) 0x00000000#32 reduces_S160x256_S256 (.inl rfl) rfl)
    shapeCasts_S256_S1x256

/-- The largest of the six chosen logits. -/
def maxOf (l : Fin 6 → FVec F S1x256 .f32) : FVec F S1x256 .f32 :=
  maximumf (maximumf (maximumf (maximumf (maximumf (l 0) (l 1)) (l 2)) (l 3)) (l 4)) (l 5)

/-- The sum of six rows, left to right. -/
def sumOf (l : Fin 6 → FVec F S1x256 .f32) : FVec F S1x256 .f32 :=
  addf (addf (addf (addf (addf (l 0) (l 1)) (l 2)) (l 3)) (l 4)) (l 5)

/-- The softmax's numerators. -/
def expOf (l : Fin 6 → FVec F S1x256 .f32) (q : Fin 6) : FVec F S1x256 .f32 := exp (subf (l q) (maxOf l))

/-- The gates: the softmax of the six chosen logits. -/
def gateOf (l : Fin 6 → FVec F S1x256 .f32) (q : Fin 6) : FVec F S1x256 .f32 := divf (expOf l q) (sumOf (expOf l))

/-- The gates' incoming gradient, `q`-th row. -/
def dgOf (dg : Vec F S256x6 .bf16) (q : Fin 6) : FVec F S1x256 .f32 :=
  extractStridedSlice S1x256 ![q.val, 0] (transpose S6x256 [1, 0] (extf .f32 dg bitsLt_bf16_f32) transposes_S256x6_p1_0_S6x256) (slices_six q)

/-- The gradient of the `q`-th chosen logit. -/
def dselOf (g d : Fin 6 → FVec F S1x256 .f32) (q : Fin 6) : FVec F S1x256 .f32 :=
  mulf (g q) (subf (d q) (sumOf fun p => mulf (g p) (d p)))

/-- The `q`-th chosen logit's gradient in the row of its expert, zero elsewhere. -/
def termOf (ids : Vec F S256x6 .i32) (g d : Fin 6 → FVec F S1x256 .f32) (q : Fin 6) : FVec F S160x256 .f32 :=
  select (hitOf ids q) (broadcastTo S160x256 (shapeCast S1x256 (dselOf g d q) shapeCasts_S1x256_S1x256) broadcasts_S1x256_S160x256) zeros

/-- The gradient of the tile's logits, expert by token. -/
def dlT (w : Vec F S160x6144 .bf16) (a : Vec F S6144x256 .bf16) (ids : Vec F S256x6 .i32) (dg : Vec F S256x6 .bf16) : FVec F S160x256 .f32 :=
  let t := termOf ids (gateOf (selOf (logitsOf w a) ids)) (dgOf dg)
  addf (addf (addf (addf (addf (addf zeros (t 0)) (t 1)) (t 2)) (t 3)) (t 4)) (t 5)

/-- The same rounded to bf16, as stored. -/
def dl16T (v : FVec F S160x256 .f32) : FVec F S160x256 .bf16 :=
  shapeCast S160x256 (truncf .bf16 v bitsLt_bf16_f32) shapeCasts_S160x256_S160x256

/-- The same transposed, token by expert, as stored. -/
def dlN (v : FVec F S160x256 .f32) : FVec F S256x160 .f32 :=
  shapeCast S256x160 (transpose S256x160 [1, 0] v transposes_S160x256_p1_0_S256x160) shapeCasts_S256x160_S256x160

/-- The same transposed and rounded to bf16, as stored. -/
def dl16N (v : FVec F S160x256 .f32) : FVec F S256x160 .bf16 :=
  shapeCast S256x160 (truncf .bf16 (transpose S256x160 [1, 0] v transposes_S160x256_p1_0_S256x160) bitsLt_bf16_f32) shapeCasts_S256x160_S256x160

/-! ## The windows of a slab -/

/-- Where slab `j` of the tile's codes begins. -/
def offX (t : Fin k0_t2_loop.trips) (j : ℕ) : Fin 3 → ℕ := ![k0_off7 t 0, 0, 128 * j]
theorem offX_inb (t : Fin k0_t2_loop.trips) (j : ℕ) (hj : j < 48) : ∀ a, offX t j a + S1x256x128.size a ≤ S8x256x6144.size a := by
  intro a
  fin_cases a
  · exact k0_off7_inb t 0
  · exact k0_off7_inb t 1
  · show 128 * j + 128 ≤ 6144
    omega

/-- Where the row of scales of block `(j, b)` begins. -/
def offS (j : ℕ) (b : Fin 4) : Fin 2 → ℕ := ![4 * j + b.val, 0]
theorem offS_inb (j : ℕ) (b : Fin 4) (hj : j < 48) : ∀ a, offS j b a + S1x256.size a ≤ S192x256.size a := by
  intro a
  fin_cases a
  · show 4 * j + b.val + 1 ≤ 192
    omega
  · show 0 + 256 ≤ 256
    omega

/-- Where block `(j, b)` of the activations begins. -/
def offA (t : Fin k0_t2_loop.trips) (j : ℕ) (b : Fin 4) : Fin 2 → ℕ := ![128 * j + 32 * b.val, k0_off8 t 1]
theorem offA_inb (t : Fin k0_t2_loop.trips) (j : ℕ) (b : Fin 4) (hj : j < 48) : ∀ a, offA t j b a + S32x256.size a ≤ S6144x2048.size a := by
  intro a
  fin_cases a
  · show 128 * j + 32 * b.val + 32 ≤ 6144
    omega
  · exact k0_off8_inb t 1
theorem offA_packed (t : Fin k0_t2_loop.trips) (j : ℕ) (b : Fin 4) (hj : j < 48) :
    (Rect.unit (s := S6144x2048) (offA t j b) S32x256.size (offA_inb t j b hj)).PackedRows (EltTy.packing .bf16) := by
  refine .inr ⟨by decide, rfl, .inl ⟨?_, ?_⟩⟩
  · show 2 ∣ 128 * j + 32 * b.val
    omega
  · show 2 ∣ 32
    omega

section Prog
variable (arg8 : Memref sig .tc .vmem S8x256x6144 .fp8e4m3) (arg14 : Memref sig .tc .vmem S192x256 .f32)
  (arg15 : Memref sig .tc .vmem S6144x2048 .bf16) (harg15 : arg15.IsWhole)

/-- Block `(j, b)`: its scales read, the product stored. -/
def blockP (t : Fin k0_t2_loop.trips) (j : ℕ) (hj : j < 48) (v : FVec F S128x256 .bf16) (b : Fin 4) (k : Pgm F) : Pgm F :=
  .op (.load arg14 (Rect.unit (s := S192x256) (offS j b) S1x256.size (offS_inb j b hj)).toLoadRect (View.loadsAt_vmem h_S1x256)) fun s =>
  .op (.load arg15 (Rect.unit (s := S6144x2048) (offA t j b) S32x256.size (offA_inb t j b hj)).toLoadRect (View.loadsAt_vmem h_S32x256)) fun _ =>
  .op (.store arg15 (Rect.unit (s := S6144x2048) (offA t j b) S32x256.size (offA_inb t j b hj)) (blockOf v b s) Finset.univ
    (View.stores_vmem h_S32x256 (harg15.storeExact_slice rfl _ (offA_packed t j b hj)) (fun _ => rfl)) (.inl rfl)) fun _ => k

/-- Slab `j`: its codes read, its four blocks. -/
def slabP (t : Fin k0_t2_loop.trips) (j : ℕ) (hj : j < 48) (k : Pgm F) : Pgm F :=
  .op (.load arg8 (Rect.unit (s := S8x256x6144) (offX t j) S1x256x128.size (offX_inb t j hj)).toLoadRect (View.loadsAt_vmem h_S1x256x128)) fun x =>
  blockP arg14 arg15 harg15 t j hj (slabOf x) 0 <|
  blockP arg14 arg15 harg15 t j hj (slabOf x) 1 <|
  blockP arg14 arg15 harg15 t j hj (slabOf x) 2 <|
  blockP arg14 arg15 harg15 t j hj (slabOf x) 3 k

/-- `n` slabs from slab `j` on. -/
def slabsP (t : Fin k0_t2_loop.trips) : (n j : ℕ) → j + n ≤ 48 → Pgm F → Pgm F
  | 0, _, _, k => k
  | n + 1, j, h, k => slabP arg8 arg14 arg15 harg15 t j (by omega) (slabsP t n (j + 1) (by omega) k)

end Prog

section Tail
variable (arg11 : Memref sig .tc .vmem S2048x6 .i32) (arg12 : Memref sig .tc .vmem S2048x6 .bf16)
  (arg13 : Memref sig .tc .vmem S160x6144 .bf16) (arg15 : Memref sig .tc .vmem S6144x2048 .bf16)
  (arg16 : Memref sig .tc .vmem S160x2048 .bf16) (harg16 : arg16.IsWhole)
  (arg17 : Memref sig .tc .vmem S2048x160 .bf16) (harg17 : arg17.IsWhole)
  (arg18 : Memref sig .tc .vmem S2048x160 .f32)

/-- The tile's softmax backward pass and its three stores. -/
def tailP (t : Fin k0_t2_loop.trips) : Pgm F :=
  .op (.load arg13 (Rect.unit (s := S160x6144) ![0, 0] S160x6144.size inb_S160x6144_S160x6144_0_0).toLoadRect (View.loadsAt_vmem h_S160x6144)) fun w =>
  .op (.load arg15 (Rect.unit (s := S6144x2048) (k0_off247 t) S6144x256.size (k0_off247_inb t)).toLoadRect (View.loadsAt_vmem h_S6144x256)) fun a =>
  .op (.load arg11 (Rect.unit (s := S2048x6) (k0_off248 t) S256x6.size (k0_off248_inb t)).toLoadRect (View.loadsAt_vmem h_S256x6)) fun ids =>
  .op (.load arg12 (Rect.unit (s := S2048x6) (k0_off248 t) S256x6.size (k0_off248_inb t)).toLoadRect (View.loadsAt_vmem h_S256x6)) fun dg =>
  .op (.load arg16 (Rect.unit (s := S160x2048) (k0_off249 t) S160x256.size (k0_off249_inb t)).toLoadRect (View.loadsAt_vmem h_S160x256)) fun _ =>
  .op (.store arg16 (Rect.unit (s := S160x2048) (k0_off249 t) S160x256.size (k0_off249_inb t)) (dl16T (dlT w a ids dg)) Finset.univ
    (View.stores_vmem h_S160x256 (harg16.storeExact_slice rfl _ (k0_off249_packedbf16 t)) (fun _ => rfl)) (.inl rfl)) fun _ =>
  .op (.load arg18 (Rect.unit (s := S2048x160) (k0_off250 t) S256x160.size (k0_off250_inb t)).toLoadRect (View.loadsAt_vmem h_S256x160)) fun _ =>
  .op (.store arg18 (Rect.unit (s := S2048x160) (k0_off250 t) S256x160.size (k0_off250_inb t)) (dlN (dlT w a ids dg)) Finset.univ
    (View.stores_vmem_bits_univ h_S256x160 rfl) (.inl rfl)) fun _ =>
  .op (.load arg17 (Rect.unit (s := S2048x160) (k0_off250 t) S256x160.size (k0_off250_inb t)).toLoadRect (View.loadsAt_vmem h_S256x160)) fun _ =>
  .op (.store arg17 (Rect.unit (s := S2048x160) (k0_off250 t) S256x160.size (k0_off250_inb t)) (dl16N (dlT w a ids dg)) Finset.univ
    (View.stores_vmem h_S256x160 (harg17.storeExact_slice rfl _ (k0_off250_packedbf16 t)) (fun _ => rfl)) (.inl rfl)) fun _ => .ret ⟨⟩

end Tail

/-- The trip's opening: the codes of the tile awaited, its scales rounded and stored, transposed. -/
def headP (arg0 : Memref sig .tc .hbm S2048x6144 .fp8e4m3) (harg0 : arg0.IsWhole) (arg8 : Memref sig .tc .vmem S8x256x6144 .fp8e4m3) (harg8 : arg8.IsWhole)
    (arg9 : Memref sig .tc .vmem S2048x192 .f32) (arg14 : Memref sig .tc .vmem S192x256 .f32) (arg21 : DmaSems sig S8)
    (t : Fin k0_t2_loop.trips) (k : Pgm F) : Pgm F :=
  .op (.waitDma2 ((arg21.slice (Rect.unit (s := S8) (k0_off3 t) S1.size (k0_off3_inb t))).squeeze S_ squeezes_S1_S_).sem
    (arg0.slice (Rect.unit (s := S2048x6144) (k0_off5 t) S256x6144.size (k0_off5_inb t)) (fun _ => rfl))
    ((arg8.slice (Rect.unit (s := S8x256x6144) (k0_off4 t) S1x256x6144.size (k0_off4_inb t)) (fun _ => rfl)).squeeze S256x6144 squeezes_S1x256x6144_S256x6144)
    (harg0.wordExact_slice rfl _ (k0_off5_wordsfp8e4m3 t)) ((harg8.wordExact_slice rfl _ (k0_off4_wordsfp8e4m3 t)).reshape _ _)) fun _ =>
  .op (.load arg9 (Rect.unit (s := S2048x192) (k0_off6 t) S256x192.size (k0_off6_inb t)).toLoadRect (View.loadsAt_vmem h_S256x192)) fun s =>
  .op (.load arg14 (Rect.unit (s := S192x256) ![0, 0] S192x256.size inb_S192x256_S192x256_0_0).toLoadRect (View.loadsAt_vmem h_S192x256)) fun _ =>
  .op (.store arg14 (Rect.unit (s := S192x256) ![0, 0] S192x256.size inb_S192x256_S192x256_0_0) (scalesOf s) Finset.univ
    (View.stores_vmem_bits_univ h_S192x256 rfl) (.inl rfl)) fun _ => k

/-- THE PRINTED TRIP is the opening, the 48 slabs and the closing stretch. -/
theorem trip_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)
    (c0_i32_38 : BitVec 32) (c1_i32_39 : BitVec 32) (t : Fin k0_t2_loop.trips) (u : Unit) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 c0_i32_38 c1_i32_39 t u
      = headP arg0 harg0 arg8 harg8 arg9 arg14 arg21 t
          (slabsP arg8 arg14 arg15 harg15 t 48 0 (by omega) (tailP arg11 arg12 arg13 arg15 arg16 harg16 arg17 harg17 arg18 t)) := by
  sl_kernel_rfl

end Cert.Kernel.Steps

end
-- ==== Proof.Own.lean ====
/- Part of a buffer held at named values.

   `At c m D T` says that the thread `c` holds the elements of memref `m` at the multi-indices `D`, and that they hold
   the values of `T` there. Loads, stores and transfers of whole slices are stated over it, so that a proof speaks of
   vectors and of sets of indices only. -/
module

public import Idealize.ShloMosaic.Lib.Transfers
public import Idealize.ShloMosaic.Lib.VecWindow
public import Idealize.ShloMosaic.Lib.Tactic

@[expose] public section

noncomputable section

namespace Own

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix] {Val : EltTy → Type} [∀ e, Nonempty (Val e)]
variable {Name : Type} [DecidableEq Name] {U : Type} [URA U] {Lvl : Type}
variable {sp : Space} {cs : CoreSpace} {s s' : Shape} {e : EltTy}

local notation "𝕄" => MT nD τ sig Ix Val Name U Lvl

/-- The elements of `m` at the indices `D`, holding `T`. -/
def At (c : Thread nD τ) (m : Memref sig c.2.kind sp s e) (D : Finset s.Idx) (T : s.Idx → Val e) : sProp 𝕄 :=
  m.view.loc c ↦[m.view.setOn D]{fullShare} m.view.rep T

/-- The elements of a view, holding `X`. -/
def Hold (c : Thread nD τ) (v : View sig c.2.kind sp s e) (X : s.Idx → Val e) : sProp 𝕄 :=
  v.loc c ↦[v.set]{fullShare} v.rep X

/-- Values off the held indices do not matter. -/
theorem At_congr (c : Thread nD τ) (m : Memref sig c.2.kind sp s e) {D : Finset s.Idx} {T T' : s.Idx → Val e} (h : ∀ y ∈ D, T y = T' y) :
    (At c m D T : sProp 𝕄) = At c m D T' :=
  pointsTo_congr fun i hi => by
    obtain ⟨x, hx, rfl⟩ := Finset.mem_map.mp hi
    rw [View.rep_emb, View.rep_emb, h x hx]

/-- Contents `f` held on a view's indices, by the values read. -/
theorem of_pointsTo (c : Thread nD τ) (m : Memref sig c.2.kind sp s e) (D : Finset s.Idx) (f : Buf Val (m.view.loc c)) :
    (m.view.loc c ↦[m.view.setOn D]{fullShare} f : sProp 𝕄) = At c m D (m.view.read Val f) :=
  pointsTo_congr fun i hi => by
    obtain ⟨x, hx, rfl⟩ := Finset.mem_map.mp hi
    rw [View.rep_emb, View.read_apply, cast_cast, cast_eq]

theorem hold_of_pointsTo (c : Thread nD τ) (v : View sig c.2.kind sp s e) (f : Buf Val (v.loc c)) :
    (v.loc c ↦[v.set]{fullShare} f : sProp 𝕄) = Hold c v (v.read Val f) :=
  pointsTo_congr fun i hi => by
    obtain ⟨x, hx, rfl⟩ := Finset.mem_map.mp hi
    rw [View.rep_emb, View.read_apply, cast_cast, cast_eq]

/-- A memref held at all its indices is its view held. -/
theorem At_univ (c : Thread nD τ) (m : Memref sig c.2.kind sp s e) (T : s.Idx → Val e) :
    (At c m Finset.univ T : sProp 𝕄) = Hold c m.view T := rfl

/-- A rectangle of a view, held: the rectangle's indices of the memref. -/
theorem hold_slice (c : Thread nD τ) (m : Memref sig c.2.kind sp s e) (r : Rect s) (T : s.Idx → Val e) :
    (Hold c (m.view.slice r) (fun y => T (r.emb y)) : sProp 𝕄) = At c m r.set T := by
  show (m.view.loc c ↦[(m.view.slice r).set]{fullShare} (m.view.slice r).rep _ : sProp 𝕄) = _
  rw [View.set_slice]
  refine pointsTo_congr fun i hi => ?_
  obtain ⟨x, hx, rfl⟩ := Finset.mem_map.mp hi
  obtain ⟨z, -, rfl⟩ := Finset.mem_map.mp ((Rect.map_emb_univ r).symm ▸ hx)
  rw [View.rep_emb]
  exact (m.view.slice r).rep_emb (fun y => T (r.emb y)) z

/-- A view under another shape, held: the same. -/
theorem hold_reshape (c : Thread nD τ) (v : View sig c.2.kind sp s e) (h : s'.numel = s.numel) (X : s.Idx → Val e) :
    (Hold c (v.reshape s' h) (fun y => X (Shape.reshapeEquiv h y)) : sProp 𝕄) = Hold c v X := by
  show (v.loc c ↦[(v.reshape s' h).set]{fullShare} (v.reshape s' h).rep _ : sProp 𝕄) = _
  rw [View.set_reshape]
  refine pointsTo_congr fun i hi => ?_
  obtain ⟨x, -, rfl⟩ := Finset.mem_map.mp hi
  rw [View.rep_emb]
  have := (v.reshape s' h).rep_emb (fun y => X (Shape.reshapeEquiv h y)) ((Shape.reshapeEquiv h).symm x)
  simpa using this

/-- A rectangle of a memref with its unit axes dropped, held. -/
theorem hold_squeeze (c : Thread nD τ) (m : Memref sig c.2.kind sp s e) (r : Rect s) (h : s'.numel = r.shape.numel) (T : s.Idx → Val e) :
    (Hold c ((m.view.slice r).reshape s' h) (fun y => T (r.emb (Shape.reshapeEquiv h y))) : sProp 𝕄) = At c m r.set T := by
  rw [← hold_slice]
  exact hold_reshape c (m.view.slice r) h (fun y => T (r.emb y))

/-- Two disjoint parts at two contents are their union at some contents. -/
theorem At_join (c : Thread nD τ) (m : Memref sig c.2.kind sp s e) {D D' : Finset s.Idx} (hd : Disjoint D D') (T T' : s.Idx → Val e) :
    iprop(At c m D T ∗ At c m D' T') ⊢ (iprop(∃ Y, At c m (D ∪ D') Y) : sProp 𝕄) := by
  have hd' : Disjoint (m.view.setOn D) (m.view.setOn D') := (Finset.disjoint_map m.view.emb).mpr hd
  refine (pointsTo_join hd').trans ?_
  rw [show m.view.setOn D ∪ m.view.setOn D' = m.view.setOn (D ∪ D') from (Finset.map_union _ _).symm, of_pointsTo]
  iintro H
  iexists _
  iexact H

/-- Two disjoint parts of one content. -/
theorem At_union (c : Thread nD τ) (m : Memref sig c.2.kind sp s e) {D D' : Finset s.Idx} (hd : Disjoint D D') (T : s.Idx → Val e) :
    At c m (D ∪ D') T ⊢ (iprop(At c m D T ∗ At c m D' T) : sProp 𝕄) := by
  have hd' : Disjoint (m.view.setOn D) (m.view.setOn D') := (Finset.disjoint_map m.view.emb).mpr hd
  unfold At
  rw [show m.view.setOn (D ∪ D') = m.view.setOn D ∪ m.view.setOn D' from Finset.map_union _ _]
  exact (pointsTo_union hd').1

/-- The indices split into disjoint blocks. -/
theorem At_split {T : Type} [Fintype T] [DecidableEq T] (c : Thread nD τ) (m : Memref sig c.2.kind sp s e) (K : T → Finset s.Idx)
    (hd : ∀ t t', t ≠ t' → Disjoint (K t) (K t')) (hc : ∀ y, ∃ t, y ∈ K t) (X : s.Idx → Val e) :
    (At c m Finset.univ X : sProp 𝕄) = bigSep Finset.univ fun t => At c m (K t) X := by
  classical
  rw [show (At c m Finset.univ X : sProp 𝕄) = m.view.loc c ↦[Finset.univ.biUnion fun t => m.view.setOn (K t)]{fullShare} m.view.rep X from ?_]
  · exact pointsTo_biUnion _ _ fun t _ t' _ h => by
      exact (Finset.disjoint_map m.view.emb).mpr (hd t t' h)
  · unfold At
    congr 1
    ext i
    simp only [View.setOn, Finset.mem_map, Finset.mem_biUnion]
    constructor
    · rintro ⟨y, -, rfl⟩
      obtain ⟨t, ht⟩ := hc y
      exact ⟨t, Finset.mem_univ _, y, ht, rfl⟩
    · rintro ⟨t, -, y, -, rfl⟩
      exact ⟨y, Finset.mem_univ _, rfl⟩

/-- A store that writes a window of the target, over values that agree with it elsewhere where they are asked to. -/
theorem put_done {α : Type} {s : Shape} {X T : s.Idx → α} {off size : Fin s.rank → ℕ} {inb : ∀ a, off a + size a ≤ s.size a}
    {w : (Rect.unit off size inb).shape.Idx → α} (hw : ∀ z, w z = T ((Rect.unit off size inb).emb z)) (y : s.Idx)
    (hy : (∀ a, off a ≤ (y a).val ∧ (y a).val < off a + size a) ∨ X y = T y) : VecWindow.put X off size w y = T y := by
  unfold VecWindow.put
  split
  · rename_i h
    refine (hw _).trans (congrArg T (funext fun a => Fin.ext ?_))
    show off a + 1 * ((y a).val - off a) = (y a).val
    have := (h a).1
    omega
  · rename_i h
    exact hy.resolve_left h

/-- Windows at equal offsets. -/
theorem window_congr {α : Type} {s : Shape} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

section Ops

variable {Λ : Labels} [Preorder Lvl] {defs : Defs nD τ sig Val Λ} (𝒱 : Variants) (c : Thread nD τ) (bd : Option 𝒱.V)
variable {α : Type} {Q : α → sProp (MT nD τ sig Ix Val Name U Lvl)}

/-- A load at a rectangle inside the held indices. -/
theorem wp_load {m : Memref sig c.2.kind cs s e} {D : Finset s.Idx} {T : s.Idx → Val e} {off size : Fin s.rank → ℕ}
    {inb : ∀ a, off a + size a ≤ s.size a} {hl} {k : ((Rect.unit off size inb).toLoadRect.shape.Idx → Val e) → Prog (TpuEff nD τ sig Val Λ c.2) α}
    (hD : (Rect.unit off size inb).set ⊆ D) :
    (At c m D T : sProp 𝕄) ⊢ iprop((At c m D T -∗ wp frame (wpE defs 𝒱 c bd) Set.univ (k (VecWindow.window T off size inb)) Q)
      -∗ wp frame (wpE defs 𝒱 c bd) Set.univ (.op (.load m (Rect.unit off size inb).toLoadRect hl) k) Q) := by
  have h := Idealize.ShloMosaic.wp_load (Γ := .empty) (U := U) (Lvl := Lvl) (Ix := Ix) (Name := Name) (defs := defs) (Q := Q) 𝒱 c bd Set.univ (m := m) (r := (Rect.unit off size inb).toLoadRect) (hl := hl) (k := k)
    (S := m.view.setOn D) (q := fullShare) (f := m.view.rep T)
    (Finset.map_subset_map.mpr (by first | exact hD | (rw [show (Rect.unit off size inb).toLoadRect.set = (Rect.unit off size inb).set from by first | rfl | simp]; exact hD)))
  rw [View.readAt_rep_unit m.view T inb rfl inb] at h
  exact h

/-- A load of all of a memref. -/
theorem wp_load_full {m : Memref sig c.2.kind cs s e} {T : s.Idx → Val e} {off : Fin s.rank → ℕ}
    {inb : ∀ a, off a + s.size a ≤ s.size a} {hl} {k : ((Rect.unit off s.size inb).toLoadRect.shape.Idx → Val e) → Prog (TpuEff nD τ sig Val Λ c.2) α} :
    (At c m Finset.univ T : sProp 𝕄) ⊢ iprop((At c m Finset.univ T -∗ wp frame (wpE defs 𝒱 c bd) Set.univ (k T) Q)
      -∗ wp frame (wpE defs 𝒱 c bd) Set.univ (.op (.load m (Rect.unit off s.size inb).toLoadRect hl) k) Q) := by
  have h := wp_load (U := U) (Lvl := Lvl) (Ix := Ix) (Name := Name) (defs := defs) (Q := Q) 𝒱 c bd (m := m) (D := Finset.univ) (T := T) (hl := hl) (k := k) (Finset.subset_univ _)
  have hw : VecWindow.window T off s.size inb = T := by
    have := View.readAt_rep_full m.view T inb
    rwa [View.readAt_rep_unit m.view T inb rfl inb] at this
  rw [hw] at h
  exact h

/-- An unmasked store at a rectangle inside the held indices. -/
theorem wp_store {m : Memref sig c.2.kind cs s e} {D : Finset s.Idx} {T : s.Idx → Val e} {off size : Fin s.rank → ℕ}
    {inb : ∀ a, off a + size a ≤ s.size a} {w : (Rect.unit off size inb).shape.Idx → Val e} {hx hm} {k : PUnit → Prog (TpuEff nD τ sig Val Λ c.2) α}
    (hD : (Rect.unit off size inb).set ⊆ D) :
    (At c m D T : sProp 𝕄) ⊢ iprop((At c m D (VecWindow.put T off size w) -∗ wp frame (wpE defs 𝒱 c bd) Set.univ (k ⟨⟩) Q)
      -∗ wp frame (wpE defs 𝒱 c bd) Set.univ (.op (.store m (Rect.unit off size inb) w Finset.univ hx hm) k) Q) := by
  have h := wp_store_writes₀ (U := U) (Lvl := Lvl) (Ix := Ix) (Name := Name) (defs := defs) (Q := Q) 𝒱 c bd Set.univ (m := m) (r := Rect.unit off size inb) (w := w) (hx := hx) (hm := hm) (k := k)
    (S := m.view.setOn D) (f := m.view.rep T)
    (by rw [show (m.access (Rect.unit off size inb)).set = m.view.setOn (Rect.unit off size inb).set from View.set_slice _ _]; exact Finset.map_subset_map.mpr hD)
  have e := of_pointsTo (Ix := Ix) (Name := Name) (U := U) (Lvl := Lvl) c m D (m.view.writes Val (m.view.rep T) [⟨Rect.unit off size inb, w⟩])
  rw [View.read_writes_rep_unit m.view T inb w rfl] at e
  rw [← e]
  exact h

/-- A local transfer between two views of one shape: in flight, it owes both back, the destination at the source's values. -/
theorem wp_dma (EC : UEmb Counters 𝕄) [Infinite Name] [EC.LandsIn (upEmb : UEmb _ 𝕄)] {sp' : Space}
    {src : Memref sig c.2.kind sp s e} {dst : Memref sig c.2.kind sp' s e} {sm : DmaSem sig} {hsrc : src.view.WordExact} {hdst : dst.view.WordExact}
    {hsem : DmaTarget.Typed (nD := nD) sp (.dma sm) (.here dst)} {k : PUnit → Prog (TpuEff nD τ sig Val Λ c.2) α}
    (ι : Ix) (N : ℕ) (hN : dst.view.dmaCredit = N) (h0 : 0 < N) (X Y : s.Idx → Val e) (D : sProp 𝕄)
    (hdel : iprop(Hold c dst.view X ∗ Hold c src.view X) ⊢ D) :
    iprop(Hold c src.view X ∗ Hold c dst.view Y ∗ semVal (c, .dma sm) 0)
      ⊢ iprop((Flight EC c (.dma sm) ι N D -∗ wp frame (wpE defs 𝒱 c bd) Set.univ (k ⟨⟩) Q)
          -∗ wp frame (wpE defs 𝒱 c bd) Set.univ (.op (.enqueueDma src (.here dst) (.dma sm) hsrc hdst hsem) k) Q) := by
  have h := wp_dmaLocal (U := U) (Lvl := Lvl) (Ix := Ix) (Name := Name) (defs := defs) (Q := Q) EC 𝒱 c bd (src := src) (via := ReadAs.same) (dst := dst) (sm := .dma sm)
    (hsrc := hsrc) (hdst := hdst) (hsem := hsem) (k := k) (q := fullShare) (fs := src.view.rep X) (Sd := dst.view.set) (fd := dst.view.rep Y)
    ι N hN h0 (Finset.Subset.refl _)
  refine h.trans ?_
  iintro H HF
  iapply H
  iintro HFl
  iapply HF
  iapply (Flight_mono (c := c) EC (D := iprop((dst.view.loc c ↦[dst.view.set]{fullShare} (dst.view.write Val (dst.view.rep Y) (ReadAs.same.apply (src.view.read Val (src.view.rep X))) Finset.univ)) ∗ (src.view.loc c ↦[src.view.set]{fullShare} src.view.rep X))) ?_) $$ HFl
  refine Entails.trans ?_ hdel
  refine sep_mono ?_ Entails.refl
  rw [View.read_rep, hold_of_pointsTo]
  rw [show dst.view.read Val (dst.view.write Val (dst.view.rep Y) (ReadAs.same.apply X) Finset.univ) = X from ?_]
  rw [show (ReadAs.same (Val := Val)).apply X = X from rfl]
  exact View.read_write_univ _ _

/-- The wait for a transfer in flight. -/
theorem wp_wait (EC : UEmb Counters 𝕄) [EC.LandsIn (upEmb : UEmb _ 𝕄)] {κ' : Kind} {sp' : Space} {e' : EltTy} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄} :
    iprop(Flight EC c (.dma sem) ι N D ∗ ∃ W, owes c 0 W)
      ⊢ iprop((iprop(D ∗ semVal (c, .dma sem) 0 ∗ ∃ W, owes c 0 W) -∗ wp frame (wpE defs 𝒱 c bd) Set.univ (k ⟨⟩) Q)
          -∗ wp frame (wpE defs 𝒱 c bd) Set.univ (.op (.waitDma2 sem srcw dstw hsrc hdst) k) Q) := by
  iintro ⟨HF, ⟨%W, HW⟩⟩ HK
  iapply (wp_waitLocal EC 𝒱 c bd ι hN) $$ [HF HW]
  · isplitl [HF] <;> iassumption
  iintro ⟨HD, Hv, HW⟩
  iapply HK
  isplitl [HD]; · iexact HD
  isplitl [Hv]; · iexact Hv
  iexists _
  iexact HW

end Ops

end Own

end
-- ==== Proof.K.Values.lean ====
/- What every buffer of the kernel holds when its loop has passed, as functions of the five arguments.

   `X` the codes, `Sc` the scales, `W` the weight, `I` the chosen experts, `G` the gates' gradient. -/
module

public import proofs.«01_k».proof.Proof.K.Steps
public import proofs.«01_k».proof.Proof.Own
public import Idealize.ShloMosaic.Lib.Pointwise
public import Idealize.ShloMosaic.Lib.ValueLayout

@[expose] public section

set_option maxRecDepth 16384

noncomputable section

namespace Cert.Kernel.Values

open Idealize.ShloMosaic Idealize.ShloMosaic.TcCoe Idealize.ShloMosaic.Tactic
open Idealize.SL Idealize.SL.Sem
open Cert.Kernel.Gen Cert.Kernel.Steps

variable {F : FTy → Type} [FloatOps F]

/-- The codes, tile by tile. -/
def x8T (X : Vec F S2048x6144 .fp8e4m3) : Vec F S8x256x6144 .fp8e4m3 :=
  fun y => X (ix2 (⟨256 * (y 0).val + (y 1).val, by have := (y 0).isLt; have := (y 1).isLt; change _ < 8 at *; change (y 1).val < 256 at *; omega⟩ : Fin 2048) (⟨(y 2).val, (y 2).isLt⟩ : Fin 6144))

/-- The weight transposed. -/
def wtT (W : Vec F S6144x160 .bf16) : Vec F S160x6144 .bf16 :=
  fun y => W (ix2 (⟨(y 1).val, (y 1).isLt⟩ : Fin 6144) (⟨(y 0).val, (y 0).isLt⟩ : Fin 160))

/-- The activations: every code times its block's scale, both in bf16; feature by token. -/
def aT (X : Vec F S2048x6144 .fp8e4m3) (Sc : Vec F S2048x192 .f32) : FVec F S6144x2048 .bf16 :=
  mulf (extf .bf16 (fun y => X (ix2 (⟨(y 1).val, (y 1).isLt⟩ : Fin 2048) (⟨(y 0).val, (y 0).isLt⟩ : Fin 6144)) : FVec F S6144x2048 .fp8e4m3) bitsLt_fp8e4m3_bf16)
    (truncf .bf16 (extf .f32 (truncf .bf16 (fun y => Sc (ix2 (⟨(y 1).val, (y 1).isLt⟩ : Fin 2048)
      (⟨(y 0).val / 32, by have := (y 0).isLt; change (y 0).val < 6144 at this; omega⟩ : Fin 192)) : FVec F S6144x2048 .f32) bitsLt_bf16_f32) bitsLt_bf16_f32) bitsLt_bf16_f32)

/-- The scales of tile `t`. -/
def tileS (Sc : Vec F S2048x192 .f32) (t : Fin 8) : Vec F S256x192 .f32 :=
  fun y => Sc (ix2 (⟨256 * t.val + (y 0).val, by have := (y 0).isLt; change (y 0).val < 256 at this; omega⟩ : Fin 2048) (⟨(y 1).val, (y 1).isLt⟩ : Fin 192))

/-- Tile `t` of an array of rows of six. -/
def tile6 {α : Type} (I : S2048x6.Idx → α) (t : Fin 8) : S256x6.Idx → α :=
  fun y => I (ix2 (⟨256 * t.val + (y 0).val, by have := (y 0).isLt; change (y 0).val < 256 at this; omega⟩ : Fin 2048) (⟨(y 1).val, (y 1).isLt⟩ : Fin 6))

/-- Tile `t` of the activations. -/
def tileA (A : FVec F S6144x2048 .bf16) (t : Fin 8) : FVec F S6144x256 .bf16 :=
  fun y => A (ix2 (⟨(y 0).val, (y 0).isLt⟩ : Fin 6144) (⟨256 * t.val + (y 1).val, by have := (y 1).isLt; change (y 1).val < 256 at this; omega⟩ : Fin 2048))

/-- The gradient of the logits of tile `t`, expert by token. -/
def tileD (X : Vec F S2048x6144 .fp8e4m3) (Sc : Vec F S2048x192 .f32) (W : Vec F S6144x160 .bf16) (I : Vec F S2048x6 .i32) (G : Vec F S2048x6 .bf16)
    (t : Fin 8) : FVec F S160x256 .f32 :=
  dlT (wtT W) (tileA (aT X Sc) t) (tile6 I t) (tile6 G t)

/-- The tile of a token, -/
def tileOf (n : Fin 2048) : Fin 8 := ⟨n.val / 256, by omega⟩
/-- and its place there. -/
def tokOf (n : Fin 2048) : Fin 256 := ⟨n.val % 256, by omega⟩

/-- The gradient of the logits rounded to bf16, expert by token. -/
def d16T (D : Fin 8 → FVec F S160x256 .f32) : FVec F S160x2048 .bf16 :=
  fun y => dl16T (D (tileOf ⟨(y 1).val, (y 1).isLt⟩)) (ix2 (⟨(y 0).val, (y 0).isLt⟩ : Fin 160) (tokOf ⟨(y 1).val, (y 1).isLt⟩))

/-- The gradient of the logits, token by expert. -/
def dlogT (D : Fin 8 → FVec F S160x256 .f32) : FVec F S2048x160 .f32 :=
  fun y => dlN (D (tileOf ⟨(y 0).val, (y 0).isLt⟩)) (ix2 (tokOf ⟨(y 0).val, (y 0).isLt⟩) (⟨(y 1).val, (y 1).isLt⟩ : Fin 160))

/-- The same rounded to bf16. -/
def dl16 (D : Fin 8 → FVec F S160x256 .f32) : FVec F S2048x160 .bf16 :=
  fun y => dl16N (D (tileOf ⟨(y 0).val, (y 0).isLt⟩)) (ix2 (tokOf ⟨(y 0).val, (y 0).isLt⟩) (⟨(y 1).val, (y 1).isLt⟩ : Fin 160))

/-- Chunk `c` of 512 columns of the transposed weight, -/
def chunkW (Wt : Vec F S160x6144 .bf16) (c : Fin 12) : Vec F S160x512 .bf16 :=
  fun y => Wt (ix2 (⟨(y 0).val, (y 0).isLt⟩ : Fin 160) (⟨512 * c.val + (y 1).val, by have := (y 1).isLt; change (y 1).val < 512 at this; omega⟩ : Fin 6144))
/-- and of 512 rows of the activations. -/
def chunkA (A : FVec F S6144x2048 .bf16) (c : Fin 12) : FVec F S512x2048 .bf16 :=
  fun y => A (ix2 (⟨512 * c.val + (y 0).val, by have := (y 0).isLt; change (y 0).val < 512 at this; omega⟩ : Fin 6144) (⟨(y 1).val, (y 1).isLt⟩ : Fin 2048))

/-- The chunk of a feature, -/
def chunkOf (d : Fin 6144) : Fin 12 := ⟨d.val / 512, by omega⟩
/-- and its place there. -/
def featOf (d : Fin 6144) : Fin 512 := ⟨d.val % 512, by omega⟩

/-- The gradient of the activations. -/
def dxT (L : FVec F S2048x160 .bf16) (Wt : Vec F S160x6144 .bf16) : FVec F S2048x6144 .bf16 :=
  fun y => k0_pay313 L (chunkW Wt (chunkOf ⟨(y 1).val, (y 1).isLt⟩)) (ix3 (0 : Fin 1) (⟨(y 0).val, (y 0).isLt⟩ : Fin 2048) (featOf ⟨(y 1).val, (y 1).isLt⟩))

/-- The gradient of the weight. -/
def dwT (L : FVec F S160x2048 .bf16) (A : FVec F S6144x2048 .bf16) : FVec F S6144x160 .f32 :=
  fun y => k0_pay314 L (chunkA A (chunkOf ⟨(y 0).val, (y 0).isLt⟩)) (ix3 (0 : Fin 1) (featOf ⟨(y 0).val, (y 0).isLt⟩) (⟨(y 1).val, (y 1).isLt⟩ : Fin 160))

/-! ## The windows the loops read and write -/

section Windows
variable (t : Fin k0_t2_loop.trips) (c : Fin k0_t3_loop.trips)

theorem t2_lt : t.val < 8 := lt_of_lt_of_le t.isLt k0_t2_abs.2.1
theorem t3_lt : c.val < 12 := lt_of_lt_of_le c.isLt k0_t3_abs.2.1
/-- A trip's number. -/
abbrev tn : Fin 8 := ⟨t.val, t2_lt t⟩
abbrev cn : Fin 12 := ⟨c.val, t3_lt c⟩

theorem val_unit {s : Shape} {off off' size : Fin s.rank → ℕ} (h : off = off') {inb : ∀ a, off a + size a ≤ s.size a} (y : (Rect.unit off size inb).shape.Idx) (a) :
    ((Rect.unit off size inb).emb y a).val = off' a + 1 * (y a).val := by subst h; rfl

theorem window_s (Sc : Vec F S2048x192 .f32) : VecWindow.window Sc (k0_off6 t) S256x192.size (k0_off6_inb t) = tileS Sc (tn t) := by
  have h := k0_off6_eq t
  funext y
  refine congrArg Sc (funext fun a => Fin.ext ?_)
  refine (val_unit h y a).trans ?_
  fin_cases a
  · show 256 * t.val + 1 * (y 0).val = 256 * t.val + (y 0).val
    omega
  · show 0 + 1 * (y 1).val = (y 1).val
    omega

theorem window_6 {α : Type} (I : S2048x6.Idx → α) : VecWindow.window I (k0_off248 t) S256x6.size (k0_off248_inb t) = tile6 I (tn t) := by
  have h := k0_off248_eq t
  funext y
  refine congrArg I (funext fun a => Fin.ext ?_)
  refine (val_unit h y a).trans ?_
  fin_cases a
  · show 256 * t.val + 1 * (y 0).val = 256 * t.val + (y 0).val
    omega
  · show 0 + 1 * (y 1).val = (y 1).val
    omega

theorem window_w (Wt : Vec F S160x6144 .bf16) : VecWindow.window Wt (k0_off256 c) S160x512.size (k0_off256_inb c) = chunkW Wt (cn c) := by
  have h := k0_off256_eq c
  funext y
  refine congrArg Wt (funext fun a => Fin.ext ?_)
  refine (val_unit h y a).trans ?_
  fin_cases a
  · show 0 + 1 * (y 0).val = (y 0).val
    omega
  · show 512 * c.val + 1 * (y 1).val = 512 * c.val + (y 1).val
    omega

theorem window_ac (A : FVec F S6144x2048 .bf16) : VecWindow.window A (k0_off258 c) S512x2048.size (k0_off258_inb c) = chunkA A (cn c) := by
  have h := k0_off258_eq c
  funext y
  refine congrArg A (funext fun a => Fin.ext ?_)
  refine (val_unit h y a).trans ?_
  fin_cases a
  · show 512 * c.val + 1 * (y 0).val = 512 * c.val + (y 0).val
    omega
  · show 0 + 1 * (y 1).val = (y 1).val
    omega

/-- The tile's columns, where the buffer agrees with the activations there. -/
theorem window_a (A Y : FVec F S6144x2048 .bf16) (hY : ∀ y : S6144x2048.Idx, (y 1).val < 256 * t.val + 256 → Y y = A y) :
    VecWindow.window Y (k0_off247 t) S6144x256.size (k0_off247_inb t) = tileA A (tn t) := by
  have h := k0_off247_eq t
  funext y
  have e : (Rect.unit (s := S6144x2048) (k0_off247 t) S6144x256.size (k0_off247_inb t)).emb y
      = ix2 (⟨(y 0).val, (y 0).isLt⟩ : Fin 6144) (⟨256 * t.val + (y 1).val, by have := (y 1).isLt; have := t2_lt t; change (y 1).val < 256 at *; omega⟩ : Fin 2048) :=
    funext fun a => Fin.ext (by
      refine (val_unit h y a).trans ?_
      fin_cases a
      · show 0 + 1 * (y 0).val = (y 0).val
        omega
      · show 256 * t.val + 1 * (y 1).val = 256 * t.val + (y 1).val
        omega)
  show Y _ = A _
  rw [e]
  exact hY _ (by show 256 * t.val + (y 1).val < _; have := (y 1).isLt; change (y 1).val < 256 at this; omega)

theorem block_apply (x : Vec F S1x256x128 .fp8e4m3) (b : Fin 4) (s : Vec F S1x256 .f32) (i : Fin 32) (q : Fin 256)
    (X : Vec F S2048x6144 .fp8e4m3) (Sc : Vec F S2048x192 .f32) (d : Fin 6144) (n : Fin 2048)
    (hx : x (ix3 (0 : Fin 1) q (⟨32 * b.val + i.val, by omega⟩ : Fin 128)) = X (ix2 n d))
    (hs : s (ix2 (0 : Fin 1) q) = FloatOps.extf .f32 bitsLt_bf16_f32 (FloatOps.truncf .bf16 bitsLt_bf16_f32 (Sc (ix2 n (⟨d.val / 32, by omega⟩ : Fin 192))))) :
    blockOf (slabOf x) b s (ix2 i q) = aT X Sc (ix2 d n) := by
  pointwise [blockOf, slabOf, aT]
  rw [hx, hs]

theorem scales_apply (s : Vec F S256x192 .f32) (k : Fin 192) (q : Fin 256) :
    scalesOf s (ix2 k q) = FloatOps.extf .f32 bitsLt_bf16_f32 (FloatOps.truncf .bf16 bitsLt_bf16_f32 (s (ix2 q k))) := by
  pointwise [scalesOf]

/-- Block `(j, b)` of the tile is a window of the activations. -/
theorem block_eq (X : Vec F S2048x6144 .fp8e4m3) (Sc : Vec F S2048x192 .f32) (j : ℕ) (hj : j < 48) (b : Fin 4)
    (z : (Rect.unit (s := S6144x2048) (offA t j b) S32x256.size (offA_inb t j b hj)).shape.Idx) :
    blockOf (slabOf (VecWindow.window (x8T X) (offX t j) S1x256x128.size (offX_inb t j hj))) b
        (VecWindow.window (scalesOf (tileS Sc (tn t))) (offS j b) S1x256.size (offS_inb j b hj)) z
      = aT X Sc ((Rect.unit (s := S6144x2048) (offA t j b) S32x256.size (offA_inb t j b hj)).emb z) := by
  have ht := t2_lt t
  have h7 : k0_off7 t 0 = t.val := congrFun (k0_off7_eq t) 0
  have h8 : k0_off8 t 1 = 256 * t.val := congrFun (k0_off8_eq t) 1
  obtain ⟨i, q, rfl⟩ : ∃ (i : Fin 32) (q : Fin 256), z = ix2 i q := ⟨z 0, z 1, eq_ix2 (n0 := 32) (n1 := 256) z⟩
  have e : (Rect.unit (s := S6144x2048) (offA t j b) S32x256.size (offA_inb t j b hj)).emb (ix2 i q)
      = ix2 (⟨128 * j + 32 * b.val + i.val, by omega⟩ : Fin 6144) (⟨256 * t.val + q.val, by omega⟩ : Fin 2048) :=
    funext fun a => Fin.ext (by
      refine (val_unit rfl _ a).trans ?_
      fin_cases a
      · show 128 * j + 32 * b.val + 1 * i.val = 128 * j + 32 * b.val + i.val
        omega
      · show k0_off8 t 1 + 1 * q.val = 256 * t.val + q.val
        omega)
  rw [e]
  refine block_apply _ b _ i q X Sc _ _ ?_ ?_
  · refine congrArg X (funext fun a => Fin.ext ?_)
    fin_cases a
    · show 256 * (k0_off7 t 0 + 1 * 0) + (0 + 1 * q.val) = 256 * t.val + q.val
      omega
    · show 128 * j + 1 * (32 * b.val + i.val) = 128 * j + 32 * b.val + i.val
      omega
  · have e' : (Rect.unit (s := S192x256) (offS j b) S1x256.size (offS_inb j b hj)).emb (ix2 (0 : Fin 1) q) = ix2 (⟨4 * j + b.val, by omega⟩ : Fin 192) q :=
      funext fun a => Fin.ext (by
        refine (val_unit rfl _ a).trans ?_
        fin_cases a
        · show 4 * j + b.val + 1 * 0 = 4 * j + b.val
          omega
        · show 0 + 1 * q.val = q.val
          omega)
    show scalesOf _ _ = _
    rw [e', scales_apply]
    refine congrArg (fun r => FloatOps.extf .f32 bitsLt_bf16_f32 (FloatOps.truncf .bf16 bitsLt_bf16_f32 (Sc r))) (funext fun a => Fin.ext ?_)
    fin_cases a
    · rfl
    · show 4 * j + b.val = (128 * j + 32 * b.val + i.val) / 32
      omega

variable (D : Fin 8 → FVec F S160x256 .f32)

theorem store_d16T (z : (Rect.unit (s := S160x2048) (k0_off249 t) S160x256.size (k0_off249_inb t)).shape.Idx) :
    dl16T (D (tn t)) z = d16T D ((Rect.unit (s := S160x2048) (k0_off249 t) S160x256.size (k0_off249_inb t)).emb z) := by
  have ht := t2_lt t
  have h := k0_off249_eq t
  obtain ⟨i, q, rfl⟩ : ∃ (i : Fin 160) (q : Fin 256), z = ix2 i q := ⟨z 0, z 1, eq_ix2 (n0 := 160) (n1 := 256) z⟩
  have e : (Rect.unit (s := S160x2048) (k0_off249 t) S160x256.size (k0_off249_inb t)).emb (ix2 i q) = ix2 i (⟨256 * t.val + q.val, by omega⟩ : Fin 2048) :=
    funext fun a => Fin.ext (by
      refine (val_unit h _ a).trans ?_
      fin_cases a
      · show 0 + 1 * i.val = i.val
        omega
      · show 256 * t.val + 1 * q.val = 256 * t.val + q.val
        omega)
  rw [e]
  show _ = dl16T (D (tileOf (⟨256 * t.val + q.val, _⟩ : Fin 2048))) (ix2 i (tokOf (⟨256 * t.val + q.val, _⟩ : Fin 2048)))
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem emb_250 (q : Fin 256) (i : Fin 160) : (Rect.unit (s := S2048x160) (k0_off250 t) S256x160.size (k0_off250_inb t)).emb (ix2 q i)
    = ix2 (⟨256 * t.val + q.val, by have := t2_lt t; omega⟩ : Fin 2048) i :=
  funext fun a => Fin.ext (by
    refine (val_unit (k0_off250_eq t) _ a).trans ?_
    fin_cases a
    · show 256 * t.val + 1 * q.val = 256 * t.val + q.val
      omega
    · show 0 + 1 * i.val = i.val
      omega)

theorem store_dlogT (z : (Rect.unit (s := S2048x160) (k0_off250 t) S256x160.size (k0_off250_inb t)).shape.Idx) :
    dlN (D (tn t)) z = dlogT D ((Rect.unit (s := S2048x160) (k0_off250 t) S256x160.size (k0_off250_inb t)).emb z) := by
  have ht := t2_lt t
  obtain ⟨q, i, rfl⟩ : ∃ (q : Fin 256) (i : Fin 160), z = ix2 q i := ⟨z 0, z 1, eq_ix2 (n0 := 256) (n1 := 160) z⟩
  rw [emb_250]
  show _ = dlN (D (tileOf (⟨256 * t.val + q.val, _⟩ : Fin 2048))) (ix2 (tokOf (⟨256 * t.val + q.val, _⟩ : Fin 2048)) i)
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem store_dl16 (z : (Rect.unit (s := S2048x160) (k0_off250 t) S256x160.size (k0_off250_inb t)).shape.Idx) :
    dl16N (D (tn t)) z = dl16 D ((Rect.unit (s := S2048x160) (k0_off250 t) S256x160.size (k0_off250_inb t)).emb z) := by
  have ht := t2_lt t
  obtain ⟨q, i, rfl⟩ : ∃ (q : Fin 256) (i : Fin 160), z = ix2 q i := ⟨z 0, z 1, eq_ix2 (n0 := 256) (n1 := 160) z⟩
  rw [emb_250]
  show _ = dl16N (D (tileOf (⟨256 * t.val + q.val, _⟩ : Fin 2048))) (ix2 (tokOf (⟨256 * t.val + q.val, _⟩ : Fin 2048)) i)
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem store_wtT (t : Fin k0_t1_loop.trips) (W : Vec F S6144x160 .bf16) (z : (Rect.unit (s := S160x6144) (k0_off2 t) S160x512.size (k0_off2_inb t)).shape.Idx) :
    k0_pay315 (VecWindow.window W (k0_off1 t) S512x160.size (k0_off1_inb t)) z
      = wtT W ((Rect.unit (s := S160x6144) (k0_off2 t) S160x512.size (k0_off2_inb t)).emb z) := by
  obtain ⟨i, q, rfl⟩ : ∃ (i : Fin 160) (q : Fin 512), z = ix2 i q := ⟨z 0, z 1, eq_ix2 (n0 := 160) (n1 := 512) z⟩
  have h : ∀ v : Vec F S512x160 .bf16, k0_pay315 v (ix2 i q) = v (ix2 q i) := fun v => by pointwise [k0_pay315]
  rw [h]
  have e : (Rect.unit (s := S160x6144) (k0_off2 t) S160x512.size (k0_off2_inb t)).emb (ix2 i q) = ix2 i (⟨512 * t.val + q.val, by have := lt_of_lt_of_le t.isLt k0_t1_abs.2.1; omega⟩ : Fin 6144) :=
    funext fun a => Fin.ext (by
      refine (val_unit (k0_off2_eq t) _ a).trans ?_
      fin_cases a
      · show 0 + 1 * i.val = i.val
        omega
      · show 512 * t.val + 1 * q.val = 512 * t.val + q.val
        omega)
  rw [e]
  refine congrArg W (funext fun a => Fin.ext ?_)
  refine (val_unit (k0_off1_eq t) _ a).trans ?_
  fin_cases a
  · show 512 * t.val + 1 * q.val = 512 * t.val + q.val
    omega
  · show 0 + 1 * i.val = i.val
    omega

/-- What the transfer out of slot `c % 2` reads is chunk `c` of the gradient of the activations, -/
theorem out_dx (L : FVec F S2048x160 .bf16) (Wt : Vec F S160x6144 .bf16) (Y : Vec F S2x2048x512 .bf16) (y : S2048x512.Idx) :
    VecWindow.put Y (k0_off257 c) S1x2048x512.size (k0_pay313 L (chunkW Wt (cn c)))
        ((Rect.unit (s := S2x2048x512) (k0_off262 c) S1x2048x512.size (k0_off262_inb c)).emb (Shape.reshapeEquiv squeezes_S1x2048x512_S2048x512.numel_eq y))
      = dxT L Wt ((Rect.unit (s := S2048x6144) (k0_off261 c) S2048x512.size (k0_off261_inb c)).emb y) := by
  have hc := t3_lt c
  obtain ⟨n, q, rfl⟩ : ∃ (n : Fin 2048) (q : Fin 512), y = ix2 n q := ⟨y 0, y 1, eq_ix2 (n0 := 2048) (n1 := 512) y⟩
  have e : (Rect.unit (s := S2048x6144) (k0_off261 c) S2048x512.size (k0_off261_inb c)).emb (ix2 n q) = ix2 n (⟨512 * c.val + q.val, by omega⟩ : Fin 6144) :=
    funext fun a => Fin.ext (by
      refine (val_unit (k0_off261_eq c) _ a).trans ?_
      fin_cases a
      · show 0 + 1 * n.val = n.val
        omega
      · show 512 * c.val + 1 * q.val = 512 * c.val + q.val
        omega)
  rw [e]
  have hw := congrFun (VecWindow.window_put_same (s := S2x2048x512) Y (k0_off257 c) S1x2048x512.size (k0_off257_inb c) (k0_pay313 L (chunkW Wt (cn c)))) (ix3 (0 : Fin 1) n q)
  have h2 : (Rect.unit (s := S2x2048x512) (k0_off262 c) S1x2048x512.size (k0_off262_inb c)).emb (Shape.reshapeEquiv squeezes_S1x2048x512_S2048x512.numel_eq (ix2 n q))
      = (Rect.unit (s := S2x2048x512) (k0_off257 c) S1x2048x512.size (k0_off257_inb c)).emb (ix3 (0 : Fin 1) n q) := by
    rw [show Shape.reshapeEquiv squeezes_S1x2048x512_S2048x512.numel_eq (ix2 n q) = ix3 (⟨0, Nat.one_pos⟩ : Fin 1) n q from ValueIdx.reshapeEquiv_ix2_1ab _ n q]
    exact funext fun a => Fin.ext ((val_unit (k0_off262_eq c) _ a).trans (val_unit (k0_off257_eq c) _ a).symm)
  rw [h2]
  refine hw.trans ?_
  show _ = k0_pay313 L (chunkW Wt (chunkOf (⟨512 * c.val + q.val, _⟩ : Fin 6144))) (ix3 (0 : Fin 1) n (featOf (⟨512 * c.val + q.val, _⟩ : Fin 6144)))
  rw [show chunkOf (⟨512 * c.val + q.val, by omega⟩ : Fin 6144) = cn c from Fin.ext (by show (512 * c.val + q.val) / 512 = c.val; omega),
    show featOf (⟨512 * c.val + q.val, by omega⟩ : Fin 6144) = q from Fin.ext (by show (512 * c.val + q.val) % 512 = q.val; omega)]

/-- and of the gradient of the weight. -/
theorem out_dw (L : FVec F S160x2048 .bf16) (A : FVec F S6144x2048 .bf16) (Y : Vec F S2x512x160 .f32) (y : S512x160.Idx) :
    VecWindow.put Y (k0_off259 c) S1x512x160.size (k0_pay314 L (chunkA A (cn c)))
        ((Rect.unit (s := S2x512x160) (k0_off264 c) S1x512x160.size (k0_off264_inb c)).emb (Shape.reshapeEquiv squeezes_S1x512x160_S512x160.numel_eq y))
      = dwT L A ((Rect.unit (s := S6144x160) (k0_off263 c) S512x160.size (k0_off263_inb c)).emb y) := by
  have hc := t3_lt c
  obtain ⟨q, n, rfl⟩ : ∃ (q : Fin 512) (n : Fin 160), y = ix2 q n := ⟨y 0, y 1, eq_ix2 (n0 := 512) (n1 := 160) y⟩
  have e : (Rect.unit (s := S6144x160) (k0_off263 c) S512x160.size (k0_off263_inb c)).emb (ix2 q n) = ix2 (⟨512 * c.val + q.val, by omega⟩ : Fin 6144) n :=
    funext fun a => Fin.ext (by
      refine (val_unit (k0_off263_eq c) _ a).trans ?_
      fin_cases a
      · show 512 * c.val + 1 * q.val = 512 * c.val + q.val
        omega
      · show 0 + 1 * n.val = n.val
        omega)
  rw [e]
  have hw := congrFun (VecWindow.window_put_same (s := S2x512x160) Y (k0_off259 c) S1x512x160.size (k0_off259_inb c) (k0_pay314 L (chunkA A (cn c)))) (ix3 (0 : Fin 1) q n)
  have h2 : (Rect.unit (s := S2x512x160) (k0_off264 c) S1x512x160.size (k0_off264_inb c)).emb (Shape.reshapeEquiv squeezes_S1x512x160_S512x160.numel_eq (ix2 q n))
      = (Rect.unit (s := S2x512x160) (k0_off259 c) S1x512x160.size (k0_off259_inb c)).emb (ix3 (0 : Fin 1) q n) := by
    rw [show Shape.reshapeEquiv squeezes_S1x512x160_S512x160.numel_eq (ix2 q n) = ix3 (⟨0, Nat.one_pos⟩ : Fin 1) q n from ValueIdx.reshapeEquiv_ix2_1ab _ q n]
    exact funext fun a => Fin.ext ((val_unit (k0_off264_eq c) _ a).trans (val_unit (k0_off259_eq c) _ a).symm)
  rw [h2]
  refine hw.trans ?_
  show _ = k0_pay314 L (chunkA A (chunkOf (⟨512 * c.val + q.val, _⟩ : Fin 6144))) (ix3 (0 : Fin 1) (featOf (⟨512 * c.val + q.val, _⟩ : Fin 6144)) n)
  rw [show chunkOf (⟨512 * c.val + q.val, by omega⟩ : Fin 6144) = cn c from Fin.ext (by show (512 * c.val + q.val) / 512 = c.val; omega),
    show featOf (⟨512 * c.val + q.val, by omega⟩ : Fin 6144) = q from Fin.ext (by show (512 * c.val + q.val) % 512 = q.val; omega)]

end Windows

end Cert.Kernel.Values

end
-- ==== Proof.K.Trip.lean ====
/- The token-tile trip run: the slabs of the activations, and the softmax's three stores. -/
module

public import proofs.«01_k».proof.Proof.K.Values
public import Idealize.ShloMosaic.Lib.Pipeline.Kit
public import Idealize.ShloMosaic.Lib.Pipeline.FrameBody

@[expose] public section

set_option maxRecDepth 16384

noncomputable section

namespace Cert.Kernel.Trip

open Cert.Kernel Cert.Kernel.Gen Cert.Kernel.Steps Cert.Kernel.Values
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A memref held at the indices `D`, at the values `T`, by the device's core. -/
abbrev own (c : Dev nD) {sp : Space} {s : Shape} {e : EltTy} (m : Memref sig .tc sp s e) (D : Finset s.Idx) (T : s.Idx → Elt F e) :
    sProp (MT nD τ sig Unit (Elt F) ℕ (Pipeline.UD sig nD τ) ℕ) := Own.At (c : Thread nD τ) m D T

/-- The weakest precondition of a program of the region. -/
abbrev wpP (c : Dev nD) {α : Type} (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

variable (c : Dev nD)
variable (X : Vec F S2048x6144 .fp8e4m3) (Sc : Vec F S2048x192 .f32) (W : Vec F S6144x160 .bf16) (I : Vec F S2048x6 .i32) (G : Vec F S2048x6 .bf16)

/-- The activations' buffer agrees with the activations at the tiles before `t`, and in tile `t` at the rows before `r`. -/
def ADone (t r : ℕ) (Y : FVec F S6144x2048 .bf16) : Prop :=
  ∀ y : S6144x2048.Idx, ((y 1).val < 256 * t ∨ ((y 1).val < 256 * t + 256 ∧ (y 0).val < r)) → Y y = aT X Sc y

section Slab
variable (arg8 : Memref sig .tc .vmem S8x256x6144 .fp8e4m3) (arg14 : Memref sig .tc .vmem S192x256 .f32)
  (arg15 : Memref sig .tc .vmem S6144x2048 .bf16) (harg15 : arg15.IsWhole)

/-- The slot of tile `t` among the codes. -/
def slot8 (t : Fin k0_t2_loop.trips) : Finset S8x256x6144.Idx := (Rect.unit (s := S8x256x6144) (k0_off4 t) S1x256x6144.size (k0_off4_inb t)).set

theorem block_wp (t : Fin k0_t2_loop.trips) (j : ℕ) (hj : j < 48) (b : Fin 4) (r : ℕ) (hr : r = 128 * j + 32 * b.val) (k : Pgm F) (Q : Unit → sProp 𝕄) :
    iprop(own c arg14 Finset.univ (scalesOf (tileS Sc (tn t))) ∗ ∃ Y, own c arg15 Finset.univ Y ∗ ⌜ADone X Sc t.val r Y⌝)
      ⊢ iprop((iprop(own c arg14 Finset.univ (scalesOf (tileS Sc (tn t))) ∗ ∃ Y, own c arg15 Finset.univ Y ∗ ⌜ADone X Sc t.val (r + 32) Y⌝) -∗ wpP c k Q)
        -∗ wpP c (blockP arg14 arg15 harg15 t j hj (slabOf (VecWindow.window (x8T X) (offX t j) S1x256x128.size (offX_inb t j hj))) b k) Q) := by
  unfold blockP
  iintro ⟨HS, ⟨%Y, HA, %hY⟩⟩ HK
  iapply (Own.wp_load Variants.none (c : Thread nD τ) none (m := arg14) (D := Finset.univ) (Finset.subset_univ _)) $$ HS
  iintro HS
  iapply (Own.wp_load Variants.none (c : Thread nD τ) none (m := arg15) (D := Finset.univ) (Finset.subset_univ _)) $$ HA
  iintro HA
  iapply (Own.wp_store Variants.none (c : Thread nD τ) none (m := arg15) (D := Finset.univ) (Finset.subset_univ _)) $$ HA
  iintro HA
  iapply HK
  isplitl [HS]; · iexact HS
  iexists _
  isplitl [HA]; · iexact HA
  ipureintro
  intro y hy
  refine Own.put_done (s := S6144x2048) (inb := offA_inb t j b hj) (block_eq t X Sc j hj b) y ?_
  have h8 : k0_off8 t 1 = 256 * t.val := congrFun (k0_off8_eq t) 1
  by_cases h : (y 1).val < 256 * t.val ∨ ((y 1).val < 256 * t.val + 256 ∧ (y 0).val < r)
  · exact .inr (hY y h)
  · refine .inl fun a => ?_
    fin_cases a
    · show 128 * j + 32 * b.val ≤ (y 0).val ∧ (y 0).val < 128 * j + 32 * b.val + 32
      omega
    · show k0_off8 t 1 ≤ (y 1).val ∧ (y 1).val < k0_off8 t 1 + 256
      omega

theorem slab_wp (t : Fin k0_t2_loop.trips) (j : ℕ) (hj : j < 48) (k : Pgm F) (Q : Unit → sProp 𝕄) :
    iprop(own c arg8 (slot8 t) (x8T X) ∗ own c arg14 Finset.univ (scalesOf (tileS Sc (tn t))) ∗ ∃ Y, own c arg15 Finset.univ Y ∗ ⌜ADone X Sc t.val (128 * j) Y⌝)
      ⊢ iprop((iprop(own c arg8 (slot8 t) (x8T X) ∗ own c arg14 Finset.univ (scalesOf (tileS Sc (tn t))) ∗ ∃ Y, own c arg15 Finset.univ Y ∗ ⌜ADone X Sc t.val (128 * (j + 1)) Y⌝) -∗ wpP c k Q)
        -∗ wpP c (slabP arg8 arg14 arg15 harg15 t j hj k) Q) := by
  unfold slabP
  iintro ⟨HX, HB⟩ HK
  iapply (Own.wp_load Variants.none (c : Thread nD τ) none (m := arg8) (D := slot8 t) ?_) $$ HX
  · intro y hy
    have h7 : k0_off7 t 0 = t.val := congrFun (k0_off7_eq t) 0
    have h4 := k0_off4_eq t
    rw [Rect.mem_set_unit] at hy
    unfold slot8
    rw [Rect.mem_set_unit, h4]
    intro a
    have := hy a
    fin_cases a
    · change k0_off7 t 0 ≤ (y 0).val ∧ (y 0).val < k0_off7 t 0 + 1 at this
      show t.val ≤ (y 0).val ∧ (y 0).val < t.val + 1
      omega
    · change 0 ≤ (y 1).val ∧ (y 1).val < 0 + 256 at this
      exact this
    · change 128 * j ≤ (y 2).val ∧ (y 2).val < 128 * j + 128 at this
      show 0 ≤ (y 2).val ∧ (y 2).val < 0 + 6144
      omega
  iintro HX
  iapply (block_wp c X Sc arg14 arg15 harg15 t j hj 0 (128 * j) rfl) $$ HB
  iintro HB
  iapply (block_wp c X Sc arg14 arg15 harg15 t j hj 1 (128 * j + 32) rfl) $$ HB
  iintro HB
  iapply (block_wp c X Sc arg14 arg15 harg15 t j hj 2 (128 * j + 32 + 32) rfl) $$ HB
  iintro HB
  iapply (block_wp c X Sc arg14 arg15 harg15 t j hj 3 (128 * j + 32 + 32 + 32) rfl) $$ HB
  iintro HB
  iapply HK
  isplitl [HX]; · iexact HX
  iexact HB

theorem slabs_wp (t : Fin k0_t2_loop.trips) (n j : ℕ) (h : j + n ≤ 48) (k : Pgm F) (Q : Unit → sProp 𝕄) :
    iprop(own c arg8 (slot8 t) (x8T X) ∗ own c arg14 Finset.univ (scalesOf (tileS Sc (tn t))) ∗ ∃ Y, own c arg15 Finset.univ Y ∗ ⌜ADone X Sc t.val (128 * j) Y⌝)
      ⊢ iprop((iprop(own c arg8 (slot8 t) (x8T X) ∗ own c arg14 Finset.univ (scalesOf (tileS Sc (tn t))) ∗ ∃ Y, own c arg15 Finset.univ Y ∗ ⌜ADone X Sc t.val (128 * (j + n)) Y⌝) -∗ wpP c k Q)
        -∗ wpP c (slabsP arg8 arg14 arg15 harg15 t n j h k) Q) := by
  induction n generalizing j with
  | zero =>
    iintro H HK
    unfold slabsP
    iapply HK
    iexact H
  | succ n ih =>
    iintro H HK
    unfold slabsP
    iapply (slab_wp c X Sc arg8 arg14 arg15 harg15 t j _) $$ H
    iintro H
    iapply (ih (j + 1) _) $$ H
    iintro H
    iapply HK
    rw [show j + 1 + n = j + (n + 1) by omega]
    iexact H

end Slab

section Tail
variable (arg11 : Memref sig .tc .vmem S2048x6 .i32) (arg12 : Memref sig .tc .vmem S2048x6 .bf16)
  (arg13 : Memref sig .tc .vmem S160x6144 .bf16) (arg15 : Memref sig .tc .vmem S6144x2048 .bf16)
  (arg16 : Memref sig .tc .vmem S160x2048 .bf16) (harg16 : arg16.IsWhole)
  (arg17 : Memref sig .tc .vmem S2048x160 .bf16) (harg17 : arg17.IsWhole)
  (arg18 : Memref sig .tc .vmem S2048x160 .f32)

/-- Buffers that agree with their targets at the tokens before `n`. -/
def ColDone {α : Type} (n : ℕ) (T Y : S160x2048.Idx → α) : Prop := ∀ y : S160x2048.Idx, (y 1).val < n → Y y = T y
def RowDone {α : Type} (n : ℕ) (T Y : S2048x160.Idx → α) : Prop := ∀ y : S2048x160.Idx, (y 0).val < n → Y y = T y

/-- The gradients of the logits, tile by tile. -/
abbrev Dt : Fin 8 → FVec F S160x256 .f32 := tileD X Sc W I G

/-- What the loops past the first hold of the buffers they share. -/
def Held (n : ℕ) : sProp 𝕄 :=
  iprop(own c arg11 Finset.univ I ∗ own c arg12 Finset.univ G ∗ own c arg13 Finset.univ (wtT W)
    ∗ (∃ Y, own c arg16 Finset.univ Y ∗ ⌜ColDone n (d16T (Dt X Sc W I G)) Y⌝)
    ∗ (∃ Y, own c arg17 Finset.univ Y ∗ ⌜RowDone n (dl16 (Dt X Sc W I G)) Y⌝)
    ∗ (∃ Y, own c arg18 Finset.univ Y ∗ ⌜RowDone n (dlogT (Dt X Sc W I G)) Y⌝))

theorem row_step {α : Type} {t : Fin k0_t2_loop.trips} {T Y : S2048x160.Idx → α} {w : S256x160.Idx → α} (hY : RowDone (256 * t.val) T Y)
    (hw : ∀ z, w z = T ((Rect.unit (s := S2048x160) (k0_off250 t) S256x160.size (k0_off250_inb t)).emb z)) :
    RowDone (256 * (t.val + 1)) T (VecWindow.put Y (k0_off250 t) S256x160.size w) := by
  intro y hy
  refine Own.put_done (s := S2048x160) (inb := k0_off250_inb t) hw y ?_
  by_cases h : (y 0).val < 256 * t.val
  · exact .inr (hY y h)
  · refine .inl ?_
    rw [k0_off250_eq t]
    intro a
    fin_cases a
    · show 256 * t.val ≤ (y 0).val ∧ (y 0).val < 256 * t.val + 256
      omega
    · show 0 ≤ (y 1).val ∧ (y 1).val < 0 + 160
      have := (y 1).isLt
      change (y 1).val < 160 at this
      omega

theorem col_step {α : Type} {t : Fin k0_t2_loop.trips} {T Y : S160x2048.Idx → α} {w : S160x256.Idx → α} (hY : ColDone (256 * t.val) T Y)
    (hw : ∀ z, w z = T ((Rect.unit (s := S160x2048) (k0_off249 t) S160x256.size (k0_off249_inb t)).emb z)) :
    ColDone (256 * (t.val + 1)) T (VecWindow.put Y (k0_off249 t) S160x256.size w) := by
  intro y hy
  refine Own.put_done (s := S160x2048) (inb := k0_off249_inb t) hw y ?_
  by_cases h : (y 1).val < 256 * t.val
  · exact .inr (hY y h)
  · refine .inl ?_
    rw [k0_off249_eq t]
    intro a
    fin_cases a
    · show 0 ≤ (y 0).val ∧ (y 0).val < 0 + 160
      have := (y 0).isLt
      change (y 0).val < 160 at this
      omega
    · show 256 * t.val ≤ (y 1).val ∧ (y 1).val < 256 * t.val + 256
      omega

theorem tail_wp (t : Fin k0_t2_loop.trips) (Q : Unit → sProp 𝕄) :
    iprop(Held c X Sc W I G arg11 arg12 arg13 arg16 arg17 arg18 (256 * t.val) ∗ ∃ Y, own c arg15 Finset.univ Y ∗ ⌜ADone X Sc (t.val + 1) 0 Y⌝)
      ⊢ iprop((iprop(Held c X Sc W I G arg11 arg12 arg13 arg16 arg17 arg18 (256 * (t.val + 1)) ∗ ∃ Y, own c arg15 Finset.univ Y ∗ ⌜ADone X Sc (t.val + 1) 0 Y⌝) -∗ Q ⟨⟩)
        -∗ wpP c (tailP arg11 arg12 arg13 arg15 arg16 harg16 arg17 harg17 arg18 t) Q) := by
  unfold tailP Held
  iintro ⟨⟨H11, H12, H13, ⟨%Y16, H16, %h16⟩, ⟨%Y17, H17, %h17⟩, ⟨%Y18, H18, %h18⟩⟩, ⟨%Y, HA, %hY⟩⟩ HK
  iapply (Own.wp_load_full Variants.none (c : Thread nD τ) none (m := arg13)) $$ H13
  iintro H13
  iapply (Own.wp_load Variants.none (c : Thread nD τ) none (m := arg15) (D := Finset.univ) (Finset.subset_univ _)) $$ HA
  iintro HA
  iapply (Own.wp_load Variants.none (c : Thread nD τ) none (m := arg11) (D := Finset.univ) (Finset.subset_univ _)) $$ H11
  iintro H11
  iapply (Own.wp_load Variants.none (c : Thread nD τ) none (m := arg12) (D := Finset.univ) (Finset.subset_univ _)) $$ H12
  iintro H12
  rw [window_a t (aT X Sc) Y (fun y hy => hY y (.inl (by omega))), window_6, window_6]
  iapply (Own.wp_load Variants.none (c : Thread nD τ) none (m := arg16) (D := Finset.univ) (Finset.subset_univ _)) $$ H16
  iintro H16
  iapply (Own.wp_store Variants.none (c : Thread nD τ) none (m := arg16) (D := Finset.univ) (Finset.subset_univ _)) $$ H16
  iintro H16
  iapply (Own.wp_load Variants.none (c : Thread nD τ) none (m := arg18) (D := Finset.univ) (Finset.subset_univ _)) $$ H18
  iintro H18
  iapply (Own.wp_store Variants.none (c : Thread nD τ) none (m := arg18) (D := Finset.univ) (Finset.subset_univ _)) $$ H18
  iintro H18
  iapply (Own.wp_load Variants.none (c : Thread nD τ) none (m := arg17) (D := Finset.univ) (Finset.subset_univ _)) $$ H17
  iintro H17
  iapply (Own.wp_store Variants.none (c : Thread nD τ) none (m := arg17) (D := Finset.univ) (Finset.subset_univ _)) $$ H17
  iintro H17
  rw [wp_ret]
  imodintro
  iapply HK
  isplitl [H11 H12 H13 H16 H17 H18]
  · isplitl [H11]; · iexact H11
    isplitl [H12]; · iexact H12
    isplitl [H13]; · iexact H13
    isplitl [H16]
    · iexists _
      isplitl [H16]; · iexact H16
      ipureintro
      exact col_step h16 (store_d16T t (Dt X Sc W I G))
    isplitl [H17]
    · iexists _
      isplitl [H17]; · iexact H17
      ipureintro
      exact row_step h17 (store_dl16 t (Dt X Sc W I G))
    iexists _
    isplitl [H18]; · iexact H18
    ipureintro
    exact row_step h18 (store_dlogT t (Dt X Sc W I G))
  iexists Y
  isplitl [HA]; · iexact HA
  ipureintro
  exact hY

end Tail

end Cert.Kernel.Trip

end
-- ==== Proof.K.Land.lean ====
/- The codes' transfers, and the first two loops: the weight's transpose, the token tiles. -/
module

public import proofs.«01_k».proof.Proof.K.Trip

@[expose] public section

set_option maxRecDepth 16384

noncomputable section

namespace Cert.Kernel.Land

open Cert.Kernel Cert.Kernel.Gen Cert.Kernel.Steps Cert.Kernel.Values Cert.Kernel.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

/-- The transfers' counters. -/
abbrev EC : UEmb Counters (MT nD τ sig Unit (Elt F) ℕ (Pipeline.UD sig nD τ) ℕ) := countersEmb (U := Pipeline.UD sig nD τ)

/-- A semaphore of the device's core at zero. -/
abbrev zeroed (c : Dev nD) (s : DmaSem sig) : sProp (MT nD τ sig Unit (Elt F) ℕ (Pipeline.UD sig nD τ) ℕ) := semVal ((c : Thread nD τ), .dma s) 0

/-- The core's debts, whatever they are. -/
abbrev debts (c : Dev nD) : sProp (MT nD τ sig Unit (Elt F) ℕ (Pipeline.UD sig nD τ) ℕ) := iprop(∃ W, owes (c : Thread nD τ) 0 W)

/-- A transfer in flight on `s` that delivers `N` and leaves `D`. -/
abbrev Fly (c : Dev nD) (s : DmaSem sig) (N : ℕ) (D : sProp (MT nD τ sig Unit (Elt F) ℕ (Pipeline.UD sig nD τ) ℕ)) :
    sProp (MT nD τ sig Unit (Elt F) ℕ (Pipeline.UD sig nD τ) ℕ) := Flight EC (c : Thread nD τ) (.dma s) () N D

variable (c : Dev nD)
variable (X : Vec F S2048x6144 .fp8e4m3) (Sc : Vec F S2048x192 .f32) (W : Vec F S6144x160 .bf16) (I : Vec F S2048x6 .i32) (G : Vec F S2048x6 .bf16)

/-! ## Whole arrays carried over -/

section Whole
variable {sp sp' : Space} {s : Shape} {e : EltTy}

/-- What a transfer of a whole array delivers. -/
abbrev amt (dst : Memref sig .tc sp s e) : ℕ := dst.view.dmaCredit

theorem copy_wp {src : Memref sig .tc sp s e} {dst : Memref sig .tc sp' s e} {sm : DmaSem sig} {hsrc : src.view.WordExact} {hdst : dst.view.WordExact}
    {hsem : DmaTarget.Typed (nD := nD) (τ := τ) (sig := sig) (p := .tc) sp (.dma sm) (.here dst)} (h0 : 0 < s.numel) {T : s.Idx → Elt F e} {k : PUnit → Pgm F} {Q : Unit → sProp (MT nD τ sig Unit (Elt F) ℕ (Pipeline.UD sig nD τ) ℕ)} :
    iprop(own c src Finset.univ T ∗ (∃ Y, own c dst Finset.univ Y) ∗ zeroed c sm)
      ⊢ iprop((Fly c sm (amt dst) iprop(own c dst Finset.univ T ∗ own c src Finset.univ T) -∗ wpP c (k ⟨⟩) Q)
          -∗ wpP c (.op (.enqueueDma src (.here dst) (.dma sm) hsrc hdst hsem) k) Q) := by
  have h : ∀ Y, iprop(own c src Finset.univ T ∗ own c dst Finset.univ Y ∗ zeroed c sm)
      ⊢ iprop((Fly c sm (amt dst) iprop(own c dst Finset.univ T ∗ own c src Finset.univ T) -∗ wpP c (k ⟨⟩) Q)
          -∗ wpP c (.op (.enqueueDma src (.here dst) (.dma sm) hsrc hdst hsem) k) Q) := fun Y =>
    Own.wp_dma Variants.none (c : Thread nD τ) none EC (src := src) (dst := dst) (sm := sm) () (amt dst) rfl (View.dmaCredit_pos _ h0) T Y
      iprop(own c dst Finset.univ T ∗ own c src Finset.univ T) Entails.refl
  iintro ⟨HS, ⟨%Y, HD⟩, HV⟩
  iapply (h Y)
  isplitl [HS]; · iexact HS
  isplitl [HD]; · iexact HD
  iexact HV

theorem await_wp {s' : Shape} {e' : EltTy} {srcw : Memref sig .tc sp s' e'} {dst : Memref sig .tc sp' s e} {sm : DmaSem sig} {hsrc : srcw.view.WordExact} {hdst : dst.view.WordExact}
    {N : ℕ} (hN : dst.view.dmaCredit = N) {D : sProp (MT nD τ sig Unit (Elt F) ℕ (Pipeline.UD sig nD τ) ℕ)} {k : PUnit → Pgm F} {Q : Unit → sProp (MT nD τ sig Unit (Elt F) ℕ (Pipeline.UD sig nD τ) ℕ)} :
    iprop(Fly c sm N D ∗ debts c)
      ⊢ iprop((iprop(D ∗ zeroed c sm ∗ debts c) -∗ wpP c (k ⟨⟩) Q)
          -∗ wpP c (.op (.waitDma2 sm srcw dst hsrc hdst) k) Q) :=
  Own.wp_wait Variants.none (c : Thread nD τ) none EC () hN

end Whole

/-! ## The codes' transfers -/

section Codes
variable (arg0 : Memref sig .tc .hbm S2048x6144 .fp8e4m3) (harg0 : arg0.IsWhole) (arg8 : Memref sig .tc .vmem S8x256x6144 .fp8e4m3) (harg8 : arg8.IsWhole)
  (arg21 : DmaSems sig S8) (t : Fin k0_t2_loop.trips)

/-- The semaphore of tile `t`'s codes, -/
abbrev semX : DmaSem sig := ((arg21.slice (Rect.unit (s := S8) (k0_off3 t) S1.size (k0_off3_inb t))).squeeze S_ squeezes_S1_S_).sem
/-- their rows in the argument, -/
def rowsX : Finset S2048x6144.Idx := (Rect.unit (s := S2048x6144) (k0_off5 t) S256x6144.size (k0_off5_inb t)).set
/-- and the slot they land in. -/
abbrev slotX : Memref sig .tc .vmem S256x6144 .fp8e4m3 :=
  (arg8.slice (Rect.unit (s := S8x256x6144) (k0_off4 t) S1x256x6144.size (k0_off4_inb t)) (fun _ => rfl)).squeeze S256x6144 squeezes_S1x256x6144_S256x6144

/-- The transfer of tile `t`'s codes. -/
def startX (k : Pgm F) : Pgm F :=
  .op (.enqueueDma (arg0.slice (Rect.unit (s := S2048x6144) (k0_off5 t) S256x6144.size (k0_off5_inb t)) (fun _ => rfl)) (.here (slotX arg8 t)) (.dma (semX arg21 t))
    (harg0.wordExact_slice rfl _ (k0_off5_wordsfp8e4m3 t)) ((harg8.wordExact_slice rfl _ (k0_off4_wordsfp8e4m3 t)).reshape _ _) ⟨Or.inl rfl, trivial⟩) fun _ => k

/-- Tile `t`'s codes on the way. -/
def FlyX : sProp 𝕄 := Fly c (semX arg21 t) (amt (slotX arg8 t)) iprop(own c arg8 (slot8 t) (x8T X) ∗ own c arg0 (rowsX t) X)

theorem codes_place (y : S256x6144.Idx) :
    x8T X ((Rect.unit (s := S8x256x6144) (k0_off4 t) S1x256x6144.size (k0_off4_inb t)).emb (Shape.reshapeEquiv squeezes_S1x256x6144_S256x6144.numel_eq y))
      = X ((Rect.unit (s := S2048x6144) (k0_off5 t) S256x6144.size (k0_off5_inb t)).emb y) := by
  obtain ⟨n, q, rfl⟩ : ∃ (n : Fin 256) (q : Fin 6144), y = ix2 n q := ⟨y 0, y 1, eq_ix2 (n0 := 256) (n1 := 6144) y⟩
  rw [show Shape.reshapeEquiv squeezes_S1x256x6144_S256x6144.numel_eq (ix2 n q) = ix3 (⟨0, Nat.one_pos⟩ : Fin 1) n q from ValueIdx.reshapeEquiv_ix2_1ab _ n q]
  refine congrArg X (funext fun a => Fin.ext ?_)
  refine Eq.trans ?_ (val_unit (k0_off5_eq t) _ a).symm
  have h := fun b => val_unit (s := S8x256x6144) (size := S1x256x6144.size) (k0_off4_eq t) (inb := k0_off4_inb t) (ix3 (⟨0, Nat.one_pos⟩ : Fin 1) n q) b
  fin_cases a
  · show 256 * ((Rect.unit (s := S8x256x6144) (k0_off4 t) S1x256x6144.size (k0_off4_inb t)).emb (ix3 (⟨0, Nat.one_pos⟩ : Fin 1) n q) 0).val + ((Rect.unit (s := S8x256x6144) (k0_off4 t) S1x256x6144.size (k0_off4_inb t)).emb (ix3 (⟨0, Nat.one_pos⟩ : Fin 1) n q) 1).val = 256 * t.val + 1 * n.val
    rw [h 0, h 1]
    show 256 * (t.val + 1 * 0) + (0 + 1 * n.val) = _
    omega
  · exact h 2

theorem landX :
    (iprop(Own.Hold (c : Thread nD τ) (slotX arg8 t).view (fun y => X ((Rect.unit (s := S2048x6144) (k0_off5 t) S256x6144.size (k0_off5_inb t)).emb y))
      ∗ Own.Hold (c : Thread nD τ) (arg0.slice (Rect.unit (s := S2048x6144) (k0_off5 t) S256x6144.size (k0_off5_inb t)) (fun _ => rfl)).view
        (fun y => X ((Rect.unit (s := S2048x6144) (k0_off5 t) S256x6144.size (k0_off5_inb t)).emb y))) : sProp 𝕄)
      ⊢ iprop(own c arg8 (slot8 t) (x8T X) ∗ own c arg0 (rowsX t) X) := by
  refine BI.sep_mono ?_ ?_
  · rw [← funext (codes_place X t)]
    exact Entails.of_eq (Own.hold_squeeze (c : Thread nD τ) arg8 _ squeezes_S1x256x6144_S256x6144.numel_eq (x8T X))
  · exact Entails.of_eq (Own.hold_slice (c : Thread nD τ) arg0 _ X)

theorem startX_wp (k : Pgm F) (Q : Unit → sProp 𝕄) :
    iprop(own c arg0 (rowsX t) X ∗ (∃ Y, own c arg8 (slot8 t) Y) ∗ zeroed c (semX arg21 t))
      ⊢ iprop((FlyX c X arg0 arg8 arg21 t -∗ wpP c k Q) -∗ wpP c (startX arg0 harg0 arg8 harg8 arg21 t k) Q) := by
  unfold startX FlyX
  have h := fun Y : Vec F S8x256x6144 .fp8e4m3 => Own.wp_dma (Q := Q) (defs := defs₀ (F := F)) Variants.none (c : Thread nD τ) none EC
    (src := arg0.slice (Rect.unit (s := S2048x6144) (k0_off5 t) S256x6144.size (k0_off5_inb t)) (fun _ => rfl)) (dst := slotX arg8 t) (sm := semX arg21 t)
    (hsrc := harg0.wordExact_slice rfl _ (k0_off5_wordsfp8e4m3 t)) (hdst := (harg8.wordExact_slice rfl _ (k0_off4_wordsfp8e4m3 t)).reshape _ _) (hsem := ⟨Or.inl rfl, trivial⟩)
    (k := fun _ => k) () (amt (slotX arg8 t)) rfl (View.dmaCredit_pos _ (by decide))
    (fun y => X ((Rect.unit (s := S2048x6144) (k0_off5 t) S256x6144.size (k0_off5_inb t)).emb y))
    (fun y => Y ((Rect.unit (s := S8x256x6144) (k0_off4 t) S1x256x6144.size (k0_off4_inb t)).emb (Shape.reshapeEquiv squeezes_S1x256x6144_S256x6144.numel_eq y)))
    iprop(own c arg8 (slot8 t) (x8T X) ∗ own c arg0 (rowsX t) X) (landX c X arg0 arg8 t)
  have hx : own c arg0 (rowsX t) X ⊢ (Own.Hold (c : Thread nD τ) (arg0.slice (Rect.unit (s := S2048x6144) (k0_off5 t) S256x6144.size (k0_off5_inb t)) (fun _ => rfl)).view
      (fun y => X ((Rect.unit (s := S2048x6144) (k0_off5 t) S256x6144.size (k0_off5_inb t)).emb y)) : sProp 𝕄) :=
    Entails.of_eq (Own.hold_slice (c : Thread nD τ) arg0 (Rect.unit (s := S2048x6144) (k0_off5 t) S256x6144.size (k0_off5_inb t)) X).symm
  have hy : ∀ Y, own c arg8 (slot8 t) Y ⊢ (Own.Hold (c : Thread nD τ) (slotX arg8 t).view
      (fun y => Y ((Rect.unit (s := S8x256x6144) (k0_off4 t) S1x256x6144.size (k0_off4_inb t)).emb (Shape.reshapeEquiv squeezes_S1x256x6144_S256x6144.numel_eq y))) : sProp 𝕄) := fun Y =>
    Entails.of_eq (Own.hold_squeeze (c : Thread nD τ) arg8 (Rect.unit (s := S8x256x6144) (k0_off4 t) S1x256x6144.size (k0_off4_inb t)) squeezes_S1x256x6144_S256x6144.numel_eq Y).symm
  iintro ⟨HS, ⟨%Y, HD⟩, HV⟩
  iapply (h Y)
  isplitl [HS]; · iapply hx $$ HS
  isplitl [HD]; · iapply (hy Y) $$ HD
  iexact HV

end Codes

/-- One of a family taken out. -/
theorem take_one {T : Type} [Fintype T] [DecidableEq T] (Φ : T → sProp (MT nD τ sig Unit (Elt F) ℕ (Pipeline.UD sig nD τ) ℕ)) (t : T) :
    bigSep Finset.univ Φ = iprop(Φ t ∗ bigSep (Finset.univ.erase t) Φ) := bigSep_erase (Finset.mem_univ t)

/-! ## A token tile -/

section Tile
variable (arg0 : Memref sig .tc .hbm S2048x6144 .fp8e4m3) (harg0 : arg0.IsWhole) (arg8 : Memref sig .tc .vmem S8x256x6144 .fp8e4m3) (harg8 : arg8.IsWhole)
  (arg9 : Memref sig .tc .vmem S2048x192 .f32) (arg11 : Memref sig .tc .vmem S2048x6 .i32) (arg12 : Memref sig .tc .vmem S2048x6 .bf16)
  (arg13 : Memref sig .tc .vmem S160x6144 .bf16) (arg14 : Memref sig .tc .vmem S192x256 .f32) (arg15 : Memref sig .tc .vmem S6144x2048 .bf16) (harg15 : arg15.IsWhole)
  (arg16 : Memref sig .tc .vmem S160x2048 .bf16) (harg16 : arg16.IsWhole) (arg17 : Memref sig .tc .vmem S2048x160 .bf16) (harg17 : arg17.IsWhole)
  (arg18 : Memref sig .tc .vmem S2048x160 .f32) (arg21 : DmaSems sig S8)

/-- Tile `t`'s codes landed. -/
def LandX (t : Fin k0_t2_loop.trips) : sProp 𝕄 :=
  iprop(own c arg8 (slot8 t) (x8T X) ∗ own c arg0 (rowsX t) X ∗ zeroed c (semX arg21 t))

/-- What the tiles' loop holds beside the codes, before tile `n`. -/
def Rest2 (n : ℕ) : sProp 𝕄 :=
  iprop(Held c X Sc W I G arg11 arg12 arg13 arg16 arg17 arg18 (256 * n) ∗ (∃ Y, own c arg15 Finset.univ Y ∗ ⌜ADone X Sc n 0 Y⌝)
    ∗ own c arg9 Finset.univ Sc ∗ (∃ Y, own c arg14 Finset.univ Y) ∗ debts c)

theorem put_full {α : Type} {s : Shape} (T : s.Idx → α) (off : Fin s.rank → ℕ) (inb : ∀ a, off a + s.size a ≤ s.size a) (w : s.Idx → α) :
    VecWindow.put T off s.size w = w := by
  funext y
  refine Own.put_done (inb := inb) (w := w) (fun z => congrArg w (funext fun a => Fin.ext ?_)) y (.inl fun a => ?_)
  · show (z a).val = off a + 1 * (z a).val
    have := inb a
    omega
  · have := inb a
    have := (y a).isLt
    omega

theorem tile_wp (t : Fin k0_t2_loop.trips) (Q : Unit → sProp 𝕄) :
    iprop(FlyX c X arg0 arg8 arg21 t ∗ Rest2 c X Sc W I G arg9 arg11 arg12 arg13 arg14 arg15 arg16 arg17 arg18 t.val)
      ⊢ iprop((iprop(LandX c X arg0 arg8 arg21 t ∗ Rest2 c X Sc W I G arg9 arg11 arg12 arg13 arg14 arg15 arg16 arg17 arg18 (t.val + 1)) -∗ Q ⟨⟩)
        -∗ wpP c (headP arg0 harg0 arg8 harg8 arg9 arg14 arg21 t
          (slabsP arg8 arg14 arg15 harg15 t 48 0 (by omega) (tailP arg11 arg12 arg13 arg15 arg16 harg16 arg17 harg17 arg18 t))) Q) := by
  unfold headP FlyX Rest2 LandX
  iintro ⟨HF, HH, ⟨%Y, HA, %hY⟩, H9, ⟨%Z, H14⟩, HW⟩ HK
  iapply (await_wp c (sm := semX arg21 t) (dst := slotX arg8 t) rfl) $$ [HF HW]
  · isplitl [HF] <;> iassumption
  iintro ⟨⟨H8, H0⟩, HV, HW⟩
  iapply (Own.wp_load Variants.none (c : Thread nD τ) none (m := arg9) (D := Finset.univ) (Finset.subset_univ _)) $$ H9
  iintro H9
  rw [window_s]
  iapply (Own.wp_load Variants.none (c : Thread nD τ) none (m := arg14) (D := Finset.univ) (Finset.subset_univ _)) $$ H14
  iintro H14
  iapply (Own.wp_store Variants.none (c : Thread nD τ) none (m := arg14) (D := Finset.univ) (Finset.subset_univ _)) $$ H14
  iintro H14
  rw [put_full _ _ inb_S192x256_S192x256_0_0]
  iapply (slabs_wp c X Sc arg8 arg14 arg15 harg15 t 48 0 _) $$ [H8 H14 HA]
  · isplitl [H8]; · iexact H8
    isplitl [H14]; · iexact H14
    iexists Y
    isplitl [HA]; · iexact HA
    ipureintro
    intro y hy
    exact hY y (by omega)
  iintro ⟨H8, H14, ⟨%Y', HA, %hY'⟩⟩
  iapply (tail_wp c X Sc W I G arg11 arg12 arg13 arg15 arg16 harg16 arg17 harg17 arg18 t) $$ [HH HA]
  · isplitl [HH]; · iexact HH
    iexists Y'
    isplitl [HA]; · iexact HA
    ipureintro
    intro y hy
    refine hY' y ?_
    have := (y 0).isLt
    change (y 0).val < 6144 at this
    omega
  iintro ⟨HH, HA⟩
  iapply HK
  isplitl [H8 H0 HV]
  · isplitl [H8]; · iexact H8
    isplitl [H0]; · iexact H0
    iexact HV
  isplitl [HH]; · iexact HH
  isplitl [HA]; · iexact HA
  isplitl [H9]; · iexact H9
  isplitl [H14]
  · iexists _
    iexact H14
  iexact HW

/-- The codes' state before tile `n`: landed before, on the way from there on. -/
def St2 (n : ℕ) (t : Fin k0_t2_loop.trips) : sProp 𝕄 := if t.val < n then LandX c X arg0 arg8 arg21 t else FlyX c X arg0 arg8 arg21 t

/-- The invariant of the tiles' loop. -/
def Inv2 (n : ℕ) : sProp 𝕄 :=
  iprop(bigSep Finset.univ (St2 c X arg0 arg8 arg21 n) ∗ Rest2 c X Sc W I G arg9 arg11 arg12 arg13 arg14 arg15 arg16 arg17 arg18 n)

theorem tile_step (t : Fin k0_t2_loop.trips) :
    Inv2 c X Sc W I G arg0 arg8 arg9 arg11 arg12 arg13 arg14 arg15 arg16 arg17 arg18 arg21 t.val
      ⊢ wpP c (headP arg0 harg0 arg8 harg8 arg9 arg14 arg21 t
          (slabsP arg8 arg14 arg15 harg15 t 48 0 (by omega) (tailP arg11 arg12 arg13 arg15 arg16 harg16 arg17 harg17 arg18 t)))
        (fun _ => Inv2 c X Sc W I G arg0 arg8 arg9 arg11 arg12 arg13 arg14 arg15 arg16 arg17 arg18 arg21 (t.val + 1)) := by
  unfold Inv2
  rw [take_one (St2 c X arg0 arg8 arg21 t.val) t, take_one (St2 c X arg0 arg8 arg21 (t.val + 1)) t,
    bigSep_congr (s := Finset.univ.erase t) (Φ := St2 c X arg0 arg8 arg21 (t.val + 1)) (Ψ := St2 c X arg0 arg8 arg21 t.val) (fun u hu => by
      have hne : u.val ≠ t.val := fun h => (Finset.ne_of_mem_erase hu) (Fin.ext h)
      unfold St2
      by_cases h : u.val < t.val
      · rw [if_pos h, if_pos (by omega)]
      · rw [if_neg h, if_neg (by omega)])]
  rw [show St2 c X arg0 arg8 arg21 t.val t = FlyX c X arg0 arg8 arg21 t from if_neg (lt_irrefl _),
    show St2 c X arg0 arg8 arg21 (t.val + 1) t = LandX c X arg0 arg8 arg21 t from if_pos (Nat.lt_succ_self _)]
  iintro ⟨⟨HF, HB⟩, HR⟩
  iapply (tile_wp c X Sc W I G arg0 harg0 arg8 harg8 arg9 arg11 arg12 arg13 arg14 arg15 harg15 arg16 harg16 arg17 harg17 arg18 arg21 t) $$ [HF HR]
  · isplitl [HF] <;> iassumption
  iintro ⟨HL, HR⟩
  isplitl [HL HB]
  · isplitl [HL] <;> iassumption
  iexact HR

end Tile

/-! ## The weight's transpose -/

section Weight
variable (arg10 : Memref sig .tc .vmem S6144x160 .bf16) (arg13 : Memref sig .tc .vmem S160x6144 .bf16) (harg13 : arg13.IsWhole)

/-- The invariant of the transpose's loop: the columns before `512 n` are done. -/
def Inv1 (n : ℕ) : sProp 𝕄 :=
  iprop(own c arg10 Finset.univ W ∗ ∃ Y, own c arg13 Finset.univ Y ∗ ⌜∀ y : S160x6144.Idx, (y 1).val < 512 * n → Y y = wtT W y⌝)

/-- A trip of it. -/
def turnP (t : Fin k0_t1_loop.trips) : Pgm F :=
  .op (.load arg10 (Rect.unit (s := S6144x160) (k0_off1 t) S512x160.size (k0_off1_inb t)).toLoadRect (View.loadsAt_vmem h_S512x160)) fun v =>
  .op (.load arg13 (Rect.unit (s := S160x6144) (k0_off2 t) S160x512.size (k0_off2_inb t)).toLoadRect (View.loadsAt_vmem h_S160x512)) fun _ =>
  .op (.store arg13 (Rect.unit (s := S160x6144) (k0_off2 t) S160x512.size (k0_off2_inb t)) (k0_pay315 v) Finset.univ
    (View.stores_vmem h_S160x512 (harg13.storeExact_slice rfl _ (k0_off2_packedbf16 t)) (fun _ => rfl)) (.inl rfl)) fun _ => .ret ⟨⟩

theorem turn_step (t : Fin k0_t1_loop.trips) :
    Inv1 c W arg10 arg13 t.val ⊢ wpP c (turnP arg10 arg13 harg13 t) (fun _ => Inv1 c W arg10 arg13 (t.val + 1)) := by
  unfold turnP Inv1
  iintro ⟨H10, ⟨%Y, H13, %hY⟩⟩
  iapply (Own.wp_load Variants.none (c : Thread nD τ) none (m := arg10) (D := Finset.univ) (Finset.subset_univ _)) $$ H10
  iintro H10
  iapply (Own.wp_load Variants.none (c : Thread nD τ) none (m := arg13) (D := Finset.univ) (Finset.subset_univ _)) $$ H13
  iintro H13
  iapply (Own.wp_store Variants.none (c : Thread nD τ) none (m := arg13) (D := Finset.univ) (Finset.subset_univ _)) $$ H13
  iintro H13
  rw [wp_ret]
  imodintro
  isplitl [H10]; · iexact H10
  iexists _
  isplitl [H13]; · iexact H13
  ipureintro
  intro y hy
  refine Own.put_done (s := S160x6144) (inb := k0_off2_inb t) (store_wtT t W) y ?_
  by_cases h : (y 1).val < 512 * t.val
  · exact .inr (hY y h)
  · refine .inl ?_
    rw [k0_off2_eq t]
    intro a
    fin_cases a
    · show 0 ≤ (y 0).val ∧ (y 0).val < 0 + 160
      have := (y 0).isLt
      change (y 0).val < 160 at this
      omega
    · show 512 * t.val ≤ (y 1).val ∧ (y 1).val < 512 * t.val + 512
      omega

end Weight

end Cert.Kernel.Land

end
-- ==== Proof.K.Out.lean ====
/- The third loop: the two products, chunk by chunk, each sent out while the next is computed. -/
module

public import proofs.«01_k».proof.Proof.K.Land

@[expose] public section

set_option maxRecDepth 16384

noncomputable section

namespace Cert.Kernel.Out

open Cert.Kernel Cert.Kernel.Gen Cert.Kernel.Steps Cert.Kernel.Values Cert.Kernel.Trip Cert.Kernel.Land
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)

section Chunk
variable (A : FVec F S6144x2048 .bf16) (Wt : Vec F S160x6144 .bf16) (L16 : FVec F S160x2048 .bf16) (LN : FVec F S2048x160 .bf16)
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-! ## Places -/

/-- The semaphore of chunk `t` of either result. -/
abbrev semO (sems : DmaSems sig S2) : DmaSem sig := ((sems.slice (Rect.unit (s := S2) (k0_off260 t) S1.size (k0_off260_inb t))).squeeze S_ squeezes_S1_S_).sem
/-- The chunk's columns of the first result, -/
def colsO : Finset S2048x6144.Idx := (Rect.unit (s := S2048x6144) (k0_off261 t) S2048x512.size (k0_off261_inb t)).set
/-- its rows of the second, -/
def rowsO : Finset S6144x160.Idx := (Rect.unit (s := S6144x160) (k0_off263 t) S512x160.size (k0_off263_inb t)).set
/-- its slot of the first buffer -/
def slot19 : Finset S2x2048x512.Idx := (Rect.unit (s := S2x2048x512) (k0_off262 t) S1x2048x512.size (k0_off262_inb t)).set
/-- and of the second. -/
def slot20 : Finset S2x512x160.Idx := (Rect.unit (s := S2x512x160) (k0_off264 t) S1x512x160.size (k0_off264_inb t)).set

/-- The views of those places. -/
abbrev colsM : Memref sig .tc .hbm S2048x512 .bf16 := arg5.slice (Rect.unit (s := S2048x6144) (k0_off261 t) S2048x512.size (k0_off261_inb t)) (fun _ => rfl)
abbrev rowsM : Memref sig .tc .hbm S512x160 .f32 := arg6.slice (Rect.unit (s := S6144x160) (k0_off263 t) S512x160.size (k0_off263_inb t)) (fun _ => rfl)
abbrev slotM19 : Memref sig .tc .vmem S2048x512 .bf16 :=
  (arg19.slice (Rect.unit (s := S2x2048x512) (k0_off262 t) S1x2048x512.size (k0_off262_inb t)) (fun _ => rfl)).squeeze S2048x512 squeezes_S1x2048x512_S2048x512
abbrev slotM20 : Memref sig .tc .vmem S512x160 .f32 :=
  (arg20.slice (Rect.unit (s := S2x512x160) (k0_off264 t) S1x512x160.size (k0_off264_inb t)) (fun _ => rfl)).squeeze S512x160 squeezes_S1x512x160_S512x160

/-- What a chunk of either result delivers. -/
abbrev N5 : ℕ := arg5.view.ref.dmaCredit S2048x512 .bf16
abbrev N6 : ℕ := arg6.view.ref.dmaCredit S512x160 .f32

/-! ## The chunk's states -/

/-- The chunk's places in the results, at anything, -/
def FreshO : sProp 𝕄 := iprop((∃ Y, own c arg5 (colsO t) Y) ∗ ∃ Y, own c arg6 (rowsO t) Y)
/-- at the results, -/
def LandO : sProp 𝕄 := iprop(own c arg5 (colsO t) (dxT LN Wt) ∗ own c arg6 (rowsO t) (dwT L16 A))
/-- the slots and semaphores the chunk takes, free, -/
def FreeO : sProp 𝕄 := iprop(zeroed c (semO t arg23) ∗ zeroed c (semO t arg24) ∗ (∃ Y, own c arg19 (slot19 t) Y) ∗ ∃ Y, own c arg20 (slot20 t) Y)
/-- and the chunk on its way. -/
def FlyO : sProp 𝕄 :=
  iprop(Fly c (semO t arg23) (N5 arg5) iprop(own c arg5 (colsO t) (dxT LN Wt) ∗ ∃ Y, own c arg19 (slot19 t) Y)
    ∗ Fly c (semO t arg24) (N6 arg6) iprop(own c arg6 (rowsO t) (dwT L16 A) ∗ ∃ Y, own c arg20 (slot20 t) Y))

/-- The operands of the products, complete. -/
def Ops : sProp 𝕄 :=
  iprop(own c arg13 Finset.univ Wt ∗ own c arg15 Finset.univ A ∗ own c arg16 Finset.univ L16 ∗ own c arg17 Finset.univ LN)

/-! ## The trip -/

/-- The products of chunk `t` stored in its slots and sent out. -/
def chunkP : Pgm F :=
  .op (.load arg17 (Rect.unit (s := S2048x160) ![0, 0] S2048x160.size inb_S2048x160_S2048x160_0_0).toLoadRect (View.loadsAt_vmem h_S2048x160)) fun l =>
  .op (.load arg13 (Rect.unit (s := S160x6144) (k0_off256 t) S160x512.size (k0_off256_inb t)).toLoadRect (View.loadsAt_vmem h_S160x512)) fun w =>
  .op (.load arg19 (Rect.unit (s := S2x2048x512) (k0_off257 t) S1x2048x512.size (k0_off257_inb t)).toLoadRect (View.loadsAt_vmem h_S1x2048x512)) fun _ =>
  .op (.store arg19 (Rect.unit (s := S2x2048x512) (k0_off257 t) S1x2048x512.size (k0_off257_inb t)) (k0_pay313 l w) Finset.univ
    (View.stores_vmem h_S1x2048x512 (harg19.storeExact_slice rfl _ (k0_off257_packedbf16 t)) (fun _ => rfl)) (.inl rfl)) fun _ =>
  .op (.load arg16 (Rect.unit (s := S160x2048) ![0, 0] S160x2048.size inb_S160x2048_S160x2048_0_0).toLoadRect (View.loadsAt_vmem h_S160x2048)) fun l =>
  .op (.load arg15 (Rect.unit (s := S6144x2048) (k0_off258 t) S512x2048.size (k0_off258_inb t)).toLoadRect (View.loadsAt_vmem h_S512x2048)) fun a =>
  .op (.load arg20 (Rect.unit (s := S2x512x160) (k0_off259 t) S1x512x160.size (k0_off259_inb t)).toLoadRect (View.loadsAt_vmem h_S1x512x160)) fun _ =>
  .op (.store arg20 (Rect.unit (s := S2x512x160) (k0_off259 t) S1x512x160.size (k0_off259_inb t)) (k0_pay314 l a) Finset.univ
    (View.stores_vmem_bits_univ h_S1x512x160 rfl) (.inl rfl)) fun _ =>
  .op (.enqueueDma (slotM19 arg19 t) (.here (colsM arg5 t)) (.dma (semO t arg23))
    ((harg19.wordExact_slice rfl _ (k0_off262_wordsbf16 t)).reshape _ _) (harg5.wordExact_slice rfl _ (k0_off261_wordsbf16 t)) ⟨Or.inl rfl, trivial⟩) fun _ =>
  .op (.enqueueDma (slotM20 arg20 t) (.here (rowsM arg6 t)) (.dma (semO t arg24))
    ((View.wordExact_bits rfl).reshape _ _) (View.wordExact_bits rfl) ⟨Or.inl rfl, trivial⟩) fun _ => .ret ⟨⟩

/-- A slot's rectangle as it is written is the one it is sent from. -/
theorem slot19_eq : (Rect.unit (s := S2x2048x512) (k0_off257 t) S1x2048x512.size (k0_off257_inb t)).set = slot19 t := by
  ext y
  unfold slot19
  rw [Rect.mem_set_unit, Rect.mem_set_unit, k0_off257_eq, k0_off262_eq]
theorem slot20_eq : (Rect.unit (s := S2x512x160) (k0_off259 t) S1x512x160.size (k0_off259_inb t)).set = slot20 t := by
  ext y
  unfold slot20
  rw [Rect.mem_set_unit, Rect.mem_set_unit, k0_off259_eq, k0_off264_eq]

theorem send5_wp (Y : Vec F S2x2048x512 .bf16) (T : Vec F S2048x6144 .bf16)
    (hT : ∀ y : S2048x512.Idx, Y ((Rect.unit (s := S2x2048x512) (k0_off262 t) S1x2048x512.size (k0_off262_inb t)).emb (Shape.reshapeEquiv squeezes_S1x2048x512_S2048x512.numel_eq y))
      = T ((Rect.unit (s := S2048x6144) (k0_off261 t) S2048x512.size (k0_off261_inb t)).emb y)) (k : Pgm F) (Q : Unit → sProp 𝕄) :
    iprop(own c arg19 (slot19 t) Y ∗ (∃ Z, own c arg5 (colsO t) Z) ∗ zeroed c (semO t arg23))
      ⊢ iprop((Fly c (semO t arg23) (N5 arg5) iprop(own c arg5 (colsO t) T ∗ ∃ Y, own c arg19 (slot19 t) Y) -∗ wpP c k Q)
        -∗ wpP c (.op (.enqueueDma (slotM19 arg19 t) (.here (colsM arg5 t)) (.dma (semO t arg23))
          ((harg19.wordExact_slice rfl _ (k0_off262_wordsbf16 t)).reshape _ _) (harg5.wordExact_slice rfl _ (k0_off261_wordsbf16 t)) ⟨Or.inl rfl, trivial⟩) fun _ => k) Q) := by
  have hs : ∀ Y, own c arg19 (slot19 t) Y = (Own.Hold (c : Thread nD τ) (slotM19 arg19 t).view
      (fun y => Y ((Rect.unit (s := S2x2048x512) (k0_off262 t) S1x2048x512.size (k0_off262_inb t)).emb (Shape.reshapeEquiv squeezes_S1x2048x512_S2048x512.numel_eq y))) : sProp 𝕄) := fun Y =>
    (Own.hold_squeeze (c : Thread nD τ) arg19 (Rect.unit (s := S2x2048x512) (k0_off262 t) S1x2048x512.size (k0_off262_inb t)) squeezes_S1x2048x512_S2048x512.numel_eq Y).symm
  have hd : ∀ Z, own c arg5 (colsO t) Z = (Own.Hold (c : Thread nD τ) (colsM arg5 t).view
      (fun y => Z ((Rect.unit (s := S2048x6144) (k0_off261 t) S2048x512.size (k0_off261_inb t)).emb y)) : sProp 𝕄) := fun Z =>
    (Own.hold_slice (c : Thread nD τ) arg5 (Rect.unit (s := S2048x6144) (k0_off261 t) S2048x512.size (k0_off261_inb t)) Z).symm
  have hdel : iprop(Own.Hold (c : Thread nD τ) (colsM arg5 t).view (fun y => T ((Rect.unit (s := S2048x6144) (k0_off261 t) S2048x512.size (k0_off261_inb t)).emb y))
      ∗ Own.Hold (c : Thread nD τ) (slotM19 arg19 t).view (fun y => T ((Rect.unit (s := S2048x6144) (k0_off261 t) S2048x512.size (k0_off261_inb t)).emb y)))
      ⊢ (iprop(own c arg5 (colsO t) T ∗ ∃ Y, own c arg19 (slot19 t) Y) : sProp 𝕄) := by
    rw [hd T, ← funext hT, ← hs Y]
    iintro ⟨HD, HS⟩
    isplitl [HD]; · iexact HD
    iexists Y
    iexact HS
  have h := fun Z : Vec F S2048x6144 .bf16 => Own.wp_dma (Q := Q) (defs := defs₀ (F := F)) Variants.none (c : Thread nD τ) none EC
    (src := slotM19 arg19 t) (dst := colsM arg5 t) (sm := semO t arg23)
    (hsrc := (harg19.wordExact_slice rfl _ (k0_off262_wordsbf16 t)).reshape _ _) (hdst := harg5.wordExact_slice rfl _ (k0_off261_wordsbf16 t)) (hsem := ⟨Or.inl rfl, trivial⟩)
    (k := fun _ => k) () (N5 arg5) rfl (View.dmaCredit_pos (colsM arg5 t).view (by decide))
    (fun y => T ((Rect.unit (s := S2048x6144) (k0_off261 t) S2048x512.size (k0_off261_inb t)).emb y))
    (fun y => Z ((Rect.unit (s := S2048x6144) (k0_off261 t) S2048x512.size (k0_off261_inb t)).emb y))
    iprop(own c arg5 (colsO t) T ∗ ∃ Y, own c arg19 (slot19 t) Y) hdel
  rw [hs Y, funext hT]
  iintro ⟨HS, ⟨%Z, HD⟩, HV⟩
  iapply (h Z)
  isplitl [HS]; · iexact HS
  isplitl [HD]; · iapply (Entails.of_eq (hd Z)) $$ HD
  iexact HV

theorem send6_wp (Y : Vec F S2x512x160 .f32) (T : Vec F S6144x160 .f32)
    (hT : ∀ y : S512x160.Idx, Y ((Rect.unit (s := S2x512x160) (k0_off264 t) S1x512x160.size (k0_off264_inb t)).emb (Shape.reshapeEquiv squeezes_S1x512x160_S512x160.numel_eq y))
      = T ((Rect.unit (s := S6144x160) (k0_off263 t) S512x160.size (k0_off263_inb t)).emb y)) (k : Pgm F) (Q : Unit → sProp 𝕄) :
    iprop(own c arg20 (slot20 t) Y ∗ (∃ Z, own c arg6 (rowsO t) Z) ∗ zeroed c (semO t arg24))
      ⊢ iprop((Fly c (semO t arg24) (N6 arg6) iprop(own c arg6 (rowsO t) T ∗ ∃ Y, own c arg20 (slot20 t) Y) -∗ wpP c k Q)
        -∗ wpP c (.op (.enqueueDma (slotM20 arg20 t) (.here (rowsM arg6 t)) (.dma (semO t arg24))
          ((View.wordExact_bits rfl).reshape _ _) (View.wordExact_bits rfl) ⟨Or.inl rfl, trivial⟩) fun _ => k) Q) := by
  have hs : ∀ Y, own c arg20 (slot20 t) Y = (Own.Hold (c : Thread nD τ) (slotM20 arg20 t).view
      (fun y => Y ((Rect.unit (s := S2x512x160) (k0_off264 t) S1x512x160.size (k0_off264_inb t)).emb (Shape.reshapeEquiv squeezes_S1x512x160_S512x160.numel_eq y))) : sProp 𝕄) := fun Y =>
    (Own.hold_squeeze (c : Thread nD τ) arg20 (Rect.unit (s := S2x512x160) (k0_off264 t) S1x512x160.size (k0_off264_inb t)) squeezes_S1x512x160_S512x160.numel_eq Y).symm
  have hd : ∀ Z, own c arg6 (rowsO t) Z = (Own.Hold (c : Thread nD τ) (rowsM arg6 t).view
      (fun y => Z ((Rect.unit (s := S6144x160) (k0_off263 t) S512x160.size (k0_off263_inb t)).emb y)) : sProp 𝕄) := fun Z =>
    (Own.hold_slice (c : Thread nD τ) arg6 (Rect.unit (s := S6144x160) (k0_off263 t) S512x160.size (k0_off263_inb t)) Z).symm
  have hdel : iprop(Own.Hold (c : Thread nD τ) (rowsM arg6 t).view (fun y => T ((Rect.unit (s := S6144x160) (k0_off263 t) S512x160.size (k0_off263_inb t)).emb y))
      ∗ Own.Hold (c : Thread nD τ) (slotM20 arg20 t).view (fun y => T ((Rect.unit (s := S6144x160) (k0_off263 t) S512x160.size (k0_off263_inb t)).emb y)))
      ⊢ (iprop(own c arg6 (rowsO t) T ∗ ∃ Y, own c arg20 (slot20 t) Y) : sProp 𝕄) := by
    rw [hd T, ← funext hT, ← hs Y]
    iintro ⟨HD, HS⟩
    isplitl [HD]; · iexact HD
    iexists Y
    iexact HS
  have h := fun Z : Vec F S6144x160 .f32 => Own.wp_dma (Q := Q) (defs := defs₀ (F := F)) Variants.none (c : Thread nD τ) none EC
    (src := slotM20 arg20 t) (dst := rowsM arg6 t) (sm := semO t arg24)
    (hsrc := (View.wordExact_bits rfl).reshape _ _) (hdst := View.wordExact_bits rfl) (hsem := ⟨Or.inl rfl, trivial⟩)
    (k := fun _ => k) () (N6 arg6) rfl (View.dmaCredit_pos (rowsM arg6 t).view (by decide))
    (fun y => T ((Rect.unit (s := S6144x160) (k0_off263 t) S512x160.size (k0_off263_inb t)).emb y))
    (fun y => Z ((Rect.unit (s := S6144x160) (k0_off263 t) S512x160.size (k0_off263_inb t)).emb y))
    iprop(own c arg6 (rowsO t) T ∗ ∃ Y, own c arg20 (slot20 t) Y) hdel
  rw [hs Y, funext hT]
  iintro ⟨HS, ⟨%Z, HD⟩, HV⟩
  iapply (h Z)
  isplitl [HS]; · iexact HS
  isplitl [HD]; · iapply (Entails.of_eq (hd Z)) $$ HD
  iexact HV

theorem chunk_wp (Q : Unit → sProp 𝕄) :
    iprop(Ops c A Wt L16 LN arg13 arg15 arg16 arg17 ∗ FreeO c arg19 arg20 arg23 arg24 t ∗ FreshO c arg5 arg6 t)
      ⊢ iprop((iprop(Ops c A Wt L16 LN arg13 arg15 arg16 arg17 ∗ FlyO c A Wt L16 LN arg5 arg6 arg19 arg20 arg23 arg24 t) -∗ Q ⟨⟩)
        -∗ wpP c (chunkP arg5 harg5 arg6 arg13 arg15 arg16 arg17 arg19 harg19 arg20 arg23 arg24 t) Q) := by
  unfold chunkP Ops FreeO FreshO FlyO
  iintro ⟨⟨H13, H15, H16, H17⟩, ⟨HV5, HV6, ⟨%Y, H19⟩, ⟨%Z, H20⟩⟩, ⟨H5, H6⟩⟩ HK
  iapply (Own.wp_load_full Variants.none (c : Thread nD τ) none (m := arg17)) $$ H17
  iintro H17
  iapply (Own.wp_load Variants.none (c : Thread nD τ) none (m := arg13) (D := Finset.univ) (Finset.subset_univ _)) $$ H13
  iintro H13
  iapply (Own.wp_load Variants.none (c : Thread nD τ) none (m := arg19) (D := slot19 t) (slot19_eq t).subset) $$ H19
  iintro H19
  iapply (Own.wp_store Variants.none (c : Thread nD τ) none (m := arg19) (D := slot19 t) (slot19_eq t).subset) $$ H19
  iintro H19
  iapply (Own.wp_load_full Variants.none (c : Thread nD τ) none (m := arg16)) $$ H16
  iintro H16
  iapply (Own.wp_load Variants.none (c : Thread nD τ) none (m := arg15) (D := Finset.univ) (Finset.subset_univ _)) $$ H15
  iintro H15
  iapply (Own.wp_load Variants.none (c : Thread nD τ) none (m := arg20) (D := slot20 t) (slot20_eq t).subset) $$ H20
  iintro H20
  iapply (Own.wp_store Variants.none (c : Thread nD τ) none (m := arg20) (D := slot20 t) (slot20_eq t).subset) $$ H20
  iintro H20
  rw [window_w, window_ac]
  iapply (send5_wp c arg5 harg5 arg19 harg19 arg23 t _ (dxT LN Wt) (out_dx t LN Wt Y)) $$ [H19 H5 HV5]
  · isplitl [H19]; · iexact H19
    isplitl [H5]; · iexact H5
    iexact HV5
  iintro HF5
  iapply (send6_wp c arg6 arg20 arg24 t _ (dwT L16 A) (out_dw t L16 A Z)) $$ [H20 H6 HV6]
  · isplitl [H20]; · iexact H20
    isplitl [H6]; · iexact H6
    iexact HV6
  iintro HF6
  unfold wpP
  rw [wp_ret]
  imodintro
  iapply HK
  isplitl [H13 H15 H16 H17]
  · isplitl [H13]; · iexact H13
    isplitl [H15]; · iexact H15
    isplitl [H16]; · iexact H16
    iexact H17
  isplitl [HF5]; · iexact HF5
  iexact HF6

end Chunk

end Cert.Kernel.Out

end
-- ==== Proof.K.Drain.lean ====
/- The third loop's waits and its invariant. -/
module

public import proofs.«01_k».proof.Proof.K.Out

@[expose] public section

set_option maxRecDepth 16384

noncomputable section

namespace Cert.Kernel.Drain

open Cert.Kernel Cert.Kernel.Gen Cert.Kernel.Steps Cert.Kernel.Values Cert.Kernel.Trip Cert.Kernel.Land Cert.Kernel.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)

section Chunk
variable (A : FVec F S6144x2048 .bf16) (Wt : Vec F S160x6144 .bf16) (L16 : FVec F S160x2048 .bf16) (LN : FVec F S2048x160 .bf16)
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-! ## A slot's chunk awaited -/

theorem sem_congr (sems : DmaSems sig S2) {off : Fin 1 → ℕ} (inb : ∀ a, off a + S1.size a ≤ S2.size a) (h : off = ![t.val % 2]) :
    ((sems.slice (Rect.unit (s := S2) off S1.size inb)).squeeze S_ squeezes_S1_S_).sem = semO t sems := by
  have e := SemArray.slice_unit_congr sems (h.trans (k0_off260_eq t).symm) inb (k0_off260_inb t)
  unfold semO
  rw [e]

/-- Chunks of one parity share slots and semaphores. -/
theorem Free_congr {u t : Fin k0_t3_loop.trips} (h : u.val % 2 = t.val % 2) :
    (FreeO c arg19 arg20 arg23 arg24 u : sProp 𝕄) = FreeO c arg19 arg20 arg23 arg24 t := by
  have e19 : slot19 u = slot19 t := by
    ext y
    unfold slot19
    rw [Rect.mem_set_unit, Rect.mem_set_unit, k0_off262_eq, k0_off262_eq, h]
  have e20 : slot20 u = slot20 t := by
    ext y
    unfold slot20
    rw [Rect.mem_set_unit, Rect.mem_set_unit, k0_off264_eq, k0_off264_eq, h]
  have es : ∀ sems : DmaSems sig S2, semO u sems = semO t sems := fun sems => sem_congr t sems (k0_off260_inb u) ((k0_off260_eq u).trans (by rw [h]))
  unfold FreeO
  rw [e19, e20, es, es]

/-- Both results' transfers of chunk `u` awaited. -/
theorem drain_wp (u : Fin k0_t3_loop.trips) {s5 s6 : DmaSem sig} (h5 : s5 = semO u arg23) (h6 : s6 = semO u arg24)
    {sh5 sh6 : Shape} {e5 e6 : EltTy} {sp5 sp6 : Space} {src5 : Memref sig .tc sp5 sh5 e5} {src6 : Memref sig .tc sp6 sh6 e6}
    {dst5 : Memref sig .tc .hbm S2048x512 .bf16} {dst6 : Memref sig .tc .hbm S512x160 .f32} {w5 : src5.view.WordExact} {w5' : dst5.view.WordExact} {w6 : src6.view.WordExact} {w6' : dst6.view.WordExact}
    (hN5 : dst5.view.dmaCredit = (N5 arg5)) (hN6 : dst6.view.dmaCredit = (N6 arg6)) (k : Pgm F) (Q : Unit → sProp 𝕄) :
    iprop(FlyO c A Wt L16 LN arg5 arg6 arg19 arg20 arg23 arg24 u ∗ debts c)
      ⊢ iprop((iprop(LandO c A Wt L16 LN arg5 arg6 u ∗ FreeO c arg19 arg20 arg23 arg24 u ∗ debts c) -∗ wpP c k Q)
        -∗ wpP c (.op (.waitDma2 s5 src5 dst5 w5 w5') fun _ => .op (.waitDma2 s6 src6 dst6 w6 w6') fun _ => k) Q) := by
  subst h5 h6
  unfold FlyO LandO FreeO
  iintro ⟨⟨HF5, HF6⟩, HW⟩ HK
  iapply (await_wp c (sm := semO u arg23) (dst := dst5) hN5) $$ [HF5 HW]
  · isplitl [HF5] <;> iassumption
  iintro ⟨⟨H5, H19⟩, HV5, HW⟩
  iapply (await_wp c (sm := semO u arg24) (dst := dst6) hN6) $$ [HF6 HW]
  · isplitl [HF6] <;> iassumption
  iintro ⟨⟨H6, H20⟩, HV6, HW⟩
  iapply HK
  isplitl [H5 H6]
  · isplitl [H5] <;> iassumption
  isplitl [HV5 HV6 H19 H20]
  · isplitl [HV5]; · iexact HV5
    isplitl [HV6]; · iexact HV6
    isplitl [H19] <;> iassumption
  iexact HW

/-- The waits a trip opens with from the third on: for the chunk two before. -/
def waitP (h : k0_cond1 t = 1#1) : Pgm F :=
  .op (.waitDma2 ((arg23.slice (Rect.unit (s := S2) (k0_off251 t) S1.size (k0_off251_inb t h))).squeeze S_ squeezes_S1_S_).sem
    ((arg19.slice (Rect.unit (s := S2x2048x512) (k0_off253 t) S1x2048x512.size (k0_off253_inb t h)) (fun _ => rfl)).squeeze S2048x512 squeezes_S1x2048x512_S2048x512)
    (arg5.slice (Rect.unit (s := S2048x6144) (k0_off252 t) S2048x512.size (k0_off252_inb t h)) (fun _ => rfl))
    ((harg19.wordExact_slice rfl _ (k0_off253_wordsbf16 t h)).reshape _ _) (harg5.wordExact_slice rfl _ (k0_off252_wordsbf16 t h))) fun _ =>
  .op (.waitDma2 ((arg24.slice (Rect.unit (s := S2) (k0_off251 t) S1.size (k0_off251_inb t h))).squeeze S_ squeezes_S1_S_).sem
    ((arg20.slice (Rect.unit (s := S2x512x160) (k0_off255 t) S1x512x160.size (k0_off255_inb t h)) (fun _ => rfl)).squeeze S512x160 squeezes_S1x512x160_S512x160)
    (arg6.slice (Rect.unit (s := S6144x160) (k0_off254 t) S512x160.size (k0_off254_inb t h)) (fun _ => rfl))
    ((View.wordExact_bits rfl).reshape _ _) (View.wordExact_bits rfl)) fun _ => .ret ⟨⟩

/-- The trip: the waits where there are any, then the chunk. -/
def tripO : Pgm F :=
  (if h : k0_cond1 t = 1#1 then waitP arg5 harg5 arg6 arg19 harg19 arg20 arg23 arg24 t h else .ret ⟨⟩) >>= fun _ =>
    chunkP arg5 harg5 arg6 arg13 arg15 arg16 arg17 arg19 harg19 arg20 arg23 arg24 t

theorem cond_iff : ∀ t : Fin k0_t3_loop.trips, k0_cond1 t = 1#1 ↔ 2 ≤ t.val := by decide +kernel

/-! ## The invariant -/

/-- Chunk `t` before trip `n`. -/
def St3 (n : ℕ) (t : Fin k0_t3_loop.trips) : sProp 𝕄 :=
  if t.val + 2 < n then LandO c A Wt L16 LN arg5 arg6 t
  else if t.val < n then FlyO c A Wt L16 LN arg5 arg6 arg19 arg20 arg23 arg24 t else FreshO c arg5 arg6 t

/-- The slots no chunk has taken before trip `n`. -/
def Fr3 (n : ℕ) (t : Fin k0_t3_loop.trips) : sProp 𝕄 := if t.val < 2 ∧ n ≤ t.val then FreeO c arg19 arg20 arg23 arg24 t else iprop(emp)

/-- The invariant of the chunks' loop. -/
def Inv3 (n : ℕ) : sProp 𝕄 :=
  iprop(bigSep Finset.univ (St3 c A Wt L16 LN arg5 arg6 arg19 arg20 arg23 arg24 n) ∗ bigSep Finset.univ (Fr3 c arg19 arg20 arg23 arg24 n)
    ∗ Ops c A Wt L16 LN arg13 arg15 arg16 arg17 ∗ debts c)

theorem take_two {T : Type} [Fintype T] [DecidableEq T] (Φ : T → sProp (MT nD τ sig Unit (Elt F) ℕ (Pipeline.UD sig nD τ) ℕ)) {t u : T} (h : u ≠ t) :
    bigSep Finset.univ Φ = iprop(Φ t ∗ Φ u ∗ bigSep ((Finset.univ.erase t).erase u) Φ) := by
  rw [take_one Φ t]
  rw [show bigSep (Finset.univ.erase t) Φ = iprop(Φ u ∗ bigSep ((Finset.univ.erase t).erase u) Φ) from bigSep_erase (Finset.mem_erase.mpr ⟨h, Finset.mem_univ u⟩)]

theorem chunk_step :
    Inv3 c A Wt L16 LN arg5 arg6 arg13 arg15 arg16 arg17 arg19 arg20 arg23 arg24 t.val
      ⊢ wpP c (tripO arg5 harg5 arg6 arg13 arg15 arg16 arg17 arg19 harg19 arg20 arg23 arg24 t)
        (fun _ => Inv3 c A Wt L16 LN arg5 arg6 arg13 arg15 arg16 arg17 arg19 arg20 arg23 arg24 (t.val + 1)) := by
  have hfresh : St3 c A Wt L16 LN arg5 arg6 arg19 arg20 arg23 arg24 t.val t = FreshO c arg5 arg6 t := by
    unfold St3
    rw [if_neg (by omega), if_neg (by omega)]
  have hfly : St3 c A Wt L16 LN arg5 arg6 arg19 arg20 arg23 arg24 (t.val + 1) t = FlyO c A Wt L16 LN arg5 arg6 arg19 arg20 arg23 arg24 t := by
    unfold St3
    rw [if_neg (by omega), if_pos (by omega)]
  unfold tripO Inv3 wpP
  by_cases h : 2 ≤ t.val
  · rw [dif_pos ((cond_iff t).mpr h), wp_bind]
    let u : Fin k0_t3_loop.trips := ⟨t.val - 2, by omega⟩
    have hu : u.val + 2 = t.val := by show t.val - 2 + 2 = t.val; omega
    have hut : u ≠ t := fun e => by have := congrArg Fin.val e; omega
    rw [take_two (St3 c A Wt L16 LN arg5 arg6 arg19 arg20 arg23 arg24 t.val) hut, take_two (St3 c A Wt L16 LN arg5 arg6 arg19 arg20 arg23 arg24 (t.val + 1)) hut, hfresh, hfly,
      show St3 c A Wt L16 LN arg5 arg6 arg19 arg20 arg23 arg24 t.val u = FlyO c A Wt L16 LN arg5 arg6 arg19 arg20 arg23 arg24 u from by
        unfold St3; rw [if_neg (by omega), if_pos (by omega)],
      show St3 c A Wt L16 LN arg5 arg6 arg19 arg20 arg23 arg24 (t.val + 1) u = LandO c A Wt L16 LN arg5 arg6 u from by
        unfold St3; rw [if_pos (by omega)],
      bigSep_congr (s := (Finset.univ.erase t).erase u) (Φ := St3 c A Wt L16 LN arg5 arg6 arg19 arg20 arg23 arg24 (t.val + 1)) (Ψ := St3 c A Wt L16 LN arg5 arg6 arg19 arg20 arg23 arg24 t.val) (fun v hv => by
        have h1 : v.val ≠ u.val := fun e => (Finset.ne_of_mem_erase hv) (Fin.ext e)
        have h2 : v.val ≠ t.val := fun e => (Finset.ne_of_mem_erase (Finset.mem_of_mem_erase hv)) (Fin.ext e)
        unfold St3
        by_cases h3 : v.val + 2 < t.val
        · rw [if_pos h3, if_pos (by omega)]
        · by_cases h4 : v.val < t.val
          · rw [if_neg h3, if_neg (by omega), if_pos h4, if_pos (by omega)]
          · rw [if_neg h3, if_neg (by omega), if_neg h4, if_neg (by omega)]),
      bigSep_congr (s := Finset.univ) (Φ := Fr3 c arg19 arg20 arg23 arg24 (t.val + 1)) (Ψ := Fr3 c arg19 arg20 arg23 arg24 t.val) (fun v hv => by
        unfold Fr3
        rw [if_neg (by omega), if_neg (by omega)])]
    iintro ⟨⟨HX, HF, HB⟩, HFr, HO, HW⟩
    unfold waitP
    iapply (drain_wp c A Wt L16 LN arg5 arg6 arg19 arg20 arg23 arg24 u
      (sem_congr u arg23 (k0_off251_inb t ((cond_iff t).mpr h)) ((k0_off251_eq t).trans (by rw [← hu, Nat.add_mod_right])))
      (sem_congr u arg24 (k0_off251_inb t ((cond_iff t).mpr h)) ((k0_off251_eq t).trans (by rw [← hu, Nat.add_mod_right]))) rfl rfl) $$ [HF HW]
    · isplitl [HF] <;> iassumption
    rw [Free_congr c arg19 arg20 arg23 arg24 (u := u) (t := t) (by rw [← hu, Nat.add_mod_right])]
    iintro ⟨HL, HFree, HW⟩
    unfold wpP
    rw [wp_ret]
    imodintro
    iapply (chunk_wp c A Wt L16 LN arg5 harg5 arg6 arg13 arg15 arg16 arg17 arg19 harg19 arg20 arg23 arg24 t) $$ [HO HFree HX]
    · isplitl [HO]; · iexact HO
      isplitl [HFree]; · iexact HFree
      iexact HX
    iintro ⟨HO, HF⟩
    isplitl [HF HL HB]
    · isplitl [HF]; · iexact HF
      isplitl [HL]; · iexact HL
      iexact HB
    isplitl [HFr]; · iexact HFr
    isplitl [HO]; · iexact HO
    iexact HW
  · rw [dif_neg (fun e => h ((cond_iff t).mp e)), wp_bind, wp_ret]
    rw [take_one (St3 c A Wt L16 LN arg5 arg6 arg19 arg20 arg23 arg24 t.val) t, take_one (St3 c A Wt L16 LN arg5 arg6 arg19 arg20 arg23 arg24 (t.val + 1)) t, hfresh, hfly,
      take_one (Fr3 c arg19 arg20 arg23 arg24 t.val) t, take_one (Fr3 c arg19 arg20 arg23 arg24 (t.val + 1)) t,
      show (Fr3 c arg19 arg20 arg23 arg24 t.val t : sProp 𝕄) = FreeO c arg19 arg20 arg23 arg24 t from if_pos (by omega),
      show (Fr3 c arg19 arg20 arg23 arg24 (t.val + 1) t : sProp 𝕄) = iprop(emp) from if_neg (by omega),
      bigSep_congr (s := Finset.univ.erase t) (Φ := St3 c A Wt L16 LN arg5 arg6 arg19 arg20 arg23 arg24 (t.val + 1)) (Ψ := St3 c A Wt L16 LN arg5 arg6 arg19 arg20 arg23 arg24 t.val) (fun v hv => by
        have h2 : v.val ≠ t.val := fun e => (Finset.ne_of_mem_erase hv) (Fin.ext e)
        unfold St3
        by_cases h4 : v.val < t.val
        · rw [if_neg (show ¬ v.val + 2 < t.val + 1 by omega), if_neg (show ¬ v.val + 2 < t.val by omega), if_pos h4, if_pos (by omega)]
        · rw [if_neg (show ¬ v.val + 2 < t.val + 1 by omega), if_neg (show ¬ v.val + 2 < t.val by omega), if_neg h4, if_neg (by omega)]),
      bigSep_congr (s := Finset.univ.erase t) (Φ := Fr3 c arg19 arg20 arg23 arg24 (t.val + 1)) (Ψ := Fr3 c arg19 arg20 arg23 arg24 t.val) (fun v hv => by
        have h2 : v.val ≠ t.val := fun e => (Finset.ne_of_mem_erase hv) (Fin.ext e)
        unfold Fr3
        by_cases h4 : v.val < 2 ∧ t.val ≤ v.val
        · rw [if_pos h4, if_pos (by omega)]
        · rw [if_neg h4, if_neg (by omega)])]
    iintro ⟨⟨HX, HB⟩, ⟨HFree, HFr⟩, HO, HW⟩
    imodintro
    iapply (chunk_wp c A Wt L16 LN arg5 harg5 arg6 arg13 arg15 arg16 arg17 arg19 harg19 arg20 arg23 arg24 t) $$ [HO HFree HX]
    · isplitl [HO]; · iexact HO
      isplitl [HFree]; · iexact HFree
      iexact HX
    iintro ⟨HO, HF⟩
    isplitl [HF HB]
    · isplitl [HF]; · iexact HF
      iexact HB
    isplitl [HFr]
    · isplitr
      · iempintro
      iexact HFr
    isplitl [HO]; · iexact HO
    iexact HW

end Chunk

end Cert.Kernel.Drain

end
-- ==== Proof.K.Program.lean ====
/- The region's program between its loops: the transfers in, the waits, the transfers out. -/
module

public import proofs.«01_k».proof.Proof.K.Drain

@[expose] public section

set_option maxRecDepth 16384

noncomputable section

namespace Cert.Kernel.Program

open Cert.Kernel Cert.Kernel.Gen Cert.Kernel.Steps Cert.Kernel.Values Cert.Kernel.Trip Cert.Kernel.Land Cert.Kernel.Out Cert.Kernel.Drain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- Semaphore `i` of the four whole arrays' transfers. -/
abbrev in0 (arg22 : DmaSems sig S4) : DmaSem sig := ((arg22.slice (Rect.unit (s := S4) ![0] S1.size inb_S4_S1_0)).squeeze S_ squeezes_S1_S_).sem
abbrev in1 (arg22 : DmaSems sig S4) : DmaSem sig := ((arg22.slice (Rect.unit (s := S4) ![1] S1.size inb_S4_S1_1)).squeeze S_ squeezes_S1_S_).sem
abbrev in2 (arg22 : DmaSems sig S4) : DmaSem sig := ((arg22.slice (Rect.unit (s := S4) ![2] S1.size inb_S4_S1_2)).squeeze S_ squeezes_S1_S_).sem
abbrev in3 (arg22 : DmaSems sig S4) : DmaSem sig := ((arg22.slice (Rect.unit (s := S4) ![3] S1.size inb_S4_S1_3)).squeeze S_ squeezes_S1_S_).sem

/-- A tile's number, and a chunk's. -/
abbrev tile (i : ℕ) (h : i < k0_t2_loop.trips := by decide) : Fin k0_t2_loop.trips := ⟨i, h⟩
abbrev chunk (i : ℕ) (h : i < k0_t3_loop.trips := by decide) : Fin k0_t3_loop.trips := ⟨i, h⟩

section Whole
variable (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)

/-- The transfers in, and the weight awaited. -/
def inP (k : Pgm F) : Pgm F :=
  .op (.enqueueDma arg2 (.here arg10) (.dma (in0 arg22)) harg2.wordExact harg10.wordExact ⟨Or.inl rfl, trivial⟩) fun _ =>
  .op (.enqueueDma arg1 (.here arg9) (.dma (in1 arg22)) harg1.wordExact harg9.wordExact ⟨Or.inl rfl, trivial⟩) fun _ =>
  startX arg0 harg0 arg8 harg8 arg21 (tile 0) <|
  .op (.enqueueDma arg3 (.here arg11) (.dma (in2 arg22)) harg3.wordExact harg11.wordExact ⟨Or.inl rfl, trivial⟩) fun _ =>
  .op (.enqueueDma arg4 (.here arg12) (.dma (in3 arg22)) harg4.wordExact harg12.wordExact ⟨Or.inl rfl, trivial⟩) fun _ =>
  startX arg0 harg0 arg8 harg8 arg21 (tile 1) <|
  startX arg0 harg0 arg8 harg8 arg21 (tile 2) <|
  startX arg0 harg0 arg8 harg8 arg21 (tile 3) <|
  startX arg0 harg0 arg8 harg8 arg21 (tile 4) <|
  startX arg0 harg0 arg8 harg8 arg21 (tile 5) <|
  startX arg0 harg0 arg8 harg8 arg21 (tile 6) <|
  startX arg0 harg0 arg8 harg8 arg21 (tile 7) <|
  .op (.waitDma2 (in0 arg22) arg2 arg10 harg2.wordExact harg10.wordExact) fun _ => k

/-- The scales, the experts and the gates' gradient awaited. -/
def midP (k : Pgm F) : Pgm F :=
  .op (.waitDma2 (in1 arg22) arg1 arg9 harg1.wordExact harg9.wordExact) fun _ =>
  .op (.waitDma2 (in2 arg22) arg3 arg11 harg3.wordExact harg11.wordExact) fun _ =>
  .op (.waitDma2 (in3 arg22) arg4 arg12 harg4.wordExact harg12.wordExact) fun _ => k

/-- The last chunk of even number awaited. -/
def evenP : Pgm F :=
  .op (.waitDma2 ((arg23.slice (Rect.unit (s := S2) ![0] S1.size inb_S2_S1_0)).squeeze S_ squeezes_S1_S_).sem
    ((arg19.slice (Rect.unit (s := S2x2048x512) ![0, 0, 0] S1x2048x512.size inb_S2x2048x512_S1x2048x512_0_0_0) (fun _ => rfl)).squeeze S2048x512 squeezes_S1x2048x512_S2048x512)
    (arg5.slice (Rect.unit (s := S2048x6144) ![0, 5120] S2048x512.size inb_S2048x6144_S2048x512_0_5120) (fun _ => rfl))
    ((harg19.wordExact_slice rfl _ wordsbf16_S2x2048x512_S1x2048x512_0_0_0).reshape _ _) (harg5.wordExact_slice rfl _ wordsbf16_S2048x6144_S2048x512_0_5120)) fun _ =>
  .op (.waitDma2 ((arg24.slice (Rect.unit (s := S2) ![0] S1.size inb_S2_S1_0)).squeeze S_ squeezes_S1_S_).sem
    ((arg20.slice (Rect.unit (s := S2x512x160) ![0, 0, 0] S1x512x160.size inb_S2x512x160_S1x512x160_0_0_0) (fun _ => rfl)).squeeze S512x160 squeezes_S1x512x160_S512x160)
    (arg6.slice (Rect.unit (s := S6144x160) ![5120, 0] S512x160.size inb_S6144x160_S512x160_5120_0) (fun _ => rfl))
    ((View.wordExact_bits rfl).reshape _ _) (View.wordExact_bits rfl)) fun _ => .ret ⟨⟩

/-- The last of odd number, and the gradient of the logits. -/
def oddP : Pgm F :=
  .op (.waitDma2 ((arg23.slice (Rect.unit (s := S2) ![1] S1.size inb_S2_S1_1)).squeeze S_ squeezes_S1_S_).sem
    ((arg19.slice (Rect.unit (s := S2x2048x512) ![1, 0, 0] S1x2048x512.size inb_S2x2048x512_S1x2048x512_1_0_0) (fun _ => rfl)).squeeze S2048x512 squeezes_S1x2048x512_S2048x512)
    (arg5.slice (Rect.unit (s := S2048x6144) ![0, 5632] S2048x512.size inb_S2048x6144_S2048x512_0_5632) (fun _ => rfl))
    ((harg19.wordExact_slice rfl _ wordsbf16_S2x2048x512_S1x2048x512_1_0_0).reshape _ _) (harg5.wordExact_slice rfl _ wordsbf16_S2048x6144_S2048x512_0_5632)) fun _ =>
  .op (.waitDma2 ((arg24.slice (Rect.unit (s := S2) ![1] S1.size inb_S2_S1_1)).squeeze S_ squeezes_S1_S_).sem
    ((arg20.slice (Rect.unit (s := S2x512x160) ![1, 0, 0] S1x512x160.size inb_S2x512x160_S1x512x160_1_0_0) (fun _ => rfl)).squeeze S512x160 squeezes_S1x512x160_S512x160)
    (arg6.slice (Rect.unit (s := S6144x160) ![5632, 0] S512x160.size inb_S6144x160_S512x160_5632_0) (fun _ => rfl))
    ((View.wordExact_bits rfl).reshape _ _) (View.wordExact_bits rfl)) fun _ =>
  .op (.waitDma2 arg25.sem arg18 arg7 harg18.wordExact harg7.wordExact) fun _ => .ret ⟨⟩

/-- The three loops and what lies between. -/
def loopsP : Pgm F :=
  Scf.Loop.for k0_t1_loop k0_t1_ok (⟨⟩ : Unit) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
    midP arg1 harg1 arg3 harg3 arg4 harg4 arg9 harg9 arg11 harg11 arg12 harg12 arg22
      (Scf.Loop.for k0_t2_loop k0_t2_ok (⟨⟩ : Unit) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
        .op (.enqueueDma arg18 (.here arg7) (.dma arg25.sem) harg18.wordExact harg7.wordExact ⟨Or.inl rfl, trivial⟩) fun _ =>
          Scf.Loop.for k0_t3_loop k0_t3_ok (⟨⟩ : Unit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
            evenP arg5 harg5 arg6 arg19 harg19 arg20 arg23 arg24)

end Whole

set_option maxRecDepth 65536 in
theorem body_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) :
    cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25
      = inP arg0 harg0 arg1 harg1 arg2 harg2 arg3 harg3 arg4 harg4 arg8 harg8 arg9 harg9 arg10 harg10 arg11 harg11 arg12 harg12 arg21 arg22
          (k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 >>= fun _ => oddP arg5 harg5 arg6 arg7 harg7 arg18 harg18 arg19 harg19 arg20 arg23 arg24 arg25) := by
  sl_kernel_rfl

set_option maxRecDepth 65536 in
theorem part59_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) :
    k0_part59 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 = loopsP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 := by
  sl_kernel_rfl

theorem turn_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u = turnP arg10 arg13 harg13 t := by
  sl_kernel_rfl

section ChunkHead
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-- A chunk up to its first transfer, -/
def chunkHead : Pgm F :=
  .op (.load arg17 (Rect.unit (s := S2048x160) ![0, 0] S2048x160.size inb_S2048x160_S2048x160_0_0).toLoadRect (View.loadsAt_vmem h_S2048x160)) fun l =>
  .op (.load arg13 (Rect.unit (s := S160x6144) (k0_off256 t) S160x512.size (k0_off256_inb t)).toLoadRect (View.loadsAt_vmem h_S160x512)) fun w =>
  .op (.load arg19 (Rect.unit (s := S2x2048x512) (k0_off257 t) S1x2048x512.size (k0_off257_inb t)).toLoadRect (View.loadsAt_vmem h_S1x2048x512)) fun _ =>
  .op (.store arg19 (Rect.unit (s := S2x2048x512) (k0_off257 t) S1x2048x512.size (k0_off257_inb t)) (k0_pay313 l w) Finset.univ
    (View.stores_vmem h_S1x2048x512 (harg19.storeExact_slice rfl _ (k0_off257_packedbf16 t)) (fun _ => rfl)) (.inl rfl)) fun _ =>
  .op (.load arg16 (Rect.unit (s := S160x2048) ![0, 0] S160x2048.size inb_S160x2048_S160x2048_0_0).toLoadRect (View.loadsAt_vmem h_S160x2048)) fun l =>
  .op (.load arg15 (Rect.unit (s := S6144x2048) (k0_off258 t) S512x2048.size (k0_off258_inb t)).toLoadRect (View.loadsAt_vmem h_S512x2048)) fun a =>
  .op (.load arg20 (Rect.unit (s := S2x512x160) (k0_off259 t) S1x512x160.size (k0_off259_inb t)).toLoadRect (View.loadsAt_vmem h_S1x512x160)) fun _ =>
  .op (.store arg20 (Rect.unit (s := S2x512x160) (k0_off259 t) S1x512x160.size (k0_off259_inb t)) (k0_pay314 l a) Finset.univ
    (View.stores_vmem_bits_univ h_S1x512x160 rfl) (.inl rfl)) fun _ =>
  .op (.enqueueDma (slotM19 arg19 t) (.here (colsM arg5 t)) (.dma (semO t arg23))
    ((harg19.wordExact_slice rfl _ (k0_off262_wordsbf16 t)).reshape _ _) (harg5.wordExact_slice rfl _ (k0_off261_wordsbf16 t)) ⟨Or.inl rfl, trivial⟩) fun _ => .ret ⟨⟩

/-- and its second. -/
def chunkLast : Pgm F :=
  .op (.enqueueDma (slotM20 arg20 t) (.here (rowsM arg6 t)) (.dma (semO t arg24))
    ((View.wordExact_bits rfl).reshape _ _) (View.wordExact_bits rfl) ⟨Or.inl rfl, trivial⟩) fun _ => .ret ⟨⟩

end ChunkHead

theorem part56_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) :
    k0_part56 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t
      = if h : k0_cond1 t = 1#1 then
          (waitP arg5 harg5 arg6 arg19 harg19 arg20 arg23 arg24 t h >>= fun _ => chunkHead arg5 harg5 arg13 arg15 arg16 arg17 arg19 harg19 arg20 arg23 t)
        else chunkHead arg5 harg5 arg13 arg15 arg16 arg17 arg19 harg19 arg20 arg23 t := by
  sl_kernel_rfl

theorem t3_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u = k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t >>= fun _ => chunkLast arg6 arg20 arg24 t := by
  sl_kernel_rfl

theorem chunk_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u
      = tripO arg5 harg5 arg6 arg13 arg15 arg16 arg17 arg19 harg19 arg20 arg23 arg24 t := by
  rw [t3_eq, part56_eq]
  unfold tripO
  by_cases h : k0_cond1 t = 1#1
  · rw [dif_pos h, dif_pos h]
    rfl
  · rw [dif_neg h, dif_neg h]
    rfl

end Cert.Kernel.Program

end
-- ==== Proof.K.Region.lean ====
/- The region run: its three loops, and the whole of it. -/
module

public import proofs.«01_k».proof.Proof.K.Program

@[expose] public section

set_option maxRecDepth 16384

noncomputable section

namespace Cert.Kernel.Region

open Cert.Kernel Cert.Kernel.Gen Cert.Kernel.Steps Cert.Kernel.Values Cert.Kernel.Trip Cert.Kernel.Land Cert.Kernel.Out Cert.Kernel.Drain Cert.Kernel.Program
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)
variable (X : Vec F S2048x6144 .fp8e4m3) (Sc : Vec F S2048x192 .f32) (W : Vec F S6144x160 .bf16) (I : Vec F S2048x6 .i32) (G : Vec F S2048x6 .bf16)

/-- A memref held, at anything. -/
abbrev some_ (c : Dev nD) {sp : Space} {s : Shape} {e : EltTy} (m : Memref sig .tc sp s e) : sProp (MT nD τ sig Unit (Elt F) ℕ (Pipeline.UD sig nD τ) ℕ) :=
  iprop(∃ Y, own c m Finset.univ Y)

theorem trips1 : k0_t1_loop.trips = 12 := by decide
theorem trips2 : k0_t2_loop.trips = 8 := by decide
theorem trips3 : k0_t3_loop.trips = 12 := by decide

/-! ## The places cover their arrays -/

theorem off_axis {s : Shape} {off size : Fin s.rank → ℕ} {inb : ∀ a, off a + size a ≤ s.size a} {y : s.Idx} (h : y ∈ (Rect.unit off size inb).set) (a : Fin s.rank) :
    off a ≤ (y a).val ∧ (y a).val < off a + size a := (Rect.mem_set_unit.mp h) a

theorem rowsX_split (m : Memref sig .tc .hbm S2048x6144 .fp8e4m3) : (own c m Finset.univ X : sProp 𝕄) = bigSep Finset.univ fun t => own c m (rowsX t) X := by
  refine Own.At_split (c : Thread nD τ) m rowsX (fun t t' hne => Finset.disjoint_left.mpr fun y h h' => hne (Fin.ext ?_)) (fun y => ?_) X
  · have a := off_axis h 0
    have a' := off_axis h' 0
    rw [k0_off5_eq] at a a'
    change 256 * t.val ≤ (y 0).val ∧ (y 0).val < 256 * t.val + 256 at a
    change 256 * t'.val ≤ (y 0).val ∧ (y 0).val < 256 * t'.val + 256 at a'
    omega
  · have h0 := (y 0).isLt
    have h1 := (y 1).isLt
    change (y 0).val < 2048 at h0
    change (y 1).val < 6144 at h1
    refine ⟨⟨(y 0).val / 256, by rw [trips2]; omega⟩, ?_⟩
    unfold rowsX
    rw [Rect.mem_set_unit, k0_off5_eq]
    intro a
    fin_cases a
    · show 256 * ((y 0).val / 256) ≤ (y 0).val ∧ (y 0).val < 256 * ((y 0).val / 256) + 256
      omega
    · show 0 ≤ (y 1).val ∧ (y 1).val < 0 + 6144
      omega

theorem slot8_split (m : Memref sig .tc .vmem S8x256x6144 .fp8e4m3) (Y : Vec F S8x256x6144 .fp8e4m3) :
    (own c m Finset.univ Y : sProp 𝕄) = bigSep Finset.univ fun t => own c m (slot8 t) Y := by
  refine Own.At_split (c : Thread nD τ) m slot8 (fun t t' hne => Finset.disjoint_left.mpr fun y h h' => hne (Fin.ext ?_)) (fun y => ?_) Y
  · have a := off_axis h 0
    have a' := off_axis h' 0
    rw [k0_off4_eq] at a a'
    change t.val ≤ (y 0).val ∧ (y 0).val < t.val + 1 at a
    change t'.val ≤ (y 0).val ∧ (y 0).val < t'.val + 1 at a'
    omega
  · have h0 := (y 0).isLt
    have h1 := (y 1).isLt
    have h2 := (y 2).isLt
    change (y 0).val < 8 at h0
    change (y 1).val < 256 at h1
    change (y 2).val < 6144 at h2
    refine ⟨⟨(y 0).val, by rw [trips2]; omega⟩, ?_⟩
    unfold slot8
    rw [Rect.mem_set_unit, k0_off4_eq]
    intro a
    fin_cases a
    · show (y 0).val ≤ (y 0).val ∧ (y 0).val < (y 0).val + 1
      omega
    · show 0 ≤ (y 1).val ∧ (y 1).val < 0 + 256
      omega
    · show 0 ≤ (y 2).val ∧ (y 2).val < 0 + 6144
      omega

theorem colsO_split (m : Memref sig .tc .hbm S2048x6144 .bf16) (Y : Vec F S2048x6144 .bf16) :
    (own c m Finset.univ Y : sProp 𝕄) = bigSep Finset.univ fun t => own c m (colsO t) Y := by
  refine Own.At_split (c : Thread nD τ) m colsO (fun t t' hne => Finset.disjoint_left.mpr fun y h h' => hne (Fin.ext ?_)) (fun y => ?_) Y
  · have a := off_axis h 1
    have a' := off_axis h' 1
    rw [k0_off261_eq] at a a'
    change 512 * t.val ≤ (y 1).val ∧ (y 1).val < 512 * t.val + 512 at a
    change 512 * t'.val ≤ (y 1).val ∧ (y 1).val < 512 * t'.val + 512 at a'
    omega
  · have h0 := (y 0).isLt
    have h1 := (y 1).isLt
    change (y 0).val < 2048 at h0
    change (y 1).val < 6144 at h1
    refine ⟨⟨(y 1).val / 512, by rw [trips3]; omega⟩, ?_⟩
    unfold colsO
    rw [Rect.mem_set_unit, k0_off261_eq]
    intro a
    fin_cases a
    · show 0 ≤ (y 0).val ∧ (y 0).val < 0 + 2048
      omega
    · show 512 * ((y 1).val / 512) ≤ (y 1).val ∧ (y 1).val < 512 * ((y 1).val / 512) + 512
      omega

theorem rowsO_split (m : Memref sig .tc .hbm S6144x160 .f32) (Y : Vec F S6144x160 .f32) :
    (own c m Finset.univ Y : sProp 𝕄) = bigSep Finset.univ fun t => own c m (rowsO t) Y := by
  refine Own.At_split (c : Thread nD τ) m rowsO (fun t t' hne => Finset.disjoint_left.mpr fun y h h' => hne (Fin.ext ?_)) (fun y => ?_) Y
  · have a := off_axis h 0
    have a' := off_axis h' 0
    rw [k0_off263_eq] at a a'
    change 512 * t.val ≤ (y 0).val ∧ (y 0).val < 512 * t.val + 512 at a
    change 512 * t'.val ≤ (y 0).val ∧ (y 0).val < 512 * t'.val + 512 at a'
    omega
  · have h0 := (y 0).isLt
    have h1 := (y 1).isLt
    change (y 0).val < 6144 at h0
    change (y 1).val < 160 at h1
    refine ⟨⟨(y 0).val / 512, by rw [trips3]; omega⟩, ?_⟩
    unfold rowsO
    rw [Rect.mem_set_unit, k0_off263_eq]
    intro a
    fin_cases a
    · show 512 * ((y 0).val / 512) ≤ (y 0).val ∧ (y 0).val < 512 * ((y 0).val / 512) + 512
      omega
    · show 0 ≤ (y 1).val ∧ (y 1).val < 0 + 160
      omega

/-- The two slots of a buffer of two, by the first two chunks. -/
theorem slot19_two : slot19 (chunk 0) ∪ slot19 (chunk 1) = Finset.univ ∧ Disjoint (slot19 (chunk 0)) (slot19 (chunk 1)) := by
  constructor
  · refine Finset.eq_univ_of_forall fun y => Finset.mem_union.mpr ?_
    have h0 := (y 0).isLt
    have h1 := (y 1).isLt
    have h2 := (y 2).isLt
    change (y 0).val < 2 at h0
    change (y 1).val < 2048 at h1
    change (y 2).val < 512 at h2
    unfold slot19
    rw [Rect.mem_set_unit, Rect.mem_set_unit, k0_off262_eq, k0_off262_eq]
    rcases (by omega : (y 0).val = 0 ∨ (y 0).val = 1) with h | h
    · left
      intro a
      fin_cases a
      · show 0 ≤ (y 0).val ∧ (y 0).val < 0 + 1
        omega
      · show 0 ≤ (y 1).val ∧ (y 1).val < 0 + 2048
        omega
      · show 0 ≤ (y 2).val ∧ (y 2).val < 0 + 512
        omega
    · right
      intro a
      fin_cases a
      · show 1 ≤ (y 0).val ∧ (y 0).val < 1 + 1
        omega
      · show 0 ≤ (y 1).val ∧ (y 1).val < 0 + 2048
        omega
      · show 0 ≤ (y 2).val ∧ (y 2).val < 0 + 512
        omega
  · refine Finset.disjoint_left.mpr fun y h h' => ?_
    have a := off_axis h 0
    have a' := off_axis h' 0
    rw [k0_off262_eq] at a a'
    change 0 ≤ (y 0).val ∧ (y 0).val < 0 + 1 at a
    change 1 ≤ (y 0).val ∧ (y 0).val < 1 + 1 at a'
    omega

theorem slot20_two : slot20 (chunk 0) ∪ slot20 (chunk 1) = Finset.univ ∧ Disjoint (slot20 (chunk 0)) (slot20 (chunk 1)) := by
  constructor
  · refine Finset.eq_univ_of_forall fun y => Finset.mem_union.mpr ?_
    have h0 := (y 0).isLt
    have h1 := (y 1).isLt
    have h2 := (y 2).isLt
    change (y 0).val < 2 at h0
    change (y 1).val < 512 at h1
    change (y 2).val < 160 at h2
    unfold slot20
    rw [Rect.mem_set_unit, Rect.mem_set_unit, k0_off264_eq, k0_off264_eq]
    rcases (by omega : (y 0).val = 0 ∨ (y 0).val = 1) with h | h
    · left
      intro a
      fin_cases a
      · show 0 ≤ (y 0).val ∧ (y 0).val < 0 + 1
        omega
      · show 0 ≤ (y 1).val ∧ (y 1).val < 0 + 512
        omega
      · show 0 ≤ (y 2).val ∧ (y 2).val < 0 + 160
        omega
    · right
      intro a
      fin_cases a
      · show 1 ≤ (y 0).val ∧ (y 0).val < 1 + 1
        omega
      · show 0 ≤ (y 1).val ∧ (y 1).val < 0 + 512
        omega
      · show 0 ≤ (y 2).val ∧ (y 2).val < 0 + 160
        omega
  · refine Finset.disjoint_left.mpr fun y h h' => ?_
    have a := off_axis h 0
    have a' := off_axis h' 0
    rw [k0_off264_eq] at a a'
    change 0 ≤ (y 0).val ∧ (y 0).val < 0 + 1 at a
    change 1 ≤ (y 0).val ∧ (y 0).val < 1 + 1 at a'
    omega

/-- Both chunks' slots and semaphores free, as the buffers and the semaphores. -/
theorem free_two (arg19 : Memref sig .tc .vmem S2x2048x512 .bf16) (arg20 : Memref sig .tc .vmem S2x512x160 .f32) (arg23 arg24 : DmaSems sig S2) :
    iprop(FreeO c arg19 arg20 arg23 arg24 (chunk 0) ∗ FreeO c arg19 arg20 arg23 arg24 (chunk 1))
      ⊢ (iprop(some_ c arg19 ∗ some_ c arg20 ∗ zeroed c (semO (chunk 0) arg23) ∗ zeroed c (semO (chunk 1) arg23) ∗ zeroed c (semO (chunk 0) arg24) ∗ zeroed c (semO (chunk 1) arg24)) : sProp 𝕄) := by
  unfold FreeO
  iintro ⟨⟨Ha, Hb, ⟨%Y0, H0⟩, ⟨%Z0, K0⟩⟩, ⟨Hc, Hd, ⟨%Y1, H1⟩, ⟨%Z1, K1⟩⟩⟩
  have e19 := Own.At_join (Ix := Unit) (Name := ℕ) (U := Pipeline.UD sig nD τ) (Lvl := ℕ) (Val := Elt F) (c : Thread nD τ) arg19 slot19_two.2 Y0 Y1
  have e20 := Own.At_join (Ix := Unit) (Name := ℕ) (U := Pipeline.UD sig nD τ) (Lvl := ℕ) (Val := Elt F) (c : Thread nD τ) arg20 slot20_two.2 Z0 Z1
  rw [slot19_two.1] at e19
  rw [slot20_two.1] at e20
  isplitl [H0 H1]
  · iapply e19 $$ [H0 H1]
    isplitl [H0] <;> iassumption
  isplitl [K0 K1]
  · iapply e20 $$ [K0 K1]
    isplitl [K0] <;> iassumption
  isplitl [Ha]; · iexact Ha
  isplitl [Hc]; · iexact Hc
  isplitl [Hb]; · iexact Hb
  iexact Hd

theorem two_free (arg19 : Memref sig .tc .vmem S2x2048x512 .bf16) (arg20 : Memref sig .tc .vmem S2x512x160 .f32) (arg23 arg24 : DmaSems sig S2) :
    (iprop(some_ c arg19 ∗ some_ c arg20 ∗ zeroed c (semO (chunk 0) arg23) ∗ zeroed c (semO (chunk 1) arg23) ∗ zeroed c (semO (chunk 0) arg24) ∗ zeroed c (semO (chunk 1) arg24)) : sProp 𝕄)
      ⊢ iprop(FreeO c arg19 arg20 arg23 arg24 (chunk 0) ∗ FreeO c arg19 arg20 arg23 arg24 (chunk 1)) := by
  unfold FreeO
  iintro ⟨⟨%Y, H⟩, ⟨%Z, K⟩, Ha, Hc, Hb, Hd⟩
  have e19 := Own.At_union (Ix := Unit) (Name := ℕ) (U := Pipeline.UD sig nD τ) (Lvl := ℕ) (Val := Elt F) (c : Thread nD τ) arg19 slot19_two.2 Y
  have e20 := Own.At_union (Ix := Unit) (Name := ℕ) (U := Pipeline.UD sig nD τ) (Lvl := ℕ) (Val := Elt F) (c : Thread nD τ) arg20 slot20_two.2 Z
  rw [slot19_two.1] at e19
  rw [slot20_two.1] at e20
  icases e19 $$ H with ⟨H0, H1⟩
  icases e20 $$ K with ⟨K0, K1⟩
  isplitl [Ha Hb H0 K0]
  · isplitl [Ha]; · iexact Ha
    isplitl [Hb]; · iexact Hb
    isplitl [H0]
    · iexists _
      iexact H0
    iexists _
    iexact K0
  isplitl [Hc]; · iexact Hc
  isplitl [Hd]; · iexact Hd
  isplitl [H1]
  · iexists _
    iexact H1
  iexists _
  iexact K1

end Cert.Kernel.Region

end
-- ==== Proof.K.Whole.lean ====
/- The region run, from the five arguments to the three results. -/
module

public import proofs.«01_k».proof.Proof.K.Region

@[expose] public section

set_option maxRecDepth 16384

noncomputable section

namespace Cert.Kernel.Whole

open Cert.Kernel Cert.Kernel.Gen Cert.Kernel.Steps Cert.Kernel.Values Cert.Kernel.Trip Cert.Kernel.Land Cert.Kernel.Out Cert.Kernel.Drain Cert.Kernel.Program Cert.Kernel.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)
variable (X : Vec F S2048x6144 .fp8e4m3) (Sc : Vec F S2048x192 .f32) (W : Vec F S6144x160 .bf16) (I : Vec F S2048x6 .i32) (G : Vec F S2048x6 .bf16)

theorem none_left {T : Type} (s : Finset T) : bigSep s (fun _ => (iprop(emp) : sProp (MT nD τ sig Unit (Elt F) ℕ (Pipeline.UD sig nD τ) ℕ))) = iprop(emp) := by
  classical
  induction s using Finset.induction_on with
  | empty => rfl
  | insert a s ha ih =>
    rw [bigSep_insert ha, ih]
    exact equiv_iff.mp emp_sep

/-- The last chunk's neighbour put back. -/
theorem take_erased (Φ : Fin k0_t3_loop.trips → sProp (MT nD τ sig Unit (Elt F) ℕ (Pipeline.UD sig nD τ) ℕ)) :
    bigSep (Finset.univ.erase (chunk 11)) Φ = iprop(Φ (chunk 10) ∗ bigSep ((Finset.univ.erase (chunk 10)).erase (chunk 11)) Φ) := by
  rw [Finset.erase_right_comm]
  exact bigSep_erase (by decide)

section Region
variable (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)

/-! ## The loops -/

theorem loop1_wp {kk : Unit → Pgm F} {Q : Unit → sProp 𝕄} :
    iprop(own c arg10 Finset.univ W ∗ some_ c arg13)
      ⊢ iprop((iprop(own c arg10 Finset.univ W ∗ own c arg13 Finset.univ (wtT W)) -∗ wpP c (kk ⟨⟩) Q)
        -∗ wpP c (Scf.Loop.for k0_t1_loop k0_t1_ok (⟨⟩ : Unit) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t1_loop.lb k0_t1_loop.ub k0_t1_loop.st k0_t1_ok (⟨⟩ : Unit)
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv1 c W arg10 arg13 n)
    (fun t u => by rw [turn_eq]; exact turn_step c W arg10 arg13 harg13 t) (kk := kk) (Q := Q)
  iintro ⟨H10, ⟨%Y, H13⟩⟩ HK
  iapply hl $$ [H10 H13]
  · unfold Inv1
    isplitl [H10]; · iexact H10
    iexists Y
    isplitl [H13]; · iexact H13
    ipureintro
    intro y hy
    omega
  iintro %u
  unfold Inv1
  iintro ⟨H10, ⟨%Y, H13, %hY⟩⟩
  have e : own c arg13 Finset.univ Y ⊢ own c arg13 Finset.univ (wtT W) := Entails.of_eq (Own.At_congr (c : Thread nD τ) arg13 fun y _ => hY y (by
    have := (y 1).isLt
    change (y 1).val < 6144 at this
    rw [show Scf.trips k0_t1_loop.lb k0_t1_loop.ub k0_t1_loop.st = 12 from trips1]
    omega))
  iapply HK
  isplitl [H10]; · iexact H10
  iapply e $$ H13

theorem loop2_wp {kk : Unit → Pgm F} {Q : Unit → sProp 𝕄} :
    iprop(bigSep Finset.univ (FlyX c X arg0 arg8 arg21) ∗ own c arg9 Finset.univ Sc ∗ own c arg11 Finset.univ I ∗ own c arg12 Finset.univ G ∗ own c arg13 Finset.univ (wtT W)
        ∗ some_ c arg14 ∗ some_ c arg15 ∗ some_ c arg16 ∗ some_ c arg17 ∗ some_ c arg18 ∗ debts c)
      ⊢ iprop((iprop(bigSep Finset.univ (LandX c X arg0 arg8 arg21) ∗ own c arg9 Finset.univ Sc ∗ own c arg11 Finset.univ I ∗ own c arg12 Finset.univ G ∗ own c arg13 Finset.univ (wtT W)
          ∗ some_ c arg14 ∗ own c arg15 Finset.univ (aT X Sc) ∗ own c arg16 Finset.univ (d16T (Dt X Sc W I G)) ∗ own c arg17 Finset.univ (dl16 (Dt X Sc W I G))
          ∗ own c arg18 Finset.univ (dlogT (Dt X Sc W I G)) ∗ debts c) -∗ wpP c (kk ⟨⟩) Q)
        -∗ wpP c (Scf.Loop.for k0_t2_loop k0_t2_ok (⟨⟩ : Unit) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t2_loop.lb k0_t2_loop.ub k0_t2_loop.st k0_t2_ok (⟨⟩ : Unit)
    (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv2 c X Sc W I G arg0 arg8 arg9 arg11 arg12 arg13 arg14 arg15 arg16 arg17 arg18 arg21 n)
    (fun t u => by rw [trip_eq]; exact tile_step c X Sc W I G arg0 harg0 arg8 harg8 arg9 arg11 arg12 arg13 arg14 arg15 harg15 arg16 harg16 arg17 harg17 arg18 arg21 t) (kk := kk) (Q := Q)
  iintro ⟨HX, H9, H11, H12, H13, H14, ⟨%Y15, H15⟩, ⟨%Y16, H16⟩, ⟨%Y17, H17⟩, ⟨%Y18, H18⟩, HW⟩ HK
  iapply hl $$ [HX H9 H11 H12 H13 H14 H15 H16 H17 H18 HW]
  · unfold Inv2 Rest2 Held
    isplitl [HX]
    · rw [bigSep_congr (s := Finset.univ) (Φ := St2 c X arg0 arg8 arg21 0) (Ψ := FlyX c X arg0 arg8 arg21) (fun t _ => if_neg (by omega))]
      iexact HX
    isplitl [H11 H12 H13 H16 H17 H18]
    · isplitl [H11]; · iexact H11
      isplitl [H12]; · iexact H12
      isplitl [H13]; · iexact H13
      isplitl [H16]
      · iexists Y16
        isplitl [H16]; · iexact H16
        ipureintro
        intro y hy
        omega
      isplitl [H17]
      · iexists Y17
        isplitl [H17]; · iexact H17
        ipureintro
        intro y hy
        omega
      iexists Y18
      isplitl [H18]; · iexact H18
      ipureintro
      intro y hy
      omega
    isplitl [H15]
    · iexists Y15
      isplitl [H15]; · iexact H15
      ipureintro
      intro y hy
      omega
    isplitl [H9]; · iexact H9
    isplitl [H14]; · iexact H14
    iexact HW
  iintro %u
  rw [show Scf.trips k0_t2_loop.lb k0_t2_loop.ub k0_t2_loop.st = 8 from trips2]
  unfold Inv2 Rest2 Held
  rw [bigSep_congr (s := Finset.univ) (Φ := St2 c X arg0 arg8 arg21 8) (Ψ := LandX c X arg0 arg8 arg21) (fun t _ => if_pos (t2_lt t))]
  iintro ⟨HX, ⟨H11, H12, H13, ⟨%Z16, H16, %h16⟩, ⟨%Z17, H17, %h17⟩, ⟨%Z18, H18, %h18⟩⟩, ⟨%Z15, H15, %h15⟩, H9, H14, HW⟩
  have e16 : own c arg16 Finset.univ Z16 ⊢ own c arg16 Finset.univ (d16T (Dt X Sc W I G)) := Entails.of_eq (Own.At_congr (c : Thread nD τ) arg16 fun y _ => h16 y (by
      have := (y 1).isLt
      change (y 1).val < 2048 at this
      omega))
  have e17 : own c arg17 Finset.univ Z17 ⊢ own c arg17 Finset.univ (dl16 (Dt X Sc W I G)) := Entails.of_eq (Own.At_congr (c : Thread nD τ) arg17 fun y _ => h17 y (by
      have := (y 0).isLt
      change (y 0).val < 2048 at this
      omega))
  have e18 : own c arg18 Finset.univ Z18 ⊢ own c arg18 Finset.univ (dlogT (Dt X Sc W I G)) := Entails.of_eq (Own.At_congr (c : Thread nD τ) arg18 fun y _ => h18 y (by
      have := (y 0).isLt
      change (y 0).val < 2048 at this
      omega))
  have e15 : own c arg15 Finset.univ Z15 ⊢ own c arg15 Finset.univ (aT X Sc) := Entails.of_eq (Own.At_congr (c : Thread nD τ) arg15 fun y _ => h15 y (by
      have := (y 1).isLt
      change (y 1).val < 2048 at this
      omega))
  iapply HK
  isplitl [HX]; · iexact HX
  isplitl [H9]; · iexact H9
  isplitl [H11]; · iexact H11
  isplitl [H12]; · iexact H12
  isplitl [H13]; · iexact H13
  isplitl [H14]; · iexact H14
  isplitl [H15]; · iapply e15 $$ H15
  isplitl [H16]; · iapply e16 $$ H16
  isplitl [H17]; · iapply e17 $$ H17
  isplitl [H18]; · iapply e18 $$ H18
  iexact HW

section Third
variable (A : FVec F S6144x2048 .bf16) (Wt : Vec F S160x6144 .bf16) (L16 : FVec F S160x2048 .bf16) (LN : FVec F S2048x160 .bf16)

theorem loop3_wp {kk : Unit → Pgm F} {Q : Unit → sProp 𝕄} :
    iprop(bigSep Finset.univ (FreshO c arg5 arg6) ∗ FreeO c arg19 arg20 arg23 arg24 (chunk 0) ∗ FreeO c arg19 arg20 arg23 arg24 (chunk 1)
        ∗ Ops c A Wt L16 LN arg13 arg15 arg16 arg17 ∗ debts c)
      ⊢ iprop((iprop(bigSep ((Finset.univ.erase (chunk 10)).erase (chunk 11)) (LandO c A Wt L16 LN arg5 arg6)
          ∗ FlyO c A Wt L16 LN arg5 arg6 arg19 arg20 arg23 arg24 (chunk 10) ∗ FlyO c A Wt L16 LN arg5 arg6 arg19 arg20 arg23 arg24 (chunk 11)
          ∗ Ops c A Wt L16 LN arg13 arg15 arg16 arg17 ∗ debts c) -∗ wpP c (kk ⟨⟩) Q)
        -∗ wpP c (Scf.Loop.for k0_t3_loop k0_t3_ok (⟨⟩ : Unit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t3_loop.lb k0_t3_loop.ub k0_t3_loop.st k0_t3_ok (⟨⟩ : Unit)
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv3 c A Wt L16 LN arg5 arg6 arg13 arg15 arg16 arg17 arg19 arg20 arg23 arg24 n)
    (fun t u => by rw [chunk_eq]; exact chunk_step c A Wt L16 LN arg5 harg5 arg6 arg13 arg15 arg16 arg17 arg19 harg19 arg20 arg23 arg24 t) (kk := kk) (Q := Q)
  have hne : chunk 1 ≠ chunk 0 := by decide
  have hne' : chunk 11 ≠ chunk 10 := by decide
  iintro ⟨HX, HF0, HF1, HO, HW⟩ HK
  iapply hl $$ [HX HF0 HF1 HO HW]
  · unfold Inv3
    rw [bigSep_congr (s := Finset.univ) (Φ := St3 c A Wt L16 LN arg5 arg6 arg19 arg20 arg23 arg24 0) (Ψ := FreshO c arg5 arg6) (fun t _ => by
        unfold St3; rw [if_neg (by omega), if_neg (by omega)]),
      take_two (Fr3 c arg19 arg20 arg23 arg24 0) hne,
      show (Fr3 c arg19 arg20 arg23 arg24 0 (chunk 0) : sProp 𝕄) = FreeO c arg19 arg20 arg23 arg24 (chunk 0) from if_pos (by decide),
      show (Fr3 c arg19 arg20 arg23 arg24 0 (chunk 1) : sProp 𝕄) = FreeO c arg19 arg20 arg23 arg24 (chunk 1) from if_pos (by decide),
      bigSep_congr (s := (Finset.univ.erase (chunk 0)).erase (chunk 1)) (Φ := Fr3 c arg19 arg20 arg23 arg24 0) (Ψ := fun _ => (iprop(emp) : sProp 𝕄)) (fun t ht => by
        have h1 : t.val ≠ 1 := fun e => (Finset.ne_of_mem_erase ht) (Fin.ext e)
        have h2 : t.val ≠ 0 := fun e => (Finset.ne_of_mem_erase (Finset.mem_of_mem_erase ht)) (Fin.ext e)
        exact if_neg (by omega)),
      none_left]
    isplitl [HX]; · iexact HX
    isplitl [HF0 HF1]
    · isplitl [HF0]; · iexact HF0
      isplitl [HF1]; · iexact HF1
      iempintro
    isplitl [HO]; · iexact HO
    iexact HW
  iintro %u
  rw [show Scf.trips k0_t3_loop.lb k0_t3_loop.ub k0_t3_loop.st = 12 from trips3]
  unfold Inv3
  rw [take_two (St3 c A Wt L16 LN arg5 arg6 arg19 arg20 arg23 arg24 12) hne',
    show St3 c A Wt L16 LN arg5 arg6 arg19 arg20 arg23 arg24 12 (chunk 10) = FlyO c A Wt L16 LN arg5 arg6 arg19 arg20 arg23 arg24 (chunk 10) from by
      unfold St3; rw [if_neg (by decide), if_pos (by decide)],
    show St3 c A Wt L16 LN arg5 arg6 arg19 arg20 arg23 arg24 12 (chunk 11) = FlyO c A Wt L16 LN arg5 arg6 arg19 arg20 arg23 arg24 (chunk 11) from by
      unfold St3; rw [if_neg (by decide), if_pos (by decide)],
    bigSep_congr (s := (Finset.univ.erase (chunk 10)).erase (chunk 11)) (Φ := St3 c A Wt L16 LN arg5 arg6 arg19 arg20 arg23 arg24 12) (Ψ := LandO c A Wt L16 LN arg5 arg6) (fun t ht => by
      have h1 : t.val ≠ 11 := fun e => (Finset.ne_of_mem_erase ht) (Fin.ext e)
      have h2 : t.val ≠ 10 := fun e => (Finset.ne_of_mem_erase (Finset.mem_of_mem_erase ht)) (Fin.ext e)
      have := t3_lt t
      exact if_pos (by omega))]
  iintro ⟨⟨HF10, HF11, HX⟩, HFr, HO, HW⟩
  iapply HK
  isplitl [HX]; · iexact HX
  isplitl [HF10]; · iexact HF10
  isplitl [HF11]; · iexact HF11
  isplitl [HO]; · iexact HO
  iexact HW

end Third

/-! ## The codes' transfers -/

/-- Tile `t`'s codes before start `n`: on the way already, or their places ready. -/
def St0 (n : ℕ) (t : Fin k0_t2_loop.trips) : sProp 𝕄 :=
  if t.val < n then FlyX c X arg0 arg8 arg21 t else iprop(own c arg0 (rowsX t) X ∗ (∃ Y, own c arg8 (slot8 t) Y) ∗ zeroed c (semX arg21 t))

theorem start_step (t : Fin k0_t2_loop.trips) {n : ℕ} (hn : t.val = n) (k : Pgm F) (Q : Unit → sProp 𝕄) :
    bigSep Finset.univ (St0 c X arg0 arg8 arg21 n)
      ⊢ iprop((bigSep Finset.univ (St0 c X arg0 arg8 arg21 (n + 1)) -∗ wpP c k Q) -∗ wpP c (startX arg0 harg0 arg8 harg8 arg21 t k) Q) := by
  subst hn
  rw [take_one (St0 c X arg0 arg8 arg21 t.val) t, take_one (St0 c X arg0 arg8 arg21 (t.val + 1)) t,
    show St0 c X arg0 arg8 arg21 t.val t = iprop(own c arg0 (rowsX t) X ∗ (∃ Y, own c arg8 (slot8 t) Y) ∗ zeroed c (semX arg21 t)) from if_neg (lt_irrefl _),
    show St0 c X arg0 arg8 arg21 (t.val + 1) t = FlyX c X arg0 arg8 arg21 t from if_pos (Nat.lt_succ_self _),
    bigSep_congr (s := Finset.univ.erase t) (Φ := St0 c X arg0 arg8 arg21 (t.val + 1)) (Ψ := St0 c X arg0 arg8 arg21 t.val) (fun u hu => by
      have hne : u.val ≠ t.val := fun h => (Finset.ne_of_mem_erase hu) (Fin.ext h)
      unfold St0
      by_cases h : u.val < t.val
      · rw [if_pos h, if_pos (by omega)]
      · rw [if_neg h, if_neg (by omega)])]
  iintro ⟨HR, HB⟩ HK
  iapply (startX_wp c X arg0 harg0 arg8 harg8 arg21 t) $$ HR
  iintro HF
  iapply HK
  isplitl [HF] <;> iassumption

/-! ## The region -/

/-- The semaphores, all at zero. -/
def Zeros : sProp 𝕄 :=
  iprop(bigSep Finset.univ (fun t => zeroed c (semX arg21 t)) ∗ zeroed c (in0 arg22) ∗ zeroed c (in1 arg22) ∗ zeroed c (in2 arg22) ∗ zeroed c (in3 arg22)
    ∗ zeroed c (semO (chunk 0) arg23) ∗ zeroed c (semO (chunk 1) arg23) ∗ zeroed c (semO (chunk 0) arg24) ∗ zeroed c (semO (chunk 1) arg24) ∗ zeroed c arg25.sem)

/-- The arguments. -/
def Args : sProp 𝕄 :=
  iprop(own c arg0 Finset.univ X ∗ own c arg1 Finset.univ Sc ∗ own c arg2 Finset.univ W ∗ own c arg3 Finset.univ I ∗ own c arg4 Finset.univ G)

/-- The scratch buffers, at anything. -/
def Scratch : sProp 𝕄 :=
  iprop(some_ c arg8 ∗ some_ c arg9 ∗ some_ c arg10 ∗ some_ c arg11 ∗ some_ c arg12 ∗ some_ c arg13 ∗ some_ c arg14 ∗ some_ c arg15 ∗ some_ c arg16 ∗ some_ c arg17
    ∗ some_ c arg18 ∗ some_ c arg19 ∗ some_ c arg20)

theorem loops_wp (Q : Unit → sProp 𝕄) :
    iprop(own c arg10 Finset.univ W ∗ some_ c arg13
        ∗ Fly c (in1 arg22) (amt arg9) iprop(own c arg9 Finset.univ Sc ∗ own c arg1 Finset.univ Sc)
        ∗ Fly c (in2 arg22) (amt arg11) iprop(own c arg11 Finset.univ I ∗ own c arg3 Finset.univ I)
        ∗ Fly c (in3 arg22) (amt arg12) iprop(own c arg12 Finset.univ G ∗ own c arg4 Finset.univ G)
        ∗ bigSep Finset.univ (FlyX c X arg0 arg8 arg21)
        ∗ (some_ c arg14 ∗ some_ c arg15 ∗ some_ c arg16 ∗ some_ c arg17 ∗ some_ c arg18)
        ∗ some_ c arg7 ∗ zeroed c arg25.sem
        ∗ bigSep Finset.univ (FreshO c arg5 arg6) ∗ FreeO c arg19 arg20 arg23 arg24 (chunk 0) ∗ FreeO c arg19 arg20 arg23 arg24 (chunk 1) ∗ debts c)
      ⊢ iprop((iprop(own c arg10 Finset.univ W
          ∗ (own c arg9 Finset.univ Sc ∗ own c arg1 Finset.univ Sc ∗ zeroed c (in1 arg22))
          ∗ (own c arg11 Finset.univ I ∗ own c arg3 Finset.univ I ∗ zeroed c (in2 arg22))
          ∗ (own c arg12 Finset.univ G ∗ own c arg4 Finset.univ G ∗ zeroed c (in3 arg22))
          ∗ bigSep Finset.univ (LandX c X arg0 arg8 arg21)
          ∗ some_ c arg14
          ∗ Fly c arg25.sem (amt arg7) iprop(own c arg7 Finset.univ (dlogT (Dt X Sc W I G)) ∗ own c arg18 Finset.univ (dlogT (Dt X Sc W I G)))
          ∗ bigSep (Finset.univ.erase (chunk 11)) (LandO c (aT X Sc) (wtT W) (d16T (Dt X Sc W I G)) (dl16 (Dt X Sc W I G)) arg5 arg6)
          ∗ FlyO c (aT X Sc) (wtT W) (d16T (Dt X Sc W I G)) (dl16 (Dt X Sc W I G)) arg5 arg6 arg19 arg20 arg23 arg24 (chunk 11)
          ∗ FreeO c arg19 arg20 arg23 arg24 (chunk 0)
          ∗ Ops c (aT X Sc) (wtT W) (d16T (Dt X Sc W I G)) (dl16 (Dt X Sc W I G)) arg13 arg15 arg16 arg17 ∗ debts c) -∗ Q ⟨⟩)
        -∗ wpP c (loopsP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) Q) := by
  unfold loopsP midP evenP
  iintro ⟨H10, H13, HF1, HF2, HF3, HX, ⟨H14, H15, H16, H17, H18⟩, H7, HV, HB, HS0, HS1, HW⟩ HK
  iapply (loop1_wp c W arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [H10 H13]
  · isplitl [H10] <;> iassumption
  iintro ⟨H10, H13⟩
  iapply (await_wp c (sm := in1 arg22) (dst := arg9) rfl) $$ [HF1 HW]
  · isplitl [HF1] <;> iassumption
  iintro ⟨⟨H9, H1⟩, HV1, HW⟩
  iapply (await_wp c (sm := in2 arg22) (dst := arg11) rfl) $$ [HF2 HW]
  · isplitl [HF2] <;> iassumption
  iintro ⟨⟨H11, H3⟩, HV2, HW⟩
  iapply (await_wp c (sm := in3 arg22) (dst := arg12) rfl) $$ [HF3 HW]
  · isplitl [HF3] <;> iassumption
  iintro ⟨⟨H12, H4⟩, HV3, HW⟩
  iapply (loop2_wp c X Sc W I G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [HX H9 H11 H12 H13 H14 H15 H16 H17 H18 HW]
  · isplitl [HX]; · iexact HX
    isplitl [H9]; · iexact H9
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HW
  iintro ⟨HX, H9, H11, H12, H13, H14, H15, H16, H17, H18, HW⟩
  iapply (copy_wp c (src := arg18) (dst := arg7) (sm := arg25.sem) (by decide)) $$ [H18 H7 HV]
  · isplitl [H18]; · iexact H18
    isplitl [H7]; · iexact H7
    iexact HV
  iintro HF7
  iapply (loop3_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 (aT X Sc) (wtT W) (d16T (Dt X Sc W I G)) (dl16 (Dt X Sc W I G))) $$ [HB HS0 HS1 H13 H15 H16 H17 HW]
  · isplitl [HB]; · iexact HB
    isplitl [HS0]; · iexact HS0
    isplitl [HS1]; · iexact HS1
    isplitl [H13 H15 H16 H17]
    · unfold Ops
      isplitl [H13]; · iexact H13
      isplitl [H15]; · iexact H15
      isplitl [H16]; · iexact H16
      iexact H17
    iexact HW
  iintro ⟨HB, HF10, HF11, HO, HW⟩
  iapply (drain_wp c (aT X Sc) (wtT W) (d16T (Dt X Sc W I G)) (dl16 (Dt X Sc W I G)) arg5 arg6 arg19 arg20 arg23 arg24 (chunk 10)
    (sem_congr (chunk 10) arg23 inb_S2_S1_0 rfl) (sem_congr (chunk 10) arg24 inb_S2_S1_0 rfl) rfl rfl) $$ [HF10 HW]
  · isplitl [HF10] <;> iassumption
  rw [Free_congr c arg19 arg20 arg23 arg24 (u := chunk 10) (t := chunk 0) rfl]
  iintro ⟨HL, HS0, HW⟩
  unfold wpP
  rw [wp_ret]
  imodintro
  iapply HK
  isplitl [H10]; · iexact H10
  isplitl [H9 H1 HV1]
  · isplitl [H9]; · iexact H9
    isplitl [H1] <;> iassumption
  isplitl [H11 H3 HV2]
  · isplitl [H11]; · iexact H11
    isplitl [H3] <;> iassumption
  isplitl [H12 H4 HV3]
  · isplitl [H12]; · iexact H12
    isplitl [H4] <;> iassumption
  isplitl [HX]; · iexact HX
  isplitl [H14]; · iexact H14
  isplitl [HF7]; · iexact HF7
  isplitl [HB HL]
  · rw [take_erased (LandO c (aT X Sc) (wtT W) (d16T (Dt X Sc W I G)) (dl16 (Dt X Sc W I G)) arg5 arg6)]
    isplitl [HL]; · iexact HL
    iexact HB
  isplitl [HF11]; · iexact HF11
  isplitl [HS0]; · iexact HS0
  isplitl [HO]; · iexact HO
  iexact HW

/-- Two families together are the family of their pairs. -/
theorem pairs {ι : Type} [Fintype ι] [DecidableEq ι] (Φ Ψ : ι → sProp 𝕄) :
    iprop(bigSep Finset.univ Φ ∗ bigSep Finset.univ Ψ) = bigSep Finset.univ (fun t => iprop(Φ t ∗ Ψ t)) :=
  (bigSep_sep (s := Finset.univ) (Φ := Φ) (Ψ := Ψ)).symm

/-- A family is turned into another member by member. -/
theorem each {ι : Type} [Fintype ι] {Φ Ψ : ι → sProp 𝕄} (h : ∀ t, Φ t ⊢ Ψ t) : bigSep Finset.univ Φ ⊢ bigSep Finset.univ Ψ :=
  bigSep_mono fun t _ => h t

/-- THE REGION: from the arguments, the results' arrays at anything, the scratch and the semaphores at zero, it runs to the arguments unchanged, the results at their
    values, the scratch at anything and the semaphores at zero again. -/
theorem region_wp (Q : Unit → sProp 𝕄) :
    iprop(Args c X Sc W I G arg0 arg1 arg2 arg3 arg4 ∗ (some_ c arg5 ∗ some_ c arg6 ∗ some_ c arg7)
        ∗ Scratch c arg8 arg9 arg10 arg11 arg12 arg13 arg14 arg15 arg16 arg17 arg18 arg19 arg20 ∗ Zeros c arg21 arg22 arg23 arg24 arg25 ∗ debts c)
      ⊢ iprop((iprop(Args c X Sc W I G arg0 arg1 arg2 arg3 arg4
          ∗ (own c arg5 Finset.univ (dxT (dl16 (Dt X Sc W I G)) (wtT W)) ∗ own c arg6 Finset.univ (dwT (d16T (Dt X Sc W I G)) (aT X Sc)) ∗ own c arg7 Finset.univ (dlogT (Dt X Sc W I G)))
          ∗ Scratch c arg8 arg9 arg10 arg11 arg12 arg13 arg14 arg15 arg16 arg17 arg18 arg19 arg20 ∗ Zeros c arg21 arg22 arg23 arg24 arg25 ∗ debts c) -∗ Q ⟨⟩)
        -∗ wpP c (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) Q) := by
  rw [body_eq]
  unfold inP Args Scratch Zeros
  have st := fun (t : Fin k0_t2_loop.trips) (n : ℕ) (h : t.val = n) => start_step (F := F) c X arg0 harg0 arg8 harg8 arg21 t h
  have s0 := st (tile 0) 0 rfl
  have s1 := st (tile 1) 1 rfl
  have s2 := st (tile 2) 2 rfl
  have s3 := st (tile 3) 3 rfl
  have s4 := st (tile 4) 4 rfl
  have s5 := st (tile 5) 5 rfl
  have s6 := st (tile 6) 6 rfl
  have s7 := st (tile 7) 7 rfl
  iintro ⟨⟨H0, H1, H2, H3, H4⟩, ⟨⟨%Y5, H5⟩, ⟨%Y6, H6⟩, H7⟩, ⟨⟨%Y8, H8⟩, H9, H10, H11, H12, H13, H14, H15, H16, H17, H18, H19, H20⟩, ⟨HVX, HV0, HV1, HV2, HV3, HVa, HVb, HVc, HVd, HV25⟩, HW⟩ HK
  have e0 : iprop(own c arg0 Finset.univ X ∗ own c arg8 Finset.univ Y8 ∗ bigSep Finset.univ (fun t => zeroed c (semX arg21 t))) ⊢ bigSep Finset.univ (St0 c X arg0 arg8 arg21 0) := by
    rw [rowsX_split, slot8_split, pairs, pairs]
    refine each fun t => ?_
    unfold St0
    rw [if_neg (by omega)]
    iintro ⟨H0, H8, HV⟩
    isplitl [H0]; · iexact H0
    isplitl [H8]
    · iexists Y8
      iexact H8
    iexact HV
  have e56 : iprop(own c arg5 Finset.univ Y5 ∗ own c arg6 Finset.univ Y6) ⊢ bigSep Finset.univ (FreshO c arg5 arg6) := by
    rw [colsO_split, rowsO_split, pairs]
    refine each fun t => ?_
    unfold FreshO
    iintro ⟨H5, H6⟩
    isplitl [H5]
    · iexists Y5
      iexact H5
    iexists Y6
    iexact H6
  iapply (copy_wp c (src := arg2) (dst := arg10) (sm := in0 arg22) (by decide)) $$ [H2 H10 HV0]
  · isplitl [H2]; · iexact H2
    isplitl [H10] <;> iassumption
  iintro HF0
  iapply (copy_wp c (src := arg1) (dst := arg9) (sm := in1 arg22) (by decide)) $$ [H1 H9 HV1]
  · isplitl [H1]; · iexact H1
    isplitl [H9] <;> iassumption
  iintro HF1
  ihave HS := e0 $$ [H0 H8 HVX]
  · isplitl [H0]; · iexact H0
    isplitl [H8] <;> iassumption
  iapply (s0 _ Q) $$ HS
  iintro HS
  iapply (copy_wp c (src := arg3) (dst := arg11) (sm := in2 arg22) (by decide)) $$ [H3 H11 HV2]
  · isplitl [H3]; · iexact H3
    isplitl [H11] <;> iassumption
  iintro HF2
  iapply (copy_wp c (src := arg4) (dst := arg12) (sm := in3 arg22) (by decide)) $$ [H4 H12 HV3]
  · isplitl [H4]; · iexact H4
    isplitl [H12] <;> iassumption
  iintro HF3
  iapply (s1 _ Q) $$ HS
  iintro HS
  iapply (s2 _ Q) $$ HS
  iintro HS
  iapply (s3 _ Q) $$ HS
  iintro HS
  iapply (s4 _ Q) $$ HS
  iintro HS
  iapply (s5 _ Q) $$ HS
  iintro HS
  iapply (s6 _ Q) $$ HS
  iintro HS
  iapply (s7 _ Q) $$ HS
  iintro HS
  iapply (await_wp c (sm := in0 arg22) (dst := arg10) rfl) $$ [HF0 HW]
  · isplitl [HF0] <;> iassumption
  iintro ⟨⟨H10, H2⟩, HV0, HW⟩
  have e8 : bigSep Finset.univ (St0 c X arg0 arg8 arg21 (7 + 1)) ⊢ bigSep Finset.univ (FlyX c X arg0 arg8 arg21) :=
    Entails.of_eq (bigSep_congr fun t _ => if_pos (t2_lt t))
  have eS := two_free (F := F) c arg19 arg20 arg23 arg24
  unfold wpP
  rw [wp_bind]
  icases eS $$ [H19 H20 HVa HVb HVc HVd] with ⟨HS0, HS1⟩
  · isplitl [H19]; · iexact H19
    isplitl [H20]; · iexact H20
    isplitl [HVa]; · iexact HVa
    isplitl [HVb]; · iexact HVb
    isplitl [HVc]; · iexact HVc
    iexact HVd
  rw [part59_eq]
  iapply (loops_wp c X Sc W I G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [H10 H13 HF1 HF2 HF3 HS H14 H15 H16 H17 H18 H7 HV25 H5 H6 HS0 HS1 HW]
  · isplitl [H10]; · iexact H10
    isplitl [H13]; · iexact H13
    isplitl [HF1]; · iexact HF1
    isplitl [HF2]; · iexact HF2
    isplitl [HF3]; · iexact HF3
    isplitl [HS]; · iapply e8 $$ HS
    isplitl [H14 H15 H16 H17 H18]
    · isplitl [H14]; · iexact H14
      isplitl [H15]; · iexact H15
      isplitl [H16]; · iexact H16
      isplitl [H17]; · iexact H17
      iexact H18
    isplitl [H7]; · iexact H7
    isplitl [HV25]; · iexact HV25
    isplitl [H5 H6]
    · iapply e56 $$ [H5 H6]
      isplitl [H5] <;> iassumption
    isplitl [HS0]; · iexact HS0
    isplitl [HS1]; · iexact HS1
    iexact HW
  iintro ⟨H10, ⟨H9, H1, HV1⟩, ⟨H11, H3, HV2⟩, ⟨H12, H4, HV3⟩, HX, H14, HF7, HB, HF11, HS0, HO, HW⟩
  unfold oddP
  iapply (drain_wp c (aT X Sc) (wtT W) (d16T (Dt X Sc W I G)) (dl16 (Dt X Sc W I G)) arg5 arg6 arg19 arg20 arg23 arg24 (chunk 11)
    (sem_congr (chunk 11) arg23 inb_S2_S1_1 rfl) (sem_congr (chunk 11) arg24 inb_S2_S1_1 rfl) rfl rfl) $$ [HF11 HW]
  · isplitl [HF11] <;> iassumption
  iintro ⟨HL, HS1, HW⟩
  iapply (await_wp c (sm := arg25.sem) (dst := arg7) rfl) $$ [HF7 HW]
  · isplitl [HF7] <;> iassumption
  iintro ⟨⟨H7, H18⟩, HV25, HW⟩
  unfold wpP
  rw [wp_ret]
  imodintro
  iapply HK
  have f0 : bigSep Finset.univ (LandX c X arg0 arg8 arg21) ⊢ iprop(own c arg0 Finset.univ X ∗ own c arg8 Finset.univ (x8T X) ∗ bigSep Finset.univ (fun t => zeroed c (semX arg21 t))) := by
    rw [rowsX_split, slot8_split, pairs, pairs]
    refine each fun t => ?_
    unfold LandX
    iintro ⟨H8, H0, HV⟩
    isplitl [H0]; · iexact H0
    isplitl [H8] <;> iassumption
  have f56 : iprop(LandO c (aT X Sc) (wtT W) (d16T (Dt X Sc W I G)) (dl16 (Dt X Sc W I G)) arg5 arg6 (chunk 11)
      ∗ bigSep (Finset.univ.erase (chunk 11)) (LandO c (aT X Sc) (wtT W) (d16T (Dt X Sc W I G)) (dl16 (Dt X Sc W I G)) arg5 arg6))
      ⊢ iprop(own c arg5 Finset.univ (dxT (dl16 (Dt X Sc W I G)) (wtT W)) ∗ own c arg6 Finset.univ (dwT (d16T (Dt X Sc W I G)) (aT X Sc))) := by
    rw [← take_one (LandO c (aT X Sc) (wtT W) (d16T (Dt X Sc W I G)) (dl16 (Dt X Sc W I G)) arg5 arg6) (chunk 11), colsO_split, rowsO_split, pairs]
    exact Entails.refl
  have fS := free_two (F := F) c arg19 arg20 arg23 arg24
  rw [← Free_congr (F := F) c arg19 arg20 arg23 arg24 (u := chunk 11) (t := chunk 1) rfl] at fS
  icases f0 $$ HX with ⟨H0, H8, HVX⟩
  icases f56 $$ [HL HB] with ⟨H5, H6⟩
  · isplitl [HL] <;> iassumption
  icases fS $$ [HS0 HS1] with ⟨H19, H20, HVa, HVb, HVc, HVd⟩
  · isplitl [HS0] <;> iassumption
  unfold Ops
  icases HO with ⟨H13, H15, H16, H17⟩
  isplitl [H0 H1 H2 H3 H4]
  · isplitl [H0]; · iexact H0
    isplitl [H1]; · iexact H1
    isplitl [H2]; · iexact H2
    isplitl [H3]; · iexact H3
    iexact H4
  isplitl [H5 H6 H7]
  · isplitl [H5]; · iexact H5
    isplitl [H6]; · iexact H6
    iexact H7
  isplitl [H8 H9 H10 H11 H12 H13 H14 H15 H16 H17 H18 H19 H20]
  · isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexists _; iexact H16
    isplitl [H17]; · iexists _; iexact H17
    isplitl [H18]; · iexists _; iexact H18
    isplitl [H19]; · iexact H19
    iexact H20
  isplitl [HVX HV0 HV1 HV2 HV3 HVa HVb HVc HVd HV25]
  · isplitl [HVX]; · iexact HVX
    isplitl [HV0]; · iexact HV0
    isplitl [HV1]; · iexact HV1
    isplitl [HV2]; · iexact HV2
    isplitl [HV3]; · iexact HV3
    isplitl [HVa]; · iexact HVa
    isplitl [HVb]; · iexact HVb
    isplitl [HVc]; · iexact HVc
    isplitl [HVd]; · iexact HVd
    iexact HV25
  iexact HW

end Region

end Cert.Kernel.Whole

end
-- ==== Proof.K.Run.lean ====
/- The launch: the program around the region, run from the launch memory to the arguments unchanged, the three results at their values and every semaphore at zero. -/
module

public import proofs.«01_k».proof.Proof.K.Whole
public import proofs.«01_k».proof.Proof.Gen.Kernel
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue

@[expose] public section

set_option maxRecDepth 16384

noncomputable section

namespace Cert.Kernel.Run

open Cert.Kernel Cert.Kernel.Gen Cert.Kernel.Values Cert.Kernel.Trip Cert.Kernel.Land Cert.Kernel.Out Cert.Kernel.Program Cert.Kernel.Region Cert.Kernel.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the program computes -/

/-- The five operands as the region finds them. -/
def opX (c : Dev nD) : Vec F S2048x6144 .fp8e4m3 := (Memref.whole main_v0).view.read (Elt F) (V m c main_v0)
def opS (c : Dev nD) : Vec F S2048x192 .f32 := (Memref.whole main_v1).view.read (Elt F) (V m c main_v1)
def opW (c : Dev nD) : Vec F S6144x160 .bf16 := (Memref.whole main_arg2).view.read (Elt F) (V m c main_arg2)
def opI (c : Dev nD) : Vec F S2048x6 .i32 := (Memref.whole main_v2).view.read (Elt F) (V m c main_v2)
def opG (c : Dev nD) : Vec F S2048x6 .bf16 := (Memref.whole main_v3).view.read (Elt F) (V m c main_v3)

/-- The gradient of the logits, transposed, and the three results. -/
def dtOf (c : Dev nD) := Dt (opX m c) (opS m c) (opW m c) (opI m c) (opG m c)
def res0 (c : Dev nD) : Vec F S2048x6144 .bf16 := dxT (dl16 (dtOf m c)) (wtT (opW m c))
def res1 (c : Dev nD) : Vec F S6144x160 .f32 := dwT (d16T (dtOf m c)) (aT (opX m c) (opS m c))
def res2 (c : Dev nD) : Vec F S2048x160 .f32 := dlogT (dtOf m c)

/-- What the buffers hold at the end: the results at their values, the others as the region finds them. -/
def G (c : Dev nD) : (b : Ref sig .tc) → Buf (Elt F) ((c : Thread nD τ).loc b) :=
  Function.update (Function.update (Function.update (V m c) main_v4_0 ((Memref.whole main_v4_0).view.rep (res0 m c)))
    main_v4_1 ((Memref.whole main_v4_1).view.rep (res1 m c))) main_v4_2 ((Memref.whole main_v4_2).view.rep (res2 m c))

/-! ## Whole buffers -/

/-- A whole buffer at contents `f` is its memref held at the values read from `f`. -/
theorem whole_own (c : Dev nD) (b : Ref sig .tc) (f : Buf (Elt F) ((c : Thread nD τ).loc b)) :
    (((c : Thread nD τ).loc b) ↦{fullShare} f : sProp 𝕄) = own c (Memref.whole b) Finset.univ ((Memref.whole b).view.read (Elt F) f) := by
  have h := Own.of_pointsTo (Ix := Unit) (Name := ℕ) (U := Pipeline.UD sig nD τ) (Lvl := ℕ) (c : Thread nD τ) (Memref.whole b) Finset.univ f
  rw [View.setOn_univ, show (Memref.whole b : Memref sig .tc _ _ _).view.set = Finset.univ from View.set_whole b] at h
  exact h

theorem both {A B : sProp (MT nD τ sig Unit (Elt F) ℕ (Pipeline.UD sig nD τ) ℕ)} (h : A ⊢ B) (h' : B ⊢ A) : A = B := Entails.antisymm h h'

/-- A whole buffer at some contents. -/
theorem whole_some (c : Dev nD) (b : Ref sig .tc) :
    (iprop(∃ f : Buf (Elt F) ((c : Thread nD τ).loc b), ((c : Thread nD τ).loc b) ↦{fullShare} f) : sProp 𝕄) = some_ c (Memref.whole b) := by
  refine both ?_ ?_
  · iintro ⟨%f, H⟩
    iexists _
    have e := Entails.of_eq (whole_own (F := F) c b f)
    iapply e $$ H
  · iintro ⟨%Y, H⟩
    iexists ((Memref.whole b).view.rep Y)
    have e := Entails.of_eq (whole_own (F := F) c b ((Memref.whole b).view.rep Y)).symm
    rw [View.read_rep] at e
    iapply e $$ H

/-! ## The buffers and semaphores of the region -/

/-- The operands left in HBM, and the results written there. -/
def H0 : Finset (Ref sig .tc) := {main_v0, main_v1, main_arg2, main_v2, main_v3}
def R0 : Finset (Ref sig .tc) := {main_v4_0, main_v4_1, main_v4_2}
theorem H0_sub : H0 ⊆ Pipeline.restRefs sig cfg0.spec := by decide
theorem R0_sub : R0 ⊆ Pipeline.restRefs sig cfg0.spec \ H0 := by decide

/-- The region's seventeen transfer semaphores. -/
abbrev osem0 : Fin 17 → SemLoc sig := fun j => SemLoc.dma j
theorem ownSemFacts0 : Pipeline.OwnSemFacts cfg0.spec osem0 := by decide

/-- One of them at zero. -/
abbrev cell (c : Dev nD) (j : Fin 17) : sProp (MT nD τ sig Unit (Elt F) ℕ (Pipeline.UD sig nD τ) ℕ) := semVal ((c : Thread nD τ), SemLoc.dma j) 0

theorem zeros_eq (c : Dev nD) :
    (Pipeline.ownSems0 (Ix := Unit) (Name := ℕ) (U := Pipeline.UD sig nD τ) (Lvl := ℕ) (Val := Elt F) (τ := τ) osem0 c : sProp 𝕄)
      = Zeros c cc0_scratch13 cc0_scratch14 cc0_scratch15 cc0_scratch16 cc0_scratch17 := by
  have l : (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16) := by
    rw [Pipeline.ownSems0_eq_of_list c osem0 [0, 1, 2, 3, 4, 5, 6, 7, 8, 9, 10, 11, 12, 13, 14, 15, 16] (by decide) (by decide)]
    rfl
  have r : (bigSep Finset.univ (fun t => zeroed c (semX cc0_scratch13 t)) : sProp 𝕄) = iprop(cell c 0 ∗ cell c 1 ∗ cell c 2 ∗ cell c 3 ∗ cell c 4 ∗ cell c 5 ∗ cell c 6 ∗ cell c 7) := by
    rw [BI.bigSep_eq_bigSepL_of_eq [tile 0, tile 1, tile 2, tile 3, tile 4, tile 5, tile 6, tile 7] (by decide) (by decide)]
    rfl
  rw [l]
  unfold Zeros
  rw [r]
  refine both ?_ ?_
  · iintro ⟨Z0, Z1, Z2, Z3, Z4, Z5, Z6, Z7, Z8, Z9, Z10, Z11, Z12, Z13, Z14, Z15, Z16⟩
    isplitl [Z0 Z1 Z2 Z3 Z4 Z5 Z6 Z7]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    iexact Z16
  · iintro ⟨⟨Z0, Z1, Z2, Z3, Z4, Z5, Z6, Z7⟩, Z8, Z9, Z10, Z11, Z12, Z13, Z14, Z15, Z16⟩
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    iexact Z16

theorem args_eq (c : Dev nD) :
    (bigSep H0 (fun b => ((c : Thread nD τ).loc b) ↦{fullShare} V m c b) : sProp 𝕄)
      = Args c (opX m c) (opS m c) (opW m c) (opI m c) (opG m c) (Memref.whole main_v0) (Memref.whole main_v1) (Memref.whole main_arg2) (Memref.whole main_v2) (Memref.whole main_v3) := by
  rw [BI.bigSep_eq_bigSepL_of_eq [main_v0, main_v1, main_arg2, main_v2, main_v3] (by decide) (by decide)]
  simp only [BI.bigSepL_cons_cons, BI.bigSepL_singleton, whole_own]
  rfl

theorem scratch_eq (c : Dev nD) :
    (Pipeline.scopedRest (Ix := Unit) (Name := ℕ) (U := Pipeline.UD sig nD τ) (Lvl := ℕ) (Val := Elt F) cfg0.spec c : sProp 𝕄)
      = Scratch c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) := by
  rw [scopedRest0_eq]
  simp only [whole_some]
  rfl

theorem start_results (c : Dev nD) :
    (Pipeline.routed R0 c (V m c) : sProp 𝕄) ⊢ iprop(some_ c (Memref.whole main_v4_0) ∗ some_ c (Memref.whole main_v4_1) ∗ some_ c (Memref.whole main_v4_2)) := by
  unfold Pipeline.routed
  rw [BI.bigSep_eq_bigSepL_of_eq [main_v4_0, main_v4_1, main_v4_2] (by decide) (by decide)]
  simp only [BI.bigSepL_cons_cons, BI.bigSepL_singleton, whole_own]
  show iprop(own c (Memref.whole main_v4_0) Finset.univ _ ∗ own c (Memref.whole main_v4_1) Finset.univ _ ∗ own c (Memref.whole main_v4_2) Finset.univ _) ⊢ _
  iintro ⟨H0, H1, H2⟩
  isplitl [H0]; · iexists _; iexact H0
  isplitl [H1]; · iexists _; iexact H1
  iexists _; iexact H2

theorem end_results (c : Dev nD) :
    iprop(own c (Memref.whole main_v4_0) Finset.univ (res0 m c) ∗ own c (Memref.whole main_v4_1) Finset.univ (res1 m c) ∗ own c (Memref.whole main_v4_2) Finset.univ (res2 m c))
      = (Pipeline.routed R0 c (G m c) : sProp 𝕄) := by
  unfold Pipeline.routed G
  rw [BI.bigSep_eq_bigSepL_of_eq [main_v4_0, main_v4_1, main_v4_2] (by decide) (by decide)]
  simp only [BI.bigSepL_cons_cons, BI.bigSepL_singleton, Function.update_self,
    Function.update_of_ne (show main_v4_0 ≠ main_v4_1 by decide), Function.update_of_ne (show main_v4_0 ≠ main_v4_2 by decide),
    Function.update_of_ne (show main_v4_1 ≠ main_v4_2 by decide), whole_own, View.read_rep]
  rfl

/-! ## The body obligation -/

/-- Before the region's one point the buffers are as the region finds them; after it the results are at their values. -/
def dats (_ : Fin 1) (c : Dev nD) : Dat τ (Elt F) Unit ℕ (Pipeline.UD sig nD τ) ℕ cfg0 c where
  A w := w.elim0
  after w := w.elim0
  Φ t := if t.val = 0 then Pipeline.ΦDRG osem0 cfg0.spec H0 R0 (V m) (V m) c else Pipeline.ΦDRG osem0 cfg0.spec H0 R0 (V m) (G m) c
  q _ := fullShare
  owed _ := 0

theorem Φ_start (c : Dev nD) (t : Fin cfg0.N) : (dats m 0 c).Φ t.castSucc = Pipeline.ΦDRG osem0 cfg0.spec H0 R0 (V m) (V m) c := by
  rw [fin_N0 t]; rfl

theorem Φ_end (c : Dev nD) (t : Fin cfg0.N) : (dats m 0 c).Φ t.succ = Pipeline.ΦDRG osem0 cfg0.spec H0 R0 (V m) (G m) c := by
  rfl

theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  rw [Φ_start, Φ_end, Pipeline.ΦDRG_eq, Pipeline.ΦDRG_eq, zeros_eq, args_eq, scratch_eq, ← end_results]
  unfold Dat.owesAt Pipeline.owesWithin
  rw [show (dats m 0 c).owed t.castSucc = 0 from rfl, show (dats m 0 c).owed t.succ = 0 from rfl]
  have hs := start_results m c
  iintro ⟨⟨HS, HP, HZ, HA, HR⟩, ⟨%W, -, HW⟩, -⟩
  unfold bodyAt0
  have h := region_wp (F := F) c (opX m c) (opS m c) (opW m c) (opI m c) (opG m c)
    (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17
  iapply h $$ [HS HZ HA HR HW]
  · isplitl [HA]; · iexact HA
    isplitl [HR]; · iapply hs $$ HR
    isplitl [HS]; · iexact HS
    isplitl [HZ]; · iexact HZ
    iexists W
    iexact HW
  iintro ⟨HA, HR, HS, HZ, ⟨%W', HW⟩⟩
  isplitl [HA HR HS HZ HP]
  · isplitl [HS]; · iexact HS
    isplitl [HP]; · iexact HP
    isplitl [HZ]; · iexact HZ
    isplitl [HA]; · iexact HA
    iexact HR
  isplitl [HW]
  · iexists W'
    isplitr
    · ipureintro
      exact fun _ _ => Or.inl trivial
    iexact HW
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  simp only [show (Finset.univ : Finset (Fin cfg0.W)) = ∅ from rfl, bigSep_empty]
  exact triple_restated (sound_body m c t) rfl .rfl fun _ => .rfl

/-! ## The run -/

/-- @main up to the region: the four reshapes. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := G m)
    (hin := fun c => Entails.of_eq (Φ_start m c t0_0).symm) (hout := fun c => Entails.of_eq (Φ_end m c t0_0))

/-- An argument is none of the results. -/
theorem not_written {b : Ref sig .tc} (h : b ∈ Pipeline.restRefs sig cfg0.spec) (hb : b ∉ R0) : b ∈ Pipeline.restRefs sig cfg0.spec \ R0 :=
  Finset.mem_sdiff.mpr ⟨h, hb⟩

/-- THE RUN: the program ends with its arguments unchanged, its three results at their values and every semaphore at zero. -/
theorem run_values : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, (Memref.whole main_v4_0).view.read (Elt F) (r.2.mem ((c.tc : Thread nD τ).loc main_v4_0)) = res0 m c
        ∧ (Memref.whole main_v4_1).view.read (Elt F) (r.2.mem ((c.tc : Thread nD τ).loc main_v4_1)) = res1 m c
        ∧ (Memref.whole main_v4_2).view.read (Elt F) (r.2.mem ((c.tc : Thread nD τ).loc main_v4_2)) = res2 m c) :=
  (θ_run defs _ _).mono (fun r h => by
    refine ⟨⟨fun c => ⟨?_, ?_, ?_, ?_, ?_⟩, h.2⟩, fun c => ⟨?_, ?_, ?_⟩⟩
    · exact ((h.1.toR c).2 main_arg0 (not_written (Pipeline.mem_restRefs_of main_arg0 (by decide) (by decide)) (by decide))).trans (V_main_arg0 m c)
    · exact ((h.1.toR c).2 main_arg1 (not_written (Pipeline.mem_restRefs_of main_arg1 (by decide) (by decide)) (by decide))).trans (V_main_arg1 m c)
    · exact ((h.1.toR c).2 main_arg2 (not_written (Pipeline.mem_restRefs_of main_arg2 (by decide) (by decide)) (by decide))).trans (V_main_arg2 m c)
    · exact ((h.1.toR c).2 main_arg3 (not_written (Pipeline.mem_restRefs_of main_arg3 (by decide) (by decide)) (by decide))).trans (V_main_arg3 m c)
    · exact ((h.1.toR c).2 main_arg4 (not_written (Pipeline.mem_restRefs_of main_arg4 (by decide) (by decide)) (by decide))).trans (V_main_arg4 m c)
    · rw [h.1.written c (b := main_v4_0) (by decide)]
      unfold G
      rw [Function.update_of_ne (by decide), Function.update_of_ne (by decide), Function.update_self, View.read_rep]
    · rw [h.1.written c (b := main_v4_1) (by decide)]
      unfold G
      rw [Function.update_of_ne (by decide), Function.update_self, View.read_rep]
    · rw [h.1.written c (b := main_v4_2) (by decide)]
      unfold G
      rw [Function.update_self, View.read_rep]) (run_main m ρ)

end Cert.Kernel.Run

end
-- ==== Proof.KI.Steps.lean ====
/- The token-tile trip of the kernel in short form.

   The printed trip of the second loop is one line of 48 equal column slabs, each of four 32-row blocks, followed by the
   softmax of the tile. Here that text is given as a recursion over the slab number and one closing stretch, and
   `trip_eq` says the printed region IS that program. -/
module

public import proofs.«01_k».proof.Proof.Gen.KernelIdeal.Skeleton
public import Idealize.ShloMosaic.Lib.Tactic

@[expose] public section

set_option maxRecDepth 16384

noncomputable section

namespace Cert.KernelIdeal.Steps

open Idealize.ShloMosaic Idealize.ShloMosaic.TcCoe
open Idealize.SL Idealize.SL.Sem
open Cert.KernelIdeal.Gen

variable {F : FTy → Type} [FloatOps F]

/-- The programs of the region. -/
abbrev Pgm (F : FTy → Type) := Prog (TpuEff nD τ sig (Elt F) Λ₀ .tc) Unit

/-! ## What the trip computes -/

/-- The tile's scales, transposed and rounded to bf16. -/
def scalesOf (s : Vec F S256x192 .f32) : FVec F S192x256 .f32 :=
  shapeCast S192x256 (extf .f32 (truncf .bf16 (transpose S192x256 [1, 0] s transposes_S256x192_p1_0_S192x256) bitsLt_bf16_f32) bitsLt_bf16_f32)
    shapeCasts_S192x256_S192x256

/-- A slab of 128 columns of the tile's codes, widened to bf16 and transposed. -/
def slabOf (x : Vec F S1x256x128 .fp8e4m3) : FVec F S128x256 .bf16 :=
  transpose S128x256 [1, 0] (extf .bf16 (shapeCast S256x128 x shapeCasts_S1x256x128_S256x128) bitsLt_fp8e4m3_bf16)
    transposes_S256x128_p1_0_S128x256

theorem slices_slab (b : Fin 4) : S128x256.Slices ![32 * b.val, 0] S32x256 := by revert b; decide

/-- The `b`-th block of 32 rows of a slab, multiplied by the block's row of scales. -/
def blockOf (v : FVec F S128x256 .bf16) (b : Fin 4) (s : Vec F S1x256 .f32) : FVec F S32x256 .bf16 :=
  shapeCast S32x256 (mulf (extractStridedSlice S32x256 ![32 * b.val, 0] v (slices_slab b))
    (truncf .bf16 (broadcastTo S32x256 (shapeCast S1x256 s shapeCasts_S1x256_S1x256) broadcasts_S1x256_S32x256) bitsLt_bf16_f32))
    shapeCasts_S32x256_S32x256

theorem slices_six (q : Fin 6) : S6x256.Slices ![q.val, 0] S1x256 := by revert q; decide

/-- The tile's logits, expert by token. -/
def logitsOf (w : Vec F S160x6144 .bf16) (a : Vec F S6144x256 .bf16) : FVec F S160x256 .f32 :=
  matmul dot_S160x6144_S6144x256_S160x256_1_0_0_1_n_n none w a (constant S160x256 .f32 0x00000000#32)

/-- Where the `q`-th chosen expert of each token of the tile is. -/
def hitOf (ids : Vec F S256x6 .i32) (q : Fin 6) : IVec S160x256 1 :=
  cmpi .eq (iota .tc S160x256 32 [0] iota_S160x256_d0_w32)
    (broadcastTo S160x256 (extractStridedSlice S1x256 ![q.val, 0] (transpose S6x256 [1, 0] ids transposes_S256x6_p1_0_S6x256) (slices_six q))
      broadcasts_S1x256_S160x256)

/-- The zero plane. -/
def zeros : FVec F S160x256 .f32 := broadcast S160x256 (Scalar.ofBits .f32 0x00000000#32 : F .f32)

/-- The logit of the `q`-th chosen expert of each token. -/
def selOf (L : FVec F S160x256 .f32) (ids : Vec F S256x6 .i32) (q : Fin 6) : FVec F S1x256 .f32 :=
  shapeCast S1x256 (multiReduction .add [0] S256 (select (hitOf ids q) L zeros) 0x00000000#32 reduces_S160x256_S256 (.inl rfl) rfl)
    shapeCasts_S256_S1x256

/-- The largest of the six chosen logits. -/
def maxOf (l : Fin 6 → FVec F S1x256 .f32) : FVec F S1x256 .f32 :=
  maximumf (maximumf (maximumf (maximumf (maximumf (l 0) (l 1)) (l 2)) (l 3)) (l 4)) (l 5)

/-- The sum of six rows, left to right. -/
def sumOf (l : Fin 6 → FVec F S1x256 .f32) : FVec F S1x256 .f32 :=
  addf (addf (addf (addf (addf (l 0) (l 1)) (l 2)) (l 3)) (l 4)) (l 5)

/-- The softmax's numerators. -/
def expOf (l : Fin 6 → FVec F S1x256 .f32) (q : Fin 6) : FVec F S1x256 .f32 := exp (subf (l q) (maxOf l))

/-- The gates: the softmax of the six chosen logits. -/
def gateOf (l : Fin 6 → FVec F S1x256 .f32) (q : Fin 6) : FVec F S1x256 .f32 := divf (expOf l q) (sumOf (expOf l))

/-- The gates' incoming gradient, `q`-th row. -/
def dgOf (dg : Vec F S256x6 .bf16) (q : Fin 6) : FVec F S1x256 .f32 :=
  extractStridedSlice S1x256 ![q.val, 0] (transpose S6x256 [1, 0] (extf .f32 dg bitsLt_bf16_f32) transposes_S256x6_p1_0_S6x256) (slices_six q)

/-- The gradient of the `q`-th chosen logit. -/
def dselOf (g d : Fin 6 → FVec F S1x256 .f32) (q : Fin 6) : FVec F S1x256 .f32 :=
  mulf (g q) (subf (d q) (sumOf fun p => mulf (g p) (d p)))

/-- The `q`-th chosen logit's gradient in the row of its expert, zero elsewhere. -/
def termOf (ids : Vec F S256x6 .i32) (g d : Fin 6 → FVec F S1x256 .f32) (q : Fin 6) : FVec F S160x256 .f32 :=
  select (hitOf ids q) (broadcastTo S160x256 (shapeCast S1x256 (dselOf g d q) shapeCasts_S1x256_S1x256) broadcasts_S1x256_S160x256) zeros

/-- The gradient of the tile's logits, expert by token. -/
def dlT (w : Vec F S160x6144 .bf16) (a : Vec F S6144x256 .bf16) (ids : Vec F S256x6 .i32) (dg : Vec F S256x6 .bf16) : FVec F S160x256 .f32 :=
  let t := termOf ids (gateOf (selOf (logitsOf w a) ids)) (dgOf dg)
  addf (addf (addf (addf (addf (addf zeros (t 0)) (t 1)) (t 2)) (t 3)) (t 4)) (t 5)

/-- The same rounded to bf16, as stored. -/
def dl16T (v : FVec F S160x256 .f32) : FVec F S160x256 .bf16 :=
  shapeCast S160x256 (truncf .bf16 v bitsLt_bf16_f32) shapeCasts_S160x256_S160x256

/-- The same transposed, token by expert, as stored. -/
def dlN (v : FVec F S160x256 .f32) : FVec F S256x160 .f32 :=
  shapeCast S256x160 (transpose S256x160 [1, 0] v transposes_S160x256_p1_0_S256x160) shapeCasts_S256x160_S256x160

/-- The same transposed and rounded to bf16, as stored. -/
def dl16N (v : FVec F S160x256 .f32) : FVec F S256x160 .bf16 :=
  shapeCast S256x160 (truncf .bf16 (transpose S256x160 [1, 0] v transposes_S160x256_p1_0_S256x160) bitsLt_bf16_f32) shapeCasts_S256x160_S256x160

/-! ## The windows of a slab -/

/-- Where slab `j` of the tile's codes begins. -/
def offX (t : Fin k0_t2_loop.trips) (j : ℕ) : Fin 3 → ℕ := ![k0_off7 t 0, 0, 128 * j]
theorem offX_inb (t : Fin k0_t2_loop.trips) (j : ℕ) (hj : j < 48) : ∀ a, offX t j a + S1x256x128.size a ≤ S8x256x6144.size a := by
  intro a
  fin_cases a
  · exact k0_off7_inb t 0
  · exact k0_off7_inb t 1
  · show 128 * j + 128 ≤ 6144
    omega

/-- Where the row of scales of block `(j, b)` begins. -/
def offS (j : ℕ) (b : Fin 4) : Fin 2 → ℕ := ![4 * j + b.val, 0]
theorem offS_inb (j : ℕ) (b : Fin 4) (hj : j < 48) : ∀ a, offS j b a + S1x256.size a ≤ S192x256.size a := by
  intro a
  fin_cases a
  · show 4 * j + b.val + 1 ≤ 192
    omega
  · show 0 + 256 ≤ 256
    omega

/-- Where block `(j, b)` of the activations begins. -/
def offA (t : Fin k0_t2_loop.trips) (j : ℕ) (b : Fin 4) : Fin 2 → ℕ := ![128 * j + 32 * b.val, k0_off8 t 1]
theorem offA_inb (t : Fin k0_t2_loop.trips) (j : ℕ) (b : Fin 4) (hj : j < 48) : ∀ a, offA t j b a + S32x256.size a ≤ S6144x2048.size a := by
  intro a
  fin_cases a
  · show 128 * j + 32 * b.val + 32 ≤ 6144
    omega
  · exact k0_off8_inb t 1
theorem offA_packed (t : Fin k0_t2_loop.trips) (j : ℕ) (b : Fin 4) (hj : j < 48) :
    (Rect.unit (s := S6144x2048) (offA t j b) S32x256.size (offA_inb t j b hj)).PackedRows (EltTy.packing .bf16) := by
  refine .inr ⟨by decide, rfl, .inl ⟨?_, ?_⟩⟩
  · show 2 ∣ 128 * j + 32 * b.val
    omega
  · show 2 ∣ 32
    omega

section Prog
variable (arg8 : Memref sig .tc .vmem S8x256x6144 .fp8e4m3) (arg14 : Memref sig .tc .vmem S192x256 .f32)
  (arg15 : Memref sig .tc .vmem S6144x2048 .bf16) (harg15 : arg15.IsWhole)

/-- Block `(j, b)`: its scales read, the product stored. -/
def blockP (t : Fin k0_t2_loop.trips) (j : ℕ) (hj : j < 48) (v : FVec F S128x256 .bf16) (b : Fin 4) (k : Pgm F) : Pgm F :=
  .op (.load arg14 (Rect.unit (s := S192x256) (offS j b) S1x256.size (offS_inb j b hj)).toLoadRect (View.loadsAt_vmem h_S1x256)) fun s =>
  .op (.load arg15 (Rect.unit (s := S6144x2048) (offA t j b) S32x256.size (offA_inb t j b hj)).toLoadRect (View.loadsAt_vmem h_S32x256)) fun _ =>
  .op (.store arg15 (Rect.unit (s := S6144x2048) (offA t j b) S32x256.size (offA_inb t j b hj)) (blockOf v b s) Finset.univ
    (View.stores_vmem h_S32x256 (harg15.storeExact_slice rfl _ (offA_packed t j b hj)) (fun _ => rfl)) (.inl rfl)) fun _ => k

/-- Slab `j`: its codes read, its four blocks. -/
def slabP (t : Fin k0_t2_loop.trips) (j : ℕ) (hj : j < 48) (k : Pgm F) : Pgm F :=
  .op (.load arg8 (Rect.unit (s := S8x256x6144) (offX t j) S1x256x128.size (offX_inb t j hj)).toLoadRect (View.loadsAt_vmem h_S1x256x128)) fun x =>
  blockP arg14 arg15 harg15 t j hj (slabOf x) 0 <|
  blockP arg14 arg15 harg15 t j hj (slabOf x) 1 <|
  blockP arg14 arg15 harg15 t j hj (slabOf x) 2 <|
  blockP arg14 arg15 harg15 t j hj (slabOf x) 3 k

/-- `n` slabs from slab `j` on. -/
def slabsP (t : Fin k0_t2_loop.trips) : (n j : ℕ) → j + n ≤ 48 → Pgm F → Pgm F
  | 0, _, _, k => k
  | n + 1, j, h, k => slabP arg8 arg14 arg15 harg15 t j (by omega) (slabsP t n (j + 1) (by omega) k)

end Prog

section Tail
variable (arg11 : Memref sig .tc .vmem S2048x6 .i32) (arg12 : Memref sig .tc .vmem S2048x6 .bf16)
  (arg13 : Memref sig .tc .vmem S160x6144 .bf16) (arg15 : Memref sig .tc .vmem S6144x2048 .bf16)
  (arg16 : Memref sig .tc .vmem S160x2048 .bf16) (harg16 : arg16.IsWhole)
  (arg17 : Memref sig .tc .vmem S2048x160 .bf16) (harg17 : arg17.IsWhole)
  (arg18 : Memref sig .tc .vmem S2048x160 .f32)

/-- The tile's softmax backward pass and its three stores. -/
def tailP (t : Fin k0_t2_loop.trips) : Pgm F :=
  .op (.load arg13 (Rect.unit (s := S160x6144) ![0, 0] S160x6144.size inb_S160x6144_S160x6144_0_0).toLoadRect (View.loadsAt_vmem h_S160x6144)) fun w =>
  .op (.load arg15 (Rect.unit (s := S6144x2048) (k0_off247 t) S6144x256.size (k0_off247_inb t)).toLoadRect (View.loadsAt_vmem h_S6144x256)) fun a =>
  .op (.load arg11 (Rect.unit (s := S2048x6) (k0_off248 t) S256x6.size (k0_off248_inb t)).toLoadRect (View.loadsAt_vmem h_S256x6)) fun ids =>
  .op (.load arg12 (Rect.unit (s := S2048x6) (k0_off248 t) S256x6.size (k0_off248_inb t)).toLoadRect (View.loadsAt_vmem h_S256x6)) fun dg =>
  .op (.load arg16 (Rect.unit (s := S160x2048) (k0_off249 t) S160x256.size (k0_off249_inb t)).toLoadRect (View.loadsAt_vmem h_S160x256)) fun _ =>
  .op (.store arg16 (Rect.unit (s := S160x2048) (k0_off249 t) S160x256.size (k0_off249_inb t)) (dl16T (dlT w a ids dg)) Finset.univ
    (View.stores_vmem h_S160x256 (harg16.storeExact_slice rfl _ (k0_off249_packedbf16 t)) (fun _ => rfl)) (.inl rfl)) fun _ =>
  .op (.load arg18 (Rect.unit (s := S2048x160) (k0_off250 t) S256x160.size (k0_off250_inb t)).toLoadRect (View.loadsAt_vmem h_S256x160)) fun _ =>
  .op (.store arg18 (Rect.unit (s := S2048x160) (k0_off250 t) S256x160.size (k0_off250_inb t)) (dlN (dlT w a ids dg)) Finset.univ
    (View.stores_vmem_bits_univ h_S256x160 rfl) (.inl rfl)) fun _ =>
  .op (.load arg17 (Rect.unit (s := S2048x160) (k0_off250 t) S256x160.size (k0_off250_inb t)).toLoadRect (View.loadsAt_vmem h_S256x160)) fun _ =>
  .op (.store arg17 (Rect.unit (s := S2048x160) (k0_off250 t) S256x160.size (k0_off250_inb t)) (dl16N (dlT w a ids dg)) Finset.univ
    (View.stores_vmem h_S256x160 (harg17.storeExact_slice rfl _ (k0_off250_packedbf16 t)) (fun _ => rfl)) (.inl rfl)) fun _ => .ret ⟨⟩

end Tail

/-- The trip's opening: the codes of the tile awaited, its scales rounded and stored, transposed. -/
def headP (arg0 : Memref sig .tc .hbm S2048x6144 .fp8e4m3) (harg0 : arg0.IsWhole) (arg8 : Memref sig .tc .vmem S8x256x6144 .fp8e4m3) (harg8 : arg8.IsWhole)
    (arg9 : Memref sig .tc .vmem S2048x192 .f32) (arg14 : Memref sig .tc .vmem S192x256 .f32) (arg21 : DmaSems sig S8)
    (t : Fin k0_t2_loop.trips) (k : Pgm F) : Pgm F :=
  .op (.waitDma2 ((arg21.slice (Rect.unit (s := S8) (k0_off3 t) S1.size (k0_off3_inb t))).squeeze S_ squeezes_S1_S_).sem
    (arg0.slice (Rect.unit (s := S2048x6144) (k0_off5 t) S256x6144.size (k0_off5_inb t)) (fun _ => rfl))
    ((arg8.slice (Rect.unit (s := S8x256x6144) (k0_off4 t) S1x256x6144.size (k0_off4_inb t)) (fun _ => rfl)).squeeze S256x6144 squeezes_S1x256x6144_S256x6144)
    (harg0.wordExact_slice rfl _ (k0_off5_wordsfp8e4m3 t)) ((harg8.wordExact_slice rfl _ (k0_off4_wordsfp8e4m3 t)).reshape _ _)) fun _ =>
  .op (.load arg9 (Rect.unit (s := S2048x192) (k0_off6 t) S256x192.size (k0_off6_inb t)).toLoadRect (View.loadsAt_vmem h_S256x192)) fun s =>
  .op (.load arg14 (Rect.unit (s := S192x256) ![0, 0] S192x256.size inb_S192x256_S192x256_0_0).toLoadRect (View.loadsAt_vmem h_S192x256)) fun _ =>
  .op (.store arg14 (Rect.unit (s := S192x256) ![0, 0] S192x256.size inb_S192x256_S192x256_0_0) (scalesOf s) Finset.univ
    (View.stores_vmem_bits_univ h_S192x256 rfl) (.inl rfl)) fun _ => k

/-- THE PRINTED TRIP is the opening, the 48 slabs and the closing stretch. -/
theorem trip_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)
    (c0_i32_38 : BitVec 32) (c1_i32_39 : BitVec 32) (t : Fin k0_t2_loop.trips) (u : Unit) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 c0_i32_38 c1_i32_39 t u
      = headP arg0 harg0 arg8 harg8 arg9 arg14 arg21 t
          (slabsP arg8 arg14 arg15 harg15 t 48 0 (by omega) (tailP arg11 arg12 arg13 arg15 arg16 harg16 arg17 harg17 arg18 t)) := by
  sl_kernel_rfl

end Cert.KernelIdeal.Steps

end
-- ==== Proof.KI.Values.lean ====
/- What every buffer of the kernel holds when its loop has passed, as functions of the five arguments.

   `X` the codes, `Sc` the scales, `W` the weight, `I` the chosen experts, `G` the gates' gradient. -/
module

public import proofs.«01_k».proof.Proof.KI.Steps
public import proofs.«01_k».proof.Proof.Own
public import Idealize.ShloMosaic.Lib.Pointwise
public import Idealize.ShloMosaic.Lib.ValueLayout

@[expose] public section

set_option maxRecDepth 16384

noncomputable section

namespace Cert.KernelIdeal.Values

open Idealize.ShloMosaic Idealize.ShloMosaic.TcCoe Idealize.ShloMosaic.Tactic
open Idealize.SL Idealize.SL.Sem
open Cert.KernelIdeal.Gen Cert.KernelIdeal.Steps

variable {F : FTy → Type} [FloatOps F]

/-- The codes, tile by tile. -/
def x8T (X : Vec F S2048x6144 .fp8e4m3) : Vec F S8x256x6144 .fp8e4m3 :=
  fun y => X (ix2 (⟨256 * (y 0).val + (y 1).val, by have := (y 0).isLt; have := (y 1).isLt; change _ < 8 at *; change (y 1).val < 256 at *; omega⟩ : Fin 2048) (⟨(y 2).val, (y 2).isLt⟩ : Fin 6144))

/-- The weight transposed. -/
def wtT (W : Vec F S6144x160 .bf16) : Vec F S160x6144 .bf16 :=
  fun y => W (ix2 (⟨(y 1).val, (y 1).isLt⟩ : Fin 6144) (⟨(y 0).val, (y 0).isLt⟩ : Fin 160))

/-- The activations: every code times its block's scale, both in bf16; feature by token. -/
def aT (X : Vec F S2048x6144 .fp8e4m3) (Sc : Vec F S2048x192 .f32) : FVec F S6144x2048 .bf16 :=
  mulf (extf .bf16 (fun y => X (ix2 (⟨(y 1).val, (y 1).isLt⟩ : Fin 2048) (⟨(y 0).val, (y 0).isLt⟩ : Fin 6144)) : FVec F S6144x2048 .fp8e4m3) bitsLt_fp8e4m3_bf16)
    (truncf .bf16 (extf .f32 (truncf .bf16 (fun y => Sc (ix2 (⟨(y 1).val, (y 1).isLt⟩ : Fin 2048)
      (⟨(y 0).val / 32, by have := (y 0).isLt; change (y 0).val < 6144 at this; omega⟩ : Fin 192)) : FVec F S6144x2048 .f32) bitsLt_bf16_f32) bitsLt_bf16_f32) bitsLt_bf16_f32)

/-- The scales of tile `t`. -/
def tileS (Sc : Vec F S2048x192 .f32) (t : Fin 8) : Vec F S256x192 .f32 :=
  fun y => Sc (ix2 (⟨256 * t.val + (y 0).val, by have := (y 0).isLt; change (y 0).val < 256 at this; omega⟩ : Fin 2048) (⟨(y 1).val, (y 1).isLt⟩ : Fin 192))

/-- Tile `t` of an array of rows of six. -/
def tile6 {α : Type} (I : S2048x6.Idx → α) (t : Fin 8) : S256x6.Idx → α :=
  fun y => I (ix2 (⟨256 * t.val + (y 0).val, by have := (y 0).isLt; change (y 0).val < 256 at this; omega⟩ : Fin 2048) (⟨(y 1).val, (y 1).isLt⟩ : Fin 6))

/-- Tile `t` of the activations. -/
def tileA (A : FVec F S6144x2048 .bf16) (t : Fin 8) : FVec F S6144x256 .bf16 :=
  fun y => A (ix2 (⟨(y 0).val, (y 0).isLt⟩ : Fin 6144) (⟨256 * t.val + (y 1).val, by have := (y 1).isLt; change (y 1).val < 256 at this; omega⟩ : Fin 2048))

/-- The gradient of the logits of tile `t`, expert by token. -/
def tileD (X : Vec F S2048x6144 .fp8e4m3) (Sc : Vec F S2048x192 .f32) (W : Vec F S6144x160 .bf16) (I : Vec F S2048x6 .i32) (G : Vec F S2048x6 .bf16)
    (t : Fin 8) : FVec F S160x256 .f32 :=
  dlT (wtT W) (tileA (aT X Sc) t) (tile6 I t) (tile6 G t)

/-- The tile of a token, -/
def tileOf (n : Fin 2048) : Fin 8 := ⟨n.val / 256, by omega⟩
/-- and its place there. -/
def tokOf (n : Fin 2048) : Fin 256 := ⟨n.val % 256, by omega⟩

/-- The gradient of the logits rounded to bf16, expert by token. -/
def d16T (D : Fin 8 → FVec F S160x256 .f32) : FVec F S160x2048 .bf16 :=
  fun y => dl16T (D (tileOf ⟨(y 1).val, (y 1).isLt⟩)) (ix2 (⟨(y 0).val, (y 0).isLt⟩ : Fin 160) (tokOf ⟨(y 1).val, (y 1).isLt⟩))

/-- The gradient of the logits, token by expert. -/
def dlogT (D : Fin 8 → FVec F S160x256 .f32) : FVec F S2048x160 .f32 :=
  fun y => dlN (D (tileOf ⟨(y 0).val, (y 0).isLt⟩)) (ix2 (tokOf ⟨(y 0).val, (y 0).isLt⟩) (⟨(y 1).val, (y 1).isLt⟩ : Fin 160))

/-- The same rounded to bf16. -/
def dl16 (D : Fin 8 → FVec F S160x256 .f32) : FVec F S2048x160 .bf16 :=
  fun y => dl16N (D (tileOf ⟨(y 0).val, (y 0).isLt⟩)) (ix2 (tokOf ⟨(y 0).val, (y 0).isLt⟩) (⟨(y 1).val, (y 1).isLt⟩ : Fin 160))

/-- Chunk `c` of 512 columns of the transposed weight, -/
def chunkW (Wt : Vec F S160x6144 .bf16) (c : Fin 12) : Vec F S160x512 .bf16 :=
  fun y => Wt (ix2 (⟨(y 0).val, (y 0).isLt⟩ : Fin 160) (⟨512 * c.val + (y 1).val, by have := (y 1).isLt; change (y 1).val < 512 at this; omega⟩ : Fin 6144))
/-- and of 512 rows of the activations. -/
def chunkA (A : FVec F S6144x2048 .bf16) (c : Fin 12) : FVec F S512x2048 .bf16 :=
  fun y => A (ix2 (⟨512 * c.val + (y 0).val, by have := (y 0).isLt; change (y 0).val < 512 at this; omega⟩ : Fin 6144) (⟨(y 1).val, (y 1).isLt⟩ : Fin 2048))

/-- The chunk of a feature, -/
def chunkOf (d : Fin 6144) : Fin 12 := ⟨d.val / 512, by omega⟩
/-- and its place there. -/
def featOf (d : Fin 6144) : Fin 512 := ⟨d.val % 512, by omega⟩

/-- The gradient of the activations. -/
def dxT (L : FVec F S2048x160 .bf16) (Wt : Vec F S160x6144 .bf16) : FVec F S2048x6144 .bf16 :=
  fun y => k0_pay313 L (chunkW Wt (chunkOf ⟨(y 1).val, (y 1).isLt⟩)) (ix3 (0 : Fin 1) (⟨(y 0).val, (y 0).isLt⟩ : Fin 2048) (featOf ⟨(y 1).val, (y 1).isLt⟩))

/-- The gradient of the weight. -/
def dwT (L : FVec F S160x2048 .bf16) (A : FVec F S6144x2048 .bf16) : FVec F S6144x160 .f32 :=
  fun y => k0_pay314 L (chunkA A (chunkOf ⟨(y 0).val, (y 0).isLt⟩)) (ix3 (0 : Fin 1) (featOf ⟨(y 0).val, (y 0).isLt⟩) (⟨(y 1).val, (y 1).isLt⟩ : Fin 160))

/-! ## The windows the loops read and write -/

section Windows
variable (t : Fin k0_t2_loop.trips) (c : Fin k0_t3_loop.trips)

theorem t2_lt : t.val < 8 := lt_of_lt_of_le t.isLt k0_t2_abs.2.1
theorem t3_lt : c.val < 12 := lt_of_lt_of_le c.isLt k0_t3_abs.2.1
/-- A trip's number. -/
abbrev tn : Fin 8 := ⟨t.val, t2_lt t⟩
abbrev cn : Fin 12 := ⟨c.val, t3_lt c⟩

theorem val_unit {s : Shape} {off off' size : Fin s.rank → ℕ} (h : off = off') {inb : ∀ a, off a + size a ≤ s.size a} (y : (Rect.unit off size inb).shape.Idx) (a) :
    ((Rect.unit off size inb).emb y a).val = off' a + 1 * (y a).val := by subst h; rfl

theorem window_s (Sc : Vec F S2048x192 .f32) : VecWindow.window Sc (k0_off6 t) S256x192.size (k0_off6_inb t) = tileS Sc (tn t) := by
  have h := k0_off6_eq t
  funext y
  refine congrArg Sc (funext fun a => Fin.ext ?_)
  refine (val_unit h y a).trans ?_
  fin_cases a
  · show 256 * t.val + 1 * (y 0).val = 256 * t.val + (y 0).val
    omega
  · show 0 + 1 * (y 1).val = (y 1).val
    omega

theorem window_6 {α : Type} (I : S2048x6.Idx → α) : VecWindow.window I (k0_off248 t) S256x6.size (k0_off248_inb t) = tile6 I (tn t) := by
  have h := k0_off248_eq t
  funext y
  refine congrArg I (funext fun a => Fin.ext ?_)
  refine (val_unit h y a).trans ?_
  fin_cases a
  · show 256 * t.val + 1 * (y 0).val = 256 * t.val + (y 0).val
    omega
  · show 0 + 1 * (y 1).val = (y 1).val
    omega

theorem window_w (Wt : Vec F S160x6144 .bf16) : VecWindow.window Wt (k0_off256 c) S160x512.size (k0_off256_inb c) = chunkW Wt (cn c) := by
  have h := k0_off256_eq c
  funext y
  refine congrArg Wt (funext fun a => Fin.ext ?_)
  refine (val_unit h y a).trans ?_
  fin_cases a
  · show 0 + 1 * (y 0).val = (y 0).val
    omega
  · show 512 * c.val + 1 * (y 1).val = 512 * c.val + (y 1).val
    omega

theorem window_ac (A : FVec F S6144x2048 .bf16) : VecWindow.window A (k0_off258 c) S512x2048.size (k0_off258_inb c) = chunkA A (cn c) := by
  have h := k0_off258_eq c
  funext y
  refine congrArg A (funext fun a => Fin.ext ?_)
  refine (val_unit h y a).trans ?_
  fin_cases a
  · show 512 * c.val + 1 * (y 0).val = 512 * c.val + (y 0).val
    omega
  · show 0 + 1 * (y 1).val = (y 1).val
    omega

/-- The tile's columns, where the buffer agrees with the activations there. -/
theorem window_a (A Y : FVec F S6144x2048 .bf16) (hY : ∀ y : S6144x2048.Idx, (y 1).val < 256 * t.val + 256 → Y y = A y) :
    VecWindow.window Y (k0_off247 t) S6144x256.size (k0_off247_inb t) = tileA A (tn t) := by
  have h := k0_off247_eq t
  funext y
  have e : (Rect.unit (s := S6144x2048) (k0_off247 t) S6144x256.size (k0_off247_inb t)).emb y
      = ix2 (⟨(y 0).val, (y 0).isLt⟩ : Fin 6144) (⟨256 * t.val + (y 1).val, by have := (y 1).isLt; have := t2_lt t; change (y 1).val < 256 at *; omega⟩ : Fin 2048) :=
    funext fun a => Fin.ext (by
      refine (val_unit h y a).trans ?_
      fin_cases a
      · show 0 + 1 * (y 0).val = (y 0).val
        omega
      · show 256 * t.val + 1 * (y 1).val = 256 * t.val + (y 1).val
        omega)
  show Y _ = A _
  rw [e]
  exact hY _ (by show 256 * t.val + (y 1).val < _; have := (y 1).isLt; change (y 1).val < 256 at this; omega)

theorem block_apply (x : Vec F S1x256x128 .fp8e4m3) (b : Fin 4) (s : Vec F S1x256 .f32) (i : Fin 32) (q : Fin 256)
    (X : Vec F S2048x6144 .fp8e4m3) (Sc : Vec F S2048x192 .f32) (d : Fin 6144) (n : Fin 2048)
    (hx : x (ix3 (0 : Fin 1) q (⟨32 * b.val + i.val, by omega⟩ : Fin 128)) = X (ix2 n d))
    (hs : s (ix2 (0 : Fin 1) q) = FloatOps.extf .f32 bitsLt_bf16_f32 (FloatOps.truncf .bf16 bitsLt_bf16_f32 (Sc (ix2 n (⟨d.val / 32, by omega⟩ : Fin 192))))) :
    blockOf (slabOf x) b s (ix2 i q) = aT X Sc (ix2 d n) := by
  pointwise [blockOf, slabOf, aT]
  rw [hx, hs]

theorem scales_apply (s : Vec F S256x192 .f32) (k : Fin 192) (q : Fin 256) :
    scalesOf s (ix2 k q) = FloatOps.extf .f32 bitsLt_bf16_f32 (FloatOps.truncf .bf16 bitsLt_bf16_f32 (s (ix2 q k))) := by
  pointwise [scalesOf]

/-- Block `(j, b)` of the tile is a window of the activations. -/
theorem block_eq (X : Vec F S2048x6144 .fp8e4m3) (Sc : Vec F S2048x192 .f32) (j : ℕ) (hj : j < 48) (b : Fin 4)
    (z : (Rect.unit (s := S6144x2048) (offA t j b) S32x256.size (offA_inb t j b hj)).shape.Idx) :
    blockOf (slabOf (VecWindow.window (x8T X) (offX t j) S1x256x128.size (offX_inb t j hj))) b
        (VecWindow.window (scalesOf (tileS Sc (tn t))) (offS j b) S1x256.size (offS_inb j b hj)) z
      = aT X Sc ((Rect.unit (s := S6144x2048) (offA t j b) S32x256.size (offA_inb t j b hj)).emb z) := by
  have ht := t2_lt t
  have h7 : k0_off7 t 0 = t.val := congrFun (k0_off7_eq t) 0
  have h8 : k0_off8 t 1 = 256 * t.val := congrFun (k0_off8_eq t) 1
  obtain ⟨i, q, rfl⟩ : ∃ (i : Fin 32) (q : Fin 256), z = ix2 i q := ⟨z 0, z 1, eq_ix2 (n0 := 32) (n1 := 256) z⟩
  have e : (Rect.unit (s := S6144x2048) (offA t j b) S32x256.size (offA_inb t j b hj)).emb (ix2 i q)
      = ix2 (⟨128 * j + 32 * b.val + i.val, by omega⟩ : Fin 6144) (⟨256 * t.val + q.val, by omega⟩ : Fin 2048) :=
    funext fun a => Fin.ext (by
      refine (val_unit rfl _ a).trans ?_
      fin_cases a
      · show 128 * j + 32 * b.val + 1 * i.val = 128 * j + 32 * b.val + i.val
        omega
      · show k0_off8 t 1 + 1 * q.val = 256 * t.val + q.val
        omega)
  rw [e]
  refine block_apply _ b _ i q X Sc _ _ ?_ ?_
  · refine congrArg X (funext fun a => Fin.ext ?_)
    fin_cases a
    · show 256 * (k0_off7 t 0 + 1 * 0) + (0 + 1 * q.val) = 256 * t.val + q.val
      omega
    · show 128 * j + 1 * (32 * b.val + i.val) = 128 * j + 32 * b.val + i.val
      omega
  · have e' : (Rect.unit (s := S192x256) (offS j b) S1x256.size (offS_inb j b hj)).emb (ix2 (0 : Fin 1) q) = ix2 (⟨4 * j + b.val, by omega⟩ : Fin 192) q :=
      funext fun a => Fin.ext (by
        refine (val_unit rfl _ a).trans ?_
        fin_cases a
        · show 4 * j + b.val + 1 * 0 = 4 * j + b.val
          omega
        · show 0 + 1 * q.val = q.val
          omega)
    show scalesOf _ _ = _
    rw [e', scales_apply]
    refine congrArg (fun r => FloatOps.extf .f32 bitsLt_bf16_f32 (FloatOps.truncf .bf16 bitsLt_bf16_f32 (Sc r))) (funext fun a => Fin.ext ?_)
    fin_cases a
    · rfl
    · show 4 * j + b.val = (128 * j + 32 * b.val + i.val) / 32
      omega

variable (D : Fin 8 → FVec F S160x256 .f32)

theorem store_d16T (z : (Rect.unit (s := S160x2048) (k0_off249 t) S160x256.size (k0_off249_inb t)).shape.Idx) :
    dl16T (D (tn t)) z = d16T D ((Rect.unit (s := S160x2048) (k0_off249 t) S160x256.size (k0_off249_inb t)).emb z) := by
  have ht := t2_lt t
  have h := k0_off249_eq t
  obtain ⟨i, q, rfl⟩ : ∃ (i : Fin 160) (q : Fin 256), z = ix2 i q := ⟨z 0, z 1, eq_ix2 (n0 := 160) (n1 := 256) z⟩
  have e : (Rect.unit (s := S160x2048) (k0_off249 t) S160x256.size (k0_off249_inb t)).emb (ix2 i q) = ix2 i (⟨256 * t.val + q.val, by omega⟩ : Fin 2048) :=
    funext fun a => Fin.ext (by
      refine (val_unit h _ a).trans ?_
      fin_cases a
      · show 0 + 1 * i.val = i.val
        omega
      · show 256 * t.val + 1 * q.val = 256 * t.val + q.val
        omega)
  rw [e]
  show _ = dl16T (D (tileOf (⟨256 * t.val + q.val, _⟩ : Fin 2048))) (ix2 i (tokOf (⟨256 * t.val + q.val, _⟩ : Fin 2048)))
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem emb_250 (q : Fin 256) (i : Fin 160) : (Rect.unit (s := S2048x160) (k0_off250 t) S256x160.size (k0_off250_inb t)).emb (ix2 q i)
    = ix2 (⟨256 * t.val + q.val, by have := t2_lt t; omega⟩ : Fin 2048) i :=
  funext fun a => Fin.ext (by
    refine (val_unit (k0_off250_eq t) _ a).trans ?_
    fin_cases a
    · show 256 * t.val + 1 * q.val = 256 * t.val + q.val
      omega
    · show 0 + 1 * i.val = i.val
      omega)

theorem store_dlogT (z : (Rect.unit (s := S2048x160) (k0_off250 t) S256x160.size (k0_off250_inb t)).shape.Idx) :
    dlN (D (tn t)) z = dlogT D ((Rect.unit (s := S2048x160) (k0_off250 t) S256x160.size (k0_off250_inb t)).emb z) := by
  have ht := t2_lt t
  obtain ⟨q, i, rfl⟩ : ∃ (q : Fin 256) (i : Fin 160), z = ix2 q i := ⟨z 0, z 1, eq_ix2 (n0 := 256) (n1 := 160) z⟩
  rw [emb_250]
  show _ = dlN (D (tileOf (⟨256 * t.val + q.val, _⟩ : Fin 2048))) (ix2 (tokOf (⟨256 * t.val + q.val, _⟩ : Fin 2048)) i)
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem store_dl16 (z : (Rect.unit (s := S2048x160) (k0_off250 t) S256x160.size (k0_off250_inb t)).shape.Idx) :
    dl16N (D (tn t)) z = dl16 D ((Rect.unit (s := S2048x160) (k0_off250 t) S256x160.size (k0_off250_inb t)).emb z) := by
  have ht := t2_lt t
  obtain ⟨q, i, rfl⟩ : ∃ (q : Fin 256) (i : Fin 160), z = ix2 q i := ⟨z 0, z 1, eq_ix2 (n0 := 256) (n1 := 160) z⟩
  rw [emb_250]
  show _ = dl16N (D (tileOf (⟨256 * t.val + q.val, _⟩ : Fin 2048))) (ix2 (tokOf (⟨256 * t.val + q.val, _⟩ : Fin 2048)) i)
  rw [show tileOf (⟨256 * t.val + q.val, by omega⟩ : Fin 2048) = tn t from Fin.ext (by show (256 * t.val + q.val) / 256 = t.val; omega),
    show tokOf (⟨256 * t.val + q.val, by omega⟩ : Fin 2048) = q from Fin.ext (by show (256 * t.val + q.val) % 256 = q.val; omega)]

theorem store_wtT (t : Fin k0_t1_loop.trips) (W : Vec F S6144x160 .bf16) (z : (Rect.unit (s := S160x6144) (k0_off2 t) S160x512.size (k0_off2_inb t)).shape.Idx) :
    k0_pay315 (VecWindow.window W (k0_off1 t) S512x160.size (k0_off1_inb t)) z
      = wtT W ((Rect.unit (s := S160x6144) (k0_off2 t) S160x512.size (k0_off2_inb t)).emb z) := by
  obtain ⟨i, q, rfl⟩ : ∃ (i : Fin 160) (q : Fin 512), z = ix2 i q := ⟨z 0, z 1, eq_ix2 (n0 := 160) (n1 := 512) z⟩
  have h : ∀ v : Vec F S512x160 .bf16, k0_pay315 v (ix2 i q) = v (ix2 q i) := fun v => by pointwise [k0_pay315]
  rw [h]
  have e : (Rect.unit (s := S160x6144) (k0_off2 t) S160x512.size (k0_off2_inb t)).emb (ix2 i q) = ix2 i (⟨512 * t.val + q.val, by have := lt_of_lt_of_le t.isLt k0_t1_abs.2.1; omega⟩ : Fin 6144) :=
    funext fun a => Fin.ext (by
      refine (val_unit (k0_off2_eq t) _ a).trans ?_
      fin_cases a
      · show 0 + 1 * i.val = i.val
        omega
      · show 512 * t.val + 1 * q.val = 512 * t.val + q.val
        omega)
  rw [e]
  refine congrArg W (funext fun a => Fin.ext ?_)
  refine (val_unit (k0_off1_eq t) _ a).trans ?_
  fin_cases a
  · show 512 * t.val + 1 * q.val = 512 * t.val + q.val
    omega
  · show 0 + 1 * i.val = i.val
    omega

/-- What the transfer out of slot `c % 2` reads is chunk `c` of the gradient of the activations, -/
theorem out_dx (L : FVec F S2048x160 .bf16) (Wt : Vec F S160x6144 .bf16) (Y : Vec F S2x2048x512 .bf16) (y : S2048x512.Idx) :
    VecWindow.put Y (k0_off257 c) S1x2048x512.size (k0_pay313 L (chunkW Wt (cn c)))
        ((Rect.unit (s := S2x2048x512) (k0_off262 c) S1x2048x512.size (k0_off262_inb c)).emb (Shape.reshapeEquiv squeezes_S1x2048x512_S2048x512.numel_eq y))
      = dxT L Wt ((Rect.unit (s := S2048x6144) (k0_off261 c) S2048x512.size (k0_off261_inb c)).emb y) := by
  have hc := t3_lt c
  obtain ⟨n, q, rfl⟩ : ∃ (n : Fin 2048) (q : Fin 512), y = ix2 n q := ⟨y 0, y 1, eq_ix2 (n0 := 2048) (n1 := 512) y⟩
  have e : (Rect.unit (s := S2048x6144) (k0_off261 c) S2048x512.size (k0_off261_inb c)).emb (ix2 n q) = ix2 n (⟨512 * c.val + q.val, by omega⟩ : Fin 6144) :=
    funext fun a => Fin.ext (by
      refine (val_unit (k0_off261_eq c) _ a).trans ?_
      fin_cases a
      · show 0 + 1 * n.val = n.val
        omega
      · show 512 * c.val + 1 * q.val = 512 * c.val + q.val
        omega)
  rw [e]
  have hw := congrFun (VecWindow.window_put_same (s := S2x2048x512) Y (k0_off257 c) S1x2048x512.size (k0_off257_inb c) (k0_pay313 L (chunkW Wt (cn c)))) (ix3 (0 : Fin 1) n q)
  have h2 : (Rect.unit (s := S2x2048x512) (k0_off262 c) S1x2048x512.size (k0_off262_inb c)).emb (Shape.reshapeEquiv squeezes_S1x2048x512_S2048x512.numel_eq (ix2 n q))
      = (Rect.unit (s := S2x2048x512) (k0_off257 c) S1x2048x512.size (k0_off257_inb c)).emb (ix3 (0 : Fin 1) n q) := by
    rw [show Shape.reshapeEquiv squeezes_S1x2048x512_S2048x512.numel_eq (ix2 n q) = ix3 (⟨0, Nat.one_pos⟩ : Fin 1) n q from ValueIdx.reshapeEquiv_ix2_1ab _ n q]
    exact funext fun a => Fin.ext ((val_unit (k0_off262_eq c) _ a).trans (val_unit (k0_off257_eq c) _ a).symm)
  rw [h2]
  refine hw.trans ?_
  show _ = k0_pay313 L (chunkW Wt (chunkOf (⟨512 * c.val + q.val, _⟩ : Fin 6144))) (ix3 (0 : Fin 1) n (featOf (⟨512 * c.val + q.val, _⟩ : Fin 6144)))
  rw [show chunkOf (⟨512 * c.val + q.val, by omega⟩ : Fin 6144) = cn c from Fin.ext (by show (512 * c.val + q.val) / 512 = c.val; omega),
    show featOf (⟨512 * c.val + q.val, by omega⟩ : Fin 6144) = q from Fin.ext (by show (512 * c.val + q.val) % 512 = q.val; omega)]

/-- and of the gradient of the weight. -/
theorem out_dw (L : FVec F S160x2048 .bf16) (A : FVec F S6144x2048 .bf16) (Y : Vec F S2x512x160 .f32) (y : S512x160.Idx) :
    VecWindow.put Y (k0_off259 c) S1x512x160.size (k0_pay314 L (chunkA A (cn c)))
        ((Rect.unit (s := S2x512x160) (k0_off264 c) S1x512x160.size (k0_off264_inb c)).emb (Shape.reshapeEquiv squeezes_S1x512x160_S512x160.numel_eq y))
      = dwT L A ((Rect.unit (s := S6144x160) (k0_off263 c) S512x160.size (k0_off263_inb c)).emb y) := by
  have hc := t3_lt c
  obtain ⟨q, n, rfl⟩ : ∃ (q : Fin 512) (n : Fin 160), y = ix2 q n := ⟨y 0, y 1, eq_ix2 (n0 := 512) (n1 := 160) y⟩
  have e : (Rect.unit (s := S6144x160) (k0_off263 c) S512x160.size (k0_off263_inb c)).emb (ix2 q n) = ix2 (⟨512 * c.val + q.val, by omega⟩ : Fin 6144) n :=
    funext fun a => Fin.ext (by
      refine (val_unit (k0_off263_eq c) _ a).trans ?_
      fin_cases a
      · show 512 * c.val + 1 * q.val = 512 * c.val + q.val
        omega
      · show 0 + 1 * n.val = n.val
        omega)
  rw [e]
  have hw := congrFun (VecWindow.window_put_same (s := S2x512x160) Y (k0_off259 c) S1x512x160.size (k0_off259_inb c) (k0_pay314 L (chunkA A (cn c)))) (ix3 (0 : Fin 1) q n)
  have h2 : (Rect.unit (s := S2x512x160) (k0_off264 c) S1x512x160.size (k0_off264_inb c)).emb (Shape.reshapeEquiv squeezes_S1x512x160_S512x160.numel_eq (ix2 q n))
      = (Rect.unit (s := S2x512x160) (k0_off259 c) S1x512x160.size (k0_off259_inb c)).emb (ix3 (0 : Fin 1) q n) := by
    rw [show Shape.reshapeEquiv squeezes_S1x512x160_S512x160.numel_eq (ix2 q n) = ix3 (⟨0, Nat.one_pos⟩ : Fin 1) q n from ValueIdx.reshapeEquiv_ix2_1ab _ q n]
    exact funext fun a => Fin.ext ((val_unit (k0_off264_eq c) _ a).trans (val_unit (k0_off259_eq c) _ a).symm)
  rw [h2]
  refine hw.trans ?_
  show _ = k0_pay314 L (chunkA A (chunkOf (⟨512 * c.val + q.val, _⟩ : Fin 6144))) (ix3 (0 : Fin 1) (featOf (⟨512 * c.val + q.val, _⟩ : Fin 6144)) n)
  rw [show chunkOf (⟨512 * c.val + q.val, by omega⟩ : Fin 6144) = cn c from Fin.ext (by show (512 * c.val + q.val) / 512 = c.val; omega),
    show featOf (⟨512 * c.val + q.val, by omega⟩ : Fin 6144) = q from Fin.ext (by show (512 * c.val + q.val) % 512 = q.val; omega)]

end Windows

end Cert.KernelIdeal.Values

end
-- ==== Proof.KI.Trip.lean ====
/- The token-tile trip run: the slabs of the activations, and the softmax's three stores. -/
module

public import proofs.«01_k».proof.Proof.KI.Values
public import Idealize.ShloMosaic.Lib.Pipeline.Kit
public import Idealize.ShloMosaic.Lib.Pipeline.FrameBody

@[expose] public section

set_option maxRecDepth 16384

noncomputable section

namespace Cert.KernelIdeal.Trip

open Cert.KernelIdeal Cert.KernelIdeal.Gen Cert.KernelIdeal.Steps Cert.KernelIdeal.Values
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A memref held at the indices `D`, at the values `T`, by the device's core. -/
abbrev own (c : Dev nD) {sp : Space} {s : Shape} {e : EltTy} (m : Memref sig .tc sp s e) (D : Finset s.Idx) (T : s.Idx → Elt F e) :
    sProp (MT nD τ sig Unit (Elt F) ℕ (Pipeline.UD sig nD τ) ℕ) := Own.At (c : Thread nD τ) m D T

/-- The weakest precondition of a program of the region. -/
abbrev wpP (c : Dev nD) {α : Type} (p : Prog (TpuEff nD τ sig (Elt F) Λ₀ .tc) α) (Q : α → sProp (MT nD τ sig Unit (Elt F) ℕ (Pipeline.UD sig nD τ) ℕ)) :
    sProp (MT nD τ sig Unit (Elt F) ℕ (Pipeline.UD sig nD τ) ℕ) :=
  wp frame (wpE (defs₀ (F := F)) Variants.none (c : Thread nD τ) none) Set.univ p Q

variable (c : Dev nD)
variable (X : Vec F S2048x6144 .fp8e4m3) (Sc : Vec F S2048x192 .f32) (W : Vec F S6144x160 .bf16) (I : Vec F S2048x6 .i32) (G : Vec F S2048x6 .bf16)

/-- The activations' buffer agrees with the activations at the tiles before `t`, and in tile `t` at the rows before `r`. -/
def ADone (t r : ℕ) (Y : FVec F S6144x2048 .bf16) : Prop :=
  ∀ y : S6144x2048.Idx, ((y 1).val < 256 * t ∨ ((y 1).val < 256 * t + 256 ∧ (y 0).val < r)) → Y y = aT X Sc y

section Slab
variable (arg8 : Memref sig .tc .vmem S8x256x6144 .fp8e4m3) (arg14 : Memref sig .tc .vmem S192x256 .f32)
  (arg15 : Memref sig .tc .vmem S6144x2048 .bf16) (harg15 : arg15.IsWhole)

/-- The slot of tile `t` among the codes. -/
def slot8 (t : Fin k0_t2_loop.trips) : Finset S8x256x6144.Idx := (Rect.unit (s := S8x256x6144) (k0_off4 t) S1x256x6144.size (k0_off4_inb t)).set

theorem block_wp (t : Fin k0_t2_loop.trips) (j : ℕ) (hj : j < 48) (b : Fin 4) (r : ℕ) (hr : r = 128 * j + 32 * b.val) (k : Pgm F) (Q : Unit → sProp 𝕄) :
    iprop(own c arg14 Finset.univ (scalesOf (tileS Sc (tn t))) ∗ ∃ Y, own c arg15 Finset.univ Y ∗ ⌜ADone X Sc t.val r Y⌝)
      ⊢ iprop((iprop(own c arg14 Finset.univ (scalesOf (tileS Sc (tn t))) ∗ ∃ Y, own c arg15 Finset.univ Y ∗ ⌜ADone X Sc t.val (r + 32) Y⌝) -∗ wpP c k Q)
        -∗ wpP c (blockP arg14 arg15 harg15 t j hj (slabOf (VecWindow.window (x8T X) (offX t j) S1x256x128.size (offX_inb t j hj))) b k) Q) := by
  unfold blockP
  iintro ⟨HS, ⟨%Y, HA, %hY⟩⟩ HK
  iapply (Own.wp_load Variants.none (c : Thread nD τ) none (m := arg14) (D := Finset.univ) (Finset.subset_univ _)) $$ HS
  iintro HS
  iapply (Own.wp_load Variants.none (c : Thread nD τ) none (m := arg15) (D := Finset.univ) (Finset.subset_univ _)) $$ HA
  iintro HA
  iapply (Own.wp_store Variants.none (c : Thread nD τ) none (m := arg15) (D := Finset.univ) (Finset.subset_univ _)) $$ HA
  iintro HA
  iapply HK
  isplitl [HS]; · iexact HS
  iexists _
  isplitl [HA]; · iexact HA
  ipureintro
  intro y hy
  refine Own.put_done (s := S6144x2048) (inb := offA_inb t j b hj) (block_eq t X Sc j hj b) y ?_
  have h8 : k0_off8 t 1 = 256 * t.val := congrFun (k0_off8_eq t) 1
  by_cases h : (y 1).val < 256 * t.val ∨ ((y 1).val < 256 * t.val + 256 ∧ (y 0).val < r)
  · exact .inr (hY y h)
  · refine .inl fun a => ?_
    fin_cases a
    · show 128 * j + 32 * b.val ≤ (y 0).val ∧ (y 0).val < 128 * j + 32 * b.val + 32
      omega
    · show k0_off8 t 1 ≤ (y 1).val ∧ (y 1).val < k0_off8 t 1 + 256
      omega

theorem slab_wp (t : Fin k0_t2_loop.trips) (j : ℕ) (hj : j < 48) (k : Pgm F) (Q : Unit → sProp 𝕄) :
    iprop(own c arg8 (slot8 t) (x8T X) ∗ own c arg14 Finset.univ (scalesOf (tileS Sc (tn t))) ∗ ∃ Y, own c arg15 Finset.univ Y ∗ ⌜ADone X Sc t.val (128 * j) Y⌝)
      ⊢ iprop((iprop(own c arg8 (slot8 t) (x8T X) ∗ own c arg14 Finset.univ (scalesOf (tileS Sc (tn t))) ∗ ∃ Y, own c arg15 Finset.univ Y ∗ ⌜ADone X Sc t.val (128 * (j + 1)) Y⌝) -∗ wpP c k Q)
        -∗ wpP c (slabP arg8 arg14 arg15 harg15 t j hj k) Q) := by
  unfold slabP
  iintro ⟨HX, HB⟩ HK
  iapply (Own.wp_load Variants.none (c : Thread nD τ) none (m := arg8) (D := slot8 t) ?_) $$ HX
  · intro y hy
    have h7 : k0_off7 t 0 = t.val := congrFun (k0_off7_eq t) 0
    have h4 := k0_off4_eq t
    rw [Rect.mem_set_unit] at hy
    unfold slot8
    rw [Rect.mem_set_unit, h4]
    intro a
    have := hy a
    fin_cases a
    · change k0_off7 t 0 ≤ (y 0).val ∧ (y 0).val < k0_off7 t 0 + 1 at this
      show t.val ≤ (y 0).val ∧ (y 0).val < t.val + 1
      omega
    · change 0 ≤ (y 1).val ∧ (y 1).val < 0 + 256 at this
      exact this
    · change 128 * j ≤ (y 2).val ∧ (y 2).val < 128 * j + 128 at this
      show 0 ≤ (y 2).val ∧ (y 2).val < 0 + 6144
      omega
  iintro HX
  iapply (block_wp c X Sc arg14 arg15 harg15 t j hj 0 (128 * j) rfl) $$ HB
  iintro HB
  iapply (block_wp c X Sc arg14 arg15 harg15 t j hj 1 (128 * j + 32) rfl) $$ HB
  iintro HB
  iapply (block_wp c X Sc arg14 arg15 harg15 t j hj 2 (128 * j + 32 + 32) rfl) $$ HB
  iintro HB
  iapply (block_wp c X Sc arg14 arg15 harg15 t j hj 3 (128 * j + 32 + 32 + 32) rfl) $$ HB
  iintro HB
  iapply HK
  isplitl [HX]; · iexact HX
  iexact HB

theorem slabs_wp (t : Fin k0_t2_loop.trips) (n j : ℕ) (h : j + n ≤ 48) (k : Pgm F) (Q : Unit → sProp 𝕄) :
    iprop(own c arg8 (slot8 t) (x8T X) ∗ own c arg14 Finset.univ (scalesOf (tileS Sc (tn t))) ∗ ∃ Y, own c arg15 Finset.univ Y ∗ ⌜ADone X Sc t.val (128 * j) Y⌝)
      ⊢ iprop((iprop(own c arg8 (slot8 t) (x8T X) ∗ own c arg14 Finset.univ (scalesOf (tileS Sc (tn t))) ∗ ∃ Y, own c arg15 Finset.univ Y ∗ ⌜ADone X Sc t.val (128 * (j + n)) Y⌝) -∗ wpP c k Q)
        -∗ wpP c (slabsP arg8 arg14 arg15 harg15 t n j h k) Q) := by
  induction n generalizing j with
  | zero =>
    iintro H HK
    unfold slabsP
    iapply HK
    iexact H
  | succ n ih =>
    iintro H HK
    unfold slabsP
    iapply (slab_wp c X Sc arg8 arg14 arg15 harg15 t j _) $$ H
    iintro H
    iapply (ih (j + 1) _) $$ H
    iintro H
    iapply HK
    rw [show j + 1 + n = j + (n + 1) by omega]
    iexact H

end Slab

section Tail
variable (arg11 : Memref sig .tc .vmem S2048x6 .i32) (arg12 : Memref sig .tc .vmem S2048x6 .bf16)
  (arg13 : Memref sig .tc .vmem S160x6144 .bf16) (arg15 : Memref sig .tc .vmem S6144x2048 .bf16)
  (arg16 : Memref sig .tc .vmem S160x2048 .bf16) (harg16 : arg16.IsWhole)
  (arg17 : Memref sig .tc .vmem S2048x160 .bf16) (harg17 : arg17.IsWhole)
  (arg18 : Memref sig .tc .vmem S2048x160 .f32)

/-- Buffers that agree with their targets at the tokens before `n`. -/
def ColDone {α : Type} (n : ℕ) (T Y : S160x2048.Idx → α) : Prop := ∀ y : S160x2048.Idx, (y 1).val < n → Y y = T y
def RowDone {α : Type} (n : ℕ) (T Y : S2048x160.Idx → α) : Prop := ∀ y : S2048x160.Idx, (y 0).val < n → Y y = T y

/-- The gradients of the logits, tile by tile. -/
abbrev Dt : Fin 8 → FVec F S160x256 .f32 := tileD X Sc W I G

/-- What the loops past the first hold of the buffers they share. -/
def Held (n : ℕ) : sProp 𝕄 :=
  iprop(own c arg11 Finset.univ I ∗ own c arg12 Finset.univ G ∗ own c arg13 Finset.univ (wtT W)
    ∗ (∃ Y, own c arg16 Finset.univ Y ∗ ⌜ColDone n (d16T (Dt X Sc W I G)) Y⌝)
    ∗ (∃ Y, own c arg17 Finset.univ Y ∗ ⌜RowDone n (dl16 (Dt X Sc W I G)) Y⌝)
    ∗ (∃ Y, own c arg18 Finset.univ Y ∗ ⌜RowDone n (dlogT (Dt X Sc W I G)) Y⌝))

theorem row_step {α : Type} {t : Fin k0_t2_loop.trips} {T Y : S2048x160.Idx → α} {w : S256x160.Idx → α} (hY : RowDone (256 * t.val) T Y)
    (hw : ∀ z, w z = T ((Rect.unit (s := S2048x160) (k0_off250 t) S256x160.size (k0_off250_inb t)).emb z)) :
    RowDone (256 * (t.val + 1)) T (VecWindow.put Y (k0_off250 t) S256x160.size w) := by
  intro y hy
  refine Own.put_done (s := S2048x160) (inb := k0_off250_inb t) hw y ?_
  by_cases h : (y 0).val < 256 * t.val
  · exact .inr (hY y h)
  · refine .inl ?_
    rw [k0_off250_eq t]
    intro a
    fin_cases a
    · show 256 * t.val ≤ (y 0).val ∧ (y 0).val < 256 * t.val + 256
      omega
    · show 0 ≤ (y 1).val ∧ (y 1).val < 0 + 160
      have := (y 1).isLt
      change (y 1).val < 160 at this
      omega

theorem col_step {α : Type} {t : Fin k0_t2_loop.trips} {T Y : S160x2048.Idx → α} {w : S160x256.Idx → α} (hY : ColDone (256 * t.val) T Y)
    (hw : ∀ z, w z = T ((Rect.unit (s := S160x2048) (k0_off249 t) S160x256.size (k0_off249_inb t)).emb z)) :
    ColDone (256 * (t.val + 1)) T (VecWindow.put Y (k0_off249 t) S160x256.size w) := by
  intro y hy
  refine Own.put_done (s := S160x2048) (inb := k0_off249_inb t) hw y ?_
  by_cases h : (y 1).val < 256 * t.val
  · exact .inr (hY y h)
  · refine .inl ?_
    rw [k0_off249_eq t]
    intro a
    fin_cases a
    · show 0 ≤ (y 0).val ∧ (y 0).val < 0 + 160
      have := (y 0).isLt
      change (y 0).val < 160 at this
      omega
    · show 256 * t.val ≤ (y 1).val ∧ (y 1).val < 256 * t.val + 256
      omega

theorem tail_wp (t : Fin k0_t2_loop.trips) (Q : Unit → sProp 𝕄) :
    iprop(Held c X Sc W I G arg11 arg12 arg13 arg16 arg17 arg18 (256 * t.val) ∗ ∃ Y, own c arg15 Finset.univ Y ∗ ⌜ADone X Sc (t.val + 1) 0 Y⌝)
      ⊢ iprop((iprop(Held c X Sc W I G arg11 arg12 arg13 arg16 arg17 arg18 (256 * (t.val + 1)) ∗ ∃ Y, own c arg15 Finset.univ Y ∗ ⌜ADone X Sc (t.val + 1) 0 Y⌝) -∗ Q ⟨⟩)
        -∗ wpP c (tailP arg11 arg12 arg13 arg15 arg16 harg16 arg17 harg17 arg18 t) Q) := by
  unfold tailP Held
  iintro ⟨⟨H11, H12, H13, ⟨%Y16, H16, %h16⟩, ⟨%Y17, H17, %h17⟩, ⟨%Y18, H18, %h18⟩⟩, ⟨%Y, HA, %hY⟩⟩ HK
  iapply (Own.wp_load_full Variants.none (c : Thread nD τ) none (m := arg13)) $$ H13
  iintro H13
  iapply (Own.wp_load Variants.none (c : Thread nD τ) none (m := arg15) (D := Finset.univ) (Finset.subset_univ _)) $$ HA
  iintro HA
  iapply (Own.wp_load Variants.none (c : Thread nD τ) none (m := arg11) (D := Finset.univ) (Finset.subset_univ _)) $$ H11
  iintro H11
  iapply (Own.wp_load Variants.none (c : Thread nD τ) none (m := arg12) (D := Finset.univ) (Finset.subset_univ _)) $$ H12
  iintro H12
  rw [window_a t (aT X Sc) Y (fun y hy => hY y (.inl (by omega))), window_6, window_6]
  iapply (Own.wp_load Variants.none (c : Thread nD τ) none (m := arg16) (D := Finset.univ) (Finset.subset_univ _)) $$ H16
  iintro H16
  iapply (Own.wp_store Variants.none (c : Thread nD τ) none (m := arg16) (D := Finset.univ) (Finset.subset_univ _)) $$ H16
  iintro H16
  iapply (Own.wp_load Variants.none (c : Thread nD τ) none (m := arg18) (D := Finset.univ) (Finset.subset_univ _)) $$ H18
  iintro H18
  iapply (Own.wp_store Variants.none (c : Thread nD τ) none (m := arg18) (D := Finset.univ) (Finset.subset_univ _)) $$ H18
  iintro H18
  iapply (Own.wp_load Variants.none (c : Thread nD τ) none (m := arg17) (D := Finset.univ) (Finset.subset_univ _)) $$ H17
  iintro H17
  iapply (Own.wp_store Variants.none (c : Thread nD τ) none (m := arg17) (D := Finset.univ) (Finset.subset_univ _)) $$ H17
  iintro H17
  rw [wp_ret]
  imodintro
  iapply HK
  isplitl [H11 H12 H13 H16 H17 H18]
  · isplitl [H11]; · iexact H11
    isplitl [H12]; · iexact H12
    isplitl [H13]; · iexact H13
    isplitl [H16]
    · iexists _
      isplitl [H16]; · iexact H16
      ipureintro
      exact col_step h16 (store_d16T t (Dt X Sc W I G))
    isplitl [H17]
    · iexists _
      isplitl [H17]; · iexact H17
      ipureintro
      exact row_step h17 (store_dl16 t (Dt X Sc W I G))
    iexists _
    isplitl [H18]; · iexact H18
    ipureintro
    exact row_step h18 (store_dlogT t (Dt X Sc W I G))
  iexists Y
  isplitl [HA]; · iexact HA
  ipureintro
  exact hY

end Tail

end Cert.KernelIdeal.Trip

end
-- ==== Proof.KI.Land.lean ====
/- The codes' transfers, and the first two loops: the weight's transpose, the token tiles. -/
module

public import proofs.«01_k».proof.Proof.KI.Trip

@[expose] public section

set_option maxRecDepth 16384

noncomputable section

namespace Cert.KernelIdeal.Land

open Cert.KernelIdeal Cert.KernelIdeal.Gen Cert.KernelIdeal.Steps Cert.KernelIdeal.Values Cert.KernelIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

/-- The transfers' counters. -/
abbrev EC : UEmb Counters (MT nD τ sig Unit (Elt F) ℕ (Pipeline.UD sig nD τ) ℕ) := countersEmb (U := Pipeline.UD sig nD τ)

/-- A semaphore of the device's core at zero. -/
abbrev zeroed (c : Dev nD) (s : DmaSem sig) : sProp (MT nD τ sig Unit (Elt F) ℕ (Pipeline.UD sig nD τ) ℕ) := semVal ((c : Thread nD τ), .dma s) 0

/-- The core's debts, whatever they are. -/
abbrev debts (c : Dev nD) : sProp (MT nD τ sig Unit (Elt F) ℕ (Pipeline.UD sig nD τ) ℕ) := iprop(∃ W, owes (c : Thread nD τ) 0 W)

/-- A transfer in flight on `s` that delivers `N` and leaves `D`. -/
abbrev Fly (c : Dev nD) (s : DmaSem sig) (N : ℕ) (D : sProp (MT nD τ sig Unit (Elt F) ℕ (Pipeline.UD sig nD τ) ℕ)) :
    sProp (MT nD τ sig Unit (Elt F) ℕ (Pipeline.UD sig nD τ) ℕ) := Flight EC (c : Thread nD τ) (.dma s) () N D

variable (c : Dev nD)
variable (X : Vec F S2048x6144 .fp8e4m3) (Sc : Vec F S2048x192 .f32) (W : Vec F S6144x160 .bf16) (I : Vec F S2048x6 .i32) (G : Vec F S2048x6 .bf16)

/-! ## Whole arrays carried over -/

section Whole
variable {sp sp' : Space} {s : Shape} {e : EltTy}

/-- What a transfer of a whole array delivers. -/
abbrev amt (dst : Memref sig .tc sp s e) : ℕ := dst.view.dmaCredit

theorem copy_wp {src : Memref sig .tc sp s e} {dst : Memref sig .tc sp' s e} {sm : DmaSem sig} {hsrc : src.view.WordExact} {hdst : dst.view.WordExact}
    {hsem : DmaTarget.Typed (nD := nD) (τ := τ) (sig := sig) (p := .tc) sp (.dma sm) (.here dst)} (h0 : 0 < s.numel) {T : s.Idx → Elt F e} {k : PUnit → Pgm F} {Q : Unit → sProp (MT nD τ sig Unit (Elt F) ℕ (Pipeline.UD sig nD τ) ℕ)} :
    iprop(own c src Finset.univ T ∗ (∃ Y, own c dst Finset.univ Y) ∗ zeroed c sm)
      ⊢ iprop((Fly c sm (amt dst) iprop(own c dst Finset.univ T ∗ own c src Finset.univ T) -∗ wpP c (k ⟨⟩) Q)
          -∗ wpP c (.op (.enqueueDma src (.here dst) (.dma sm) hsrc hdst hsem) k) Q) := by
  have h : ∀ Y, iprop(own c src Finset.univ T ∗ own c dst Finset.univ Y ∗ zeroed c sm)
      ⊢ iprop((Fly c sm (amt dst) iprop(own c dst Finset.univ T ∗ own c src Finset.univ T) -∗ wpP c (k ⟨⟩) Q)
          -∗ wpP c (.op (.enqueueDma src (.here dst) (.dma sm) hsrc hdst hsem) k) Q) := fun Y =>
    Own.wp_dma Variants.none (c : Thread nD τ) none EC (src := src) (dst := dst) (sm := sm) () (amt dst) rfl (View.dmaCredit_pos _ h0) T Y
      iprop(own c dst Finset.univ T ∗ own c src Finset.univ T) Entails.refl
  iintro ⟨HS, ⟨%Y, HD⟩, HV⟩
  iapply (h Y)
  isplitl [HS]; · iexact HS
  isplitl [HD]; · iexact HD
  iexact HV

theorem await_wp {s' : Shape} {e' : EltTy} {srcw : Memref sig .tc sp s' e'} {dst : Memref sig .tc sp' s e} {sm : DmaSem sig} {hsrc : srcw.view.WordExact} {hdst : dst.view.WordExact}
    {N : ℕ} (hN : dst.view.dmaCredit = N) {D : sProp (MT nD τ sig Unit (Elt F) ℕ (Pipeline.UD sig nD τ) ℕ)} {k : PUnit → Pgm F} {Q : Unit → sProp (MT nD τ sig Unit (Elt F) ℕ (Pipeline.UD sig nD τ) ℕ)} :
    iprop(Fly c sm N D ∗ debts c)
      ⊢ iprop((iprop(D ∗ zeroed c sm ∗ debts c) -∗ wpP c (k ⟨⟩) Q)
          -∗ wpP c (.op (.waitDma2 sm srcw dst hsrc hdst) k) Q) :=
  Own.wp_wait Variants.none (c : Thread nD τ) none EC () hN

end Whole

/-! ## The codes' transfers -/

section Codes
variable (arg0 : Memref sig .tc .hbm S2048x6144 .fp8e4m3) (harg0 : arg0.IsWhole) (arg8 : Memref sig .tc .vmem S8x256x6144 .fp8e4m3) (harg8 : arg8.IsWhole)
  (arg21 : DmaSems sig S8) (t : Fin k0_t2_loop.trips)

/-- The semaphore of tile `t`'s codes, -/
abbrev semX : DmaSem sig := ((arg21.slice (Rect.unit (s := S8) (k0_off3 t) S1.size (k0_off3_inb t))).squeeze S_ squeezes_S1_S_).sem
/-- their rows in the argument, -/
def rowsX : Finset S2048x6144.Idx := (Rect.unit (s := S2048x6144) (k0_off5 t) S256x6144.size (k0_off5_inb t)).set
/-- and the slot they land in. -/
abbrev slotX : Memref sig .tc .vmem S256x6144 .fp8e4m3 :=
  (arg8.slice (Rect.unit (s := S8x256x6144) (k0_off4 t) S1x256x6144.size (k0_off4_inb t)) (fun _ => rfl)).squeeze S256x6144 squeezes_S1x256x6144_S256x6144

/-- The transfer of tile `t`'s codes. -/
def startX (k : Pgm F) : Pgm F :=
  .op (.enqueueDma (arg0.slice (Rect.unit (s := S2048x6144) (k0_off5 t) S256x6144.size (k0_off5_inb t)) (fun _ => rfl)) (.here (slotX arg8 t)) (.dma (semX arg21 t))
    (harg0.wordExact_slice rfl _ (k0_off5_wordsfp8e4m3 t)) ((harg8.wordExact_slice rfl _ (k0_off4_wordsfp8e4m3 t)).reshape _ _) ⟨Or.inl rfl, trivial⟩) fun _ => k

/-- Tile `t`'s codes on the way. -/
def FlyX : sProp 𝕄 := Fly c (semX arg21 t) (amt (slotX arg8 t)) iprop(own c arg8 (slot8 t) (x8T X) ∗ own c arg0 (rowsX t) X)

theorem codes_place (y : S256x6144.Idx) :
    x8T X ((Rect.unit (s := S8x256x6144) (k0_off4 t) S1x256x6144.size (k0_off4_inb t)).emb (Shape.reshapeEquiv squeezes_S1x256x6144_S256x6144.numel_eq y))
      = X ((Rect.unit (s := S2048x6144) (k0_off5 t) S256x6144.size (k0_off5_inb t)).emb y) := by
  obtain ⟨n, q, rfl⟩ : ∃ (n : Fin 256) (q : Fin 6144), y = ix2 n q := ⟨y 0, y 1, eq_ix2 (n0 := 256) (n1 := 6144) y⟩
  rw [show Shape.reshapeEquiv squeezes_S1x256x6144_S256x6144.numel_eq (ix2 n q) = ix3 (⟨0, Nat.one_pos⟩ : Fin 1) n q from ValueIdx.reshapeEquiv_ix2_1ab _ n q]
  refine congrArg X (funext fun a => Fin.ext ?_)
  refine Eq.trans ?_ (val_unit (k0_off5_eq t) _ a).symm
  have h := fun b => val_unit (s := S8x256x6144) (size := S1x256x6144.size) (k0_off4_eq t) (inb := k0_off4_inb t) (ix3 (⟨0, Nat.one_pos⟩ : Fin 1) n q) b
  fin_cases a
  · show 256 * ((Rect.unit (s := S8x256x6144) (k0_off4 t) S1x256x6144.size (k0_off4_inb t)).emb (ix3 (⟨0, Nat.one_pos⟩ : Fin 1) n q) 0).val + ((Rect.unit (s := S8x256x6144) (k0_off4 t) S1x256x6144.size (k0_off4_inb t)).emb (ix3 (⟨0, Nat.one_pos⟩ : Fin 1) n q) 1).val = 256 * t.val + 1 * n.val
    rw [h 0, h 1]
    show 256 * (t.val + 1 * 0) + (0 + 1 * n.val) = _
    omega
  · exact h 2

theorem landX :
    (iprop(Own.Hold (c : Thread nD τ) (slotX arg8 t).view (fun y => X ((Rect.unit (s := S2048x6144) (k0_off5 t) S256x6144.size (k0_off5_inb t)).emb y))
      ∗ Own.Hold (c : Thread nD τ) (arg0.slice (Rect.unit (s := S2048x6144) (k0_off5 t) S256x6144.size (k0_off5_inb t)) (fun _ => rfl)).view
        (fun y => X ((Rect.unit (s := S2048x6144) (k0_off5 t) S256x6144.size (k0_off5_inb t)).emb y))) : sProp 𝕄)
      ⊢ iprop(own c arg8 (slot8 t) (x8T X) ∗ own c arg0 (rowsX t) X) := by
  refine BI.sep_mono ?_ ?_
  · rw [← funext (codes_place X t)]
    exact Entails.of_eq (Own.hold_squeeze (c : Thread nD τ) arg8 _ squeezes_S1x256x6144_S256x6144.numel_eq (x8T X))
  · exact Entails.of_eq (Own.hold_slice (c : Thread nD τ) arg0 _ X)

theorem startX_wp (k : Pgm F) (Q : Unit → sProp 𝕄) :
    iprop(own c arg0 (rowsX t) X ∗ (∃ Y, own c arg8 (slot8 t) Y) ∗ zeroed c (semX arg21 t))
      ⊢ iprop((FlyX c X arg0 arg8 arg21 t -∗ wpP c k Q) -∗ wpP c (startX arg0 harg0 arg8 harg8 arg21 t k) Q) := by
  unfold startX FlyX
  have h := fun Y : Vec F S8x256x6144 .fp8e4m3 => Own.wp_dma (Q := Q) (defs := defs₀ (F := F)) Variants.none (c : Thread nD τ) none EC
    (src := arg0.slice (Rect.unit (s := S2048x6144) (k0_off5 t) S256x6144.size (k0_off5_inb t)) (fun _ => rfl)) (dst := slotX arg8 t) (sm := semX arg21 t)
    (hsrc := harg0.wordExact_slice rfl _ (k0_off5_wordsfp8e4m3 t)) (hdst := (harg8.wordExact_slice rfl _ (k0_off4_wordsfp8e4m3 t)).reshape _ _) (hsem := ⟨Or.inl rfl, trivial⟩)
    (k := fun _ => k) () (amt (slotX arg8 t)) rfl (View.dmaCredit_pos _ (by decide))
    (fun y => X ((Rect.unit (s := S2048x6144) (k0_off5 t) S256x6144.size (k0_off5_inb t)).emb y))
    (fun y => Y ((Rect.unit (s := S8x256x6144) (k0_off4 t) S1x256x6144.size (k0_off4_inb t)).emb (Shape.reshapeEquiv squeezes_S1x256x6144_S256x6144.numel_eq y)))
    iprop(own c arg8 (slot8 t) (x8T X) ∗ own c arg0 (rowsX t) X) (landX c X arg0 arg8 t)
  have hx : own c arg0 (rowsX t) X ⊢ (Own.Hold (c : Thread nD τ) (arg0.slice (Rect.unit (s := S2048x6144) (k0_off5 t) S256x6144.size (k0_off5_inb t)) (fun _ => rfl)).view
      (fun y => X ((Rect.unit (s := S2048x6144) (k0_off5 t) S256x6144.size (k0_off5_inb t)).emb y)) : sProp 𝕄) :=
    Entails.of_eq (Own.hold_slice (c : Thread nD τ) arg0 (Rect.unit (s := S2048x6144) (k0_off5 t) S256x6144.size (k0_off5_inb t)) X).symm
  have hy : ∀ Y, own c arg8 (slot8 t) Y ⊢ (Own.Hold (c : Thread nD τ) (slotX arg8 t).view
      (fun y => Y ((Rect.unit (s := S8x256x6144) (k0_off4 t) S1x256x6144.size (k0_off4_inb t)).emb (Shape.reshapeEquiv squeezes_S1x256x6144_S256x6144.numel_eq y))) : sProp 𝕄) := fun Y =>
    Entails.of_eq (Own.hold_squeeze (c : Thread nD τ) arg8 (Rect.unit (s := S8x256x6144) (k0_off4 t) S1x256x6144.size (k0_off4_inb t)) squeezes_S1x256x6144_S256x6144.numel_eq Y).symm
  iintro ⟨HS, ⟨%Y, HD⟩, HV⟩
  iapply (h Y)
  isplitl [HS]; · iapply hx $$ HS
  isplitl [HD]; · iapply (hy Y) $$ HD
  iexact HV

end Codes

/-- One of a family taken out. -/
theorem take_one {T : Type} [Fintype T] [DecidableEq T] (Φ : T → sProp (MT nD τ sig Unit (Elt F) ℕ (Pipeline.UD sig nD τ) ℕ)) (t : T) :
    bigSep Finset.univ Φ = iprop(Φ t ∗ bigSep (Finset.univ.erase t) Φ) := bigSep_erase (Finset.mem_univ t)

/-! ## A token tile -/

section Tile
variable (arg0 : Memref sig .tc .hbm S2048x6144 .fp8e4m3) (harg0 : arg0.IsWhole) (arg8 : Memref sig .tc .vmem S8x256x6144 .fp8e4m3) (harg8 : arg8.IsWhole)
  (arg9 : Memref sig .tc .vmem S2048x192 .f32) (arg11 : Memref sig .tc .vmem S2048x6 .i32) (arg12 : Memref sig .tc .vmem S2048x6 .bf16)
  (arg13 : Memref sig .tc .vmem S160x6144 .bf16) (arg14 : Memref sig .tc .vmem S192x256 .f32) (arg15 : Memref sig .tc .vmem S6144x2048 .bf16) (harg15 : arg15.IsWhole)
  (arg16 : Memref sig .tc .vmem S160x2048 .bf16) (harg16 : arg16.IsWhole) (arg17 : Memref sig .tc .vmem S2048x160 .bf16) (harg17 : arg17.IsWhole)
  (arg18 : Memref sig .tc .vmem S2048x160 .f32) (arg21 : DmaSems sig S8)

/-- Tile `t`'s codes landed. -/
def LandX (t : Fin k0_t2_loop.trips) : sProp 𝕄 :=
  iprop(own c arg8 (slot8 t) (x8T X) ∗ own c arg0 (rowsX t) X ∗ zeroed c (semX arg21 t))

/-- What the tiles' loop holds beside the codes, before tile `n`. -/
def Rest2 (n : ℕ) : sProp 𝕄 :=
  iprop(Held c X Sc W I G arg11 arg12 arg13 arg16 arg17 arg18 (256 * n) ∗ (∃ Y, own c arg15 Finset.univ Y ∗ ⌜ADone X Sc n 0 Y⌝)
    ∗ own c arg9 Finset.univ Sc ∗ (∃ Y, own c arg14 Finset.univ Y) ∗ debts c)

theorem put_full {α : Type} {s : Shape} (T : s.Idx → α) (off : Fin s.rank → ℕ) (inb : ∀ a, off a + s.size a ≤ s.size a) (w : s.Idx → α) :
    VecWindow.put T off s.size w = w := by
  funext y
  refine Own.put_done (inb := inb) (w := w) (fun z => congrArg w (funext fun a => Fin.ext ?_)) y (.inl fun a => ?_)
  · show (z a).val = off a + 1 * (z a).val
    have := inb a
    omega
  · have := inb a
    have := (y a).isLt
    omega

theorem tile_wp (t : Fin k0_t2_loop.trips) (Q : Unit → sProp 𝕄) :
    iprop(FlyX c X arg0 arg8 arg21 t ∗ Rest2 c X Sc W I G arg9 arg11 arg12 arg13 arg14 arg15 arg16 arg17 arg18 t.val)
      ⊢ iprop((iprop(LandX c X arg0 arg8 arg21 t ∗ Rest2 c X Sc W I G arg9 arg11 arg12 arg13 arg14 arg15 arg16 arg17 arg18 (t.val + 1)) -∗ Q ⟨⟩)
        -∗ wpP c (headP arg0 harg0 arg8 harg8 arg9 arg14 arg21 t
          (slabsP arg8 arg14 arg15 harg15 t 48 0 (by omega) (tailP arg11 arg12 arg13 arg15 arg16 harg16 arg17 harg17 arg18 t))) Q) := by
  unfold headP FlyX Rest2 LandX
  iintro ⟨HF, HH, ⟨%Y, HA, %hY⟩, H9, ⟨%Z, H14⟩, HW⟩ HK
  iapply (await_wp c (sm := semX arg21 t) (dst := slotX arg8 t) rfl) $$ [HF HW]
  · isplitl [HF] <;> iassumption
  iintro ⟨⟨H8, H0⟩, HV, HW⟩
  iapply (Own.wp_load Variants.none (c : Thread nD τ) none (m := arg9) (D := Finset.univ) (Finset.subset_univ _)) $$ H9
  iintro H9
  rw [window_s]
  iapply (Own.wp_load Variants.none (c : Thread nD τ) none (m := arg14) (D := Finset.univ) (Finset.subset_univ _)) $$ H14
  iintro H14
  iapply (Own.wp_store Variants.none (c : Thread nD τ) none (m := arg14) (D := Finset.univ) (Finset.subset_univ _)) $$ H14
  iintro H14
  rw [put_full _ _ inb_S192x256_S192x256_0_0]
  iapply (slabs_wp c X Sc arg8 arg14 arg15 harg15 t 48 0 _) $$ [H8 H14 HA]
  · isplitl [H8]; · iexact H8
    isplitl [H14]; · iexact H14
    iexists Y
    isplitl [HA]; · iexact HA
    ipureintro
    intro y hy
    exact hY y (by omega)
  iintro ⟨H8, H14, ⟨%Y', HA, %hY'⟩⟩
  iapply (tail_wp c X Sc W I G arg11 arg12 arg13 arg15 arg16 harg16 arg17 harg17 arg18 t) $$ [HH HA]
  · isplitl [HH]; · iexact HH
    iexists Y'
    isplitl [HA]; · iexact HA
    ipureintro
    intro y hy
    refine hY' y ?_
    have := (y 0).isLt
    change (y 0).val < 6144 at this
    omega
  iintro ⟨HH, HA⟩
  iapply HK
  isplitl [H8 H0 HV]
  · isplitl [H8]; · iexact H8
    isplitl [H0]; · iexact H0
    iexact HV
  isplitl [HH]; · iexact HH
  isplitl [HA]; · iexact HA
  isplitl [H9]; · iexact H9
  isplitl [H14]
  · iexists _
    iexact H14
  iexact HW

/-- The codes' state before tile `n`: landed before, on the way from there on. -/
def St2 (n : ℕ) (t : Fin k0_t2_loop.trips) : sProp 𝕄 := if t.val < n then LandX c X arg0 arg8 arg21 t else FlyX c X arg0 arg8 arg21 t

/-- The invariant of the tiles' loop. -/
def Inv2 (n : ℕ) : sProp 𝕄 :=
  iprop(bigSep Finset.univ (St2 c X arg0 arg8 arg21 n) ∗ Rest2 c X Sc W I G arg9 arg11 arg12 arg13 arg14 arg15 arg16 arg17 arg18 n)

theorem tile_step (t : Fin k0_t2_loop.trips) :
    Inv2 c X Sc W I G arg0 arg8 arg9 arg11 arg12 arg13 arg14 arg15 arg16 arg17 arg18 arg21 t.val
      ⊢ wpP c (headP arg0 harg0 arg8 harg8 arg9 arg14 arg21 t
          (slabsP arg8 arg14 arg15 harg15 t 48 0 (by omega) (tailP arg11 arg12 arg13 arg15 arg16 harg16 arg17 harg17 arg18 t)))
        (fun _ => Inv2 c X Sc W I G arg0 arg8 arg9 arg11 arg12 arg13 arg14 arg15 arg16 arg17 arg18 arg21 (t.val + 1)) := by
  unfold Inv2
  rw [take_one (St2 c X arg0 arg8 arg21 t.val) t, take_one (St2 c X arg0 arg8 arg21 (t.val + 1)) t,
    bigSep_congr (s := Finset.univ.erase t) (Φ := St2 c X arg0 arg8 arg21 (t.val + 1)) (Ψ := St2 c X arg0 arg8 arg21 t.val) (fun u hu => by
      have hne : u.val ≠ t.val := fun h => (Finset.ne_of_mem_erase hu) (Fin.ext h)
      unfold St2
      by_cases h : u.val < t.val
      · rw [if_pos h, if_pos (by omega)]
      · rw [if_neg h, if_neg (by omega)])]
  rw [show St2 c X arg0 arg8 arg21 t.val t = FlyX c X arg0 arg8 arg21 t from if_neg (lt_irrefl _),
    show St2 c X arg0 arg8 arg21 (t.val + 1) t = LandX c X arg0 arg8 arg21 t from if_pos (Nat.lt_succ_self _)]
  iintro ⟨⟨HF, HB⟩, HR⟩
  iapply (tile_wp c X Sc W I G arg0 harg0 arg8 harg8 arg9 arg11 arg12 arg13 arg14 arg15 harg15 arg16 harg16 arg17 harg17 arg18 arg21 t) $$ [HF HR]
  · isplitl [HF] <;> iassumption
  iintro ⟨HL, HR⟩
  isplitl [HL HB]
  · isplitl [HL] <;> iassumption
  iexact HR

end Tile

/-! ## The weight's transpose -/

section Weight
variable (arg10 : Memref sig .tc .vmem S6144x160 .bf16) (arg13 : Memref sig .tc .vmem S160x6144 .bf16) (harg13 : arg13.IsWhole)

/-- The invariant of the transpose's loop: the columns before `512 n` are done. -/
def Inv1 (n : ℕ) : sProp 𝕄 :=
  iprop(own c arg10 Finset.univ W ∗ ∃ Y, own c arg13 Finset.univ Y ∗ ⌜∀ y : S160x6144.Idx, (y 1).val < 512 * n → Y y = wtT W y⌝)

/-- A trip of it. -/
def turnP (t : Fin k0_t1_loop.trips) : Pgm F :=
  .op (.load arg10 (Rect.unit (s := S6144x160) (k0_off1 t) S512x160.size (k0_off1_inb t)).toLoadRect (View.loadsAt_vmem h_S512x160)) fun v =>
  .op (.load arg13 (Rect.unit (s := S160x6144) (k0_off2 t) S160x512.size (k0_off2_inb t)).toLoadRect (View.loadsAt_vmem h_S160x512)) fun _ =>
  .op (.store arg13 (Rect.unit (s := S160x6144) (k0_off2 t) S160x512.size (k0_off2_inb t)) (k0_pay315 v) Finset.univ
    (View.stores_vmem h_S160x512 (harg13.storeExact_slice rfl _ (k0_off2_packedbf16 t)) (fun _ => rfl)) (.inl rfl)) fun _ => .ret ⟨⟩

theorem turn_step (t : Fin k0_t1_loop.trips) :
    Inv1 c W arg10 arg13 t.val ⊢ wpP c (turnP arg10 arg13 harg13 t) (fun _ => Inv1 c W arg10 arg13 (t.val + 1)) := by
  unfold turnP Inv1
  iintro ⟨H10, ⟨%Y, H13, %hY⟩⟩
  iapply (Own.wp_load Variants.none (c : Thread nD τ) none (m := arg10) (D := Finset.univ) (Finset.subset_univ _)) $$ H10
  iintro H10
  iapply (Own.wp_load Variants.none (c : Thread nD τ) none (m := arg13) (D := Finset.univ) (Finset.subset_univ _)) $$ H13
  iintro H13
  iapply (Own.wp_store Variants.none (c : Thread nD τ) none (m := arg13) (D := Finset.univ) (Finset.subset_univ _)) $$ H13
  iintro H13
  rw [wp_ret]
  imodintro
  isplitl [H10]; · iexact H10
  iexists _
  isplitl [H13]; · iexact H13
  ipureintro
  intro y hy
  refine Own.put_done (s := S160x6144) (inb := k0_off2_inb t) (store_wtT t W) y ?_
  by_cases h : (y 1).val < 512 * t.val
  · exact .inr (hY y h)
  · refine .inl ?_
    rw [k0_off2_eq t]
    intro a
    fin_cases a
    · show 0 ≤ (y 0).val ∧ (y 0).val < 0 + 160
      have := (y 0).isLt
      change (y 0).val < 160 at this
      omega
    · show 512 * t.val ≤ (y 1).val ∧ (y 1).val < 512 * t.val + 512
      omega

end Weight

end Cert.KernelIdeal.Land

end
-- ==== Proof.KI.Out.lean ====
/- The third loop: the two products, chunk by chunk, each sent out while the next is computed. -/
module

public import proofs.«01_k».proof.Proof.KI.Land

@[expose] public section

set_option maxRecDepth 16384

noncomputable section

namespace Cert.KernelIdeal.Out

open Cert.KernelIdeal Cert.KernelIdeal.Gen Cert.KernelIdeal.Steps Cert.KernelIdeal.Values Cert.KernelIdeal.Trip Cert.KernelIdeal.Land
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)

section Chunk
variable (A : FVec F S6144x2048 .bf16) (Wt : Vec F S160x6144 .bf16) (L16 : FVec F S160x2048 .bf16) (LN : FVec F S2048x160 .bf16)
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-! ## Places -/

/-- The semaphore of chunk `t` of either result. -/
abbrev semO (sems : DmaSems sig S2) : DmaSem sig := ((sems.slice (Rect.unit (s := S2) (k0_off260 t) S1.size (k0_off260_inb t))).squeeze S_ squeezes_S1_S_).sem
/-- The chunk's columns of the first result, -/
def colsO : Finset S2048x6144.Idx := (Rect.unit (s := S2048x6144) (k0_off261 t) S2048x512.size (k0_off261_inb t)).set
/-- its rows of the second, -/
def rowsO : Finset S6144x160.Idx := (Rect.unit (s := S6144x160) (k0_off263 t) S512x160.size (k0_off263_inb t)).set
/-- its slot of the first buffer -/
def slot19 : Finset S2x2048x512.Idx := (Rect.unit (s := S2x2048x512) (k0_off262 t) S1x2048x512.size (k0_off262_inb t)).set
/-- and of the second. -/
def slot20 : Finset S2x512x160.Idx := (Rect.unit (s := S2x512x160) (k0_off264 t) S1x512x160.size (k0_off264_inb t)).set

/-- The views of those places. -/
abbrev colsM : Memref sig .tc .hbm S2048x512 .bf16 := arg5.slice (Rect.unit (s := S2048x6144) (k0_off261 t) S2048x512.size (k0_off261_inb t)) (fun _ => rfl)
abbrev rowsM : Memref sig .tc .hbm S512x160 .f32 := arg6.slice (Rect.unit (s := S6144x160) (k0_off263 t) S512x160.size (k0_off263_inb t)) (fun _ => rfl)
abbrev slotM19 : Memref sig .tc .vmem S2048x512 .bf16 :=
  (arg19.slice (Rect.unit (s := S2x2048x512) (k0_off262 t) S1x2048x512.size (k0_off262_inb t)) (fun _ => rfl)).squeeze S2048x512 squeezes_S1x2048x512_S2048x512
abbrev slotM20 : Memref sig .tc .vmem S512x160 .f32 :=
  (arg20.slice (Rect.unit (s := S2x512x160) (k0_off264 t) S1x512x160.size (k0_off264_inb t)) (fun _ => rfl)).squeeze S512x160 squeezes_S1x512x160_S512x160

/-- What a chunk of either result delivers. -/
abbrev N5 : ℕ := arg5.view.ref.dmaCredit S2048x512 .bf16
abbrev N6 : ℕ := arg6.view.ref.dmaCredit S512x160 .f32

/-! ## The chunk's states -/

/-- The chunk's places in the results, at anything, -/
def FreshO : sProp 𝕄 := iprop((∃ Y, own c arg5 (colsO t) Y) ∗ ∃ Y, own c arg6 (rowsO t) Y)
/-- at the results, -/
def LandO : sProp 𝕄 := iprop(own c arg5 (colsO t) (dxT LN Wt) ∗ own c arg6 (rowsO t) (dwT L16 A))
/-- the slots and semaphores the chunk takes, free, -/
def FreeO : sProp 𝕄 := iprop(zeroed c (semO t arg23) ∗ zeroed c (semO t arg24) ∗ (∃ Y, own c arg19 (slot19 t) Y) ∗ ∃ Y, own c arg20 (slot20 t) Y)
/-- and the chunk on its way. -/
def FlyO : sProp 𝕄 :=
  iprop(Fly c (semO t arg23) (N5 arg5) iprop(own c arg5 (colsO t) (dxT LN Wt) ∗ ∃ Y, own c arg19 (slot19 t) Y)
    ∗ Fly c (semO t arg24) (N6 arg6) iprop(own c arg6 (rowsO t) (dwT L16 A) ∗ ∃ Y, own c arg20 (slot20 t) Y))

/-- The operands of the products, complete. -/
def Ops : sProp 𝕄 :=
  iprop(own c arg13 Finset.univ Wt ∗ own c arg15 Finset.univ A ∗ own c arg16 Finset.univ L16 ∗ own c arg17 Finset.univ LN)

/-! ## The trip -/

/-- The products of chunk `t` stored in its slots and sent out. -/
def chunkP : Pgm F :=
  .op (.load arg17 (Rect.unit (s := S2048x160) ![0, 0] S2048x160.size inb_S2048x160_S2048x160_0_0).toLoadRect (View.loadsAt_vmem h_S2048x160)) fun l =>
  .op (.load arg13 (Rect.unit (s := S160x6144) (k0_off256 t) S160x512.size (k0_off256_inb t)).toLoadRect (View.loadsAt_vmem h_S160x512)) fun w =>
  .op (.load arg19 (Rect.unit (s := S2x2048x512) (k0_off257 t) S1x2048x512.size (k0_off257_inb t)).toLoadRect (View.loadsAt_vmem h_S1x2048x512)) fun _ =>
  .op (.store arg19 (Rect.unit (s := S2x2048x512) (k0_off257 t) S1x2048x512.size (k0_off257_inb t)) (k0_pay313 l w) Finset.univ
    (View.stores_vmem h_S1x2048x512 (harg19.storeExact_slice rfl _ (k0_off257_packedbf16 t)) (fun _ => rfl)) (.inl rfl)) fun _ =>
  .op (.load arg16 (Rect.unit (s := S160x2048) ![0, 0] S160x2048.size inb_S160x2048_S160x2048_0_0).toLoadRect (View.loadsAt_vmem h_S160x2048)) fun l =>
  .op (.load arg15 (Rect.unit (s := S6144x2048) (k0_off258 t) S512x2048.size (k0_off258_inb t)).toLoadRect (View.loadsAt_vmem h_S512x2048)) fun a =>
  .op (.load arg20 (Rect.unit (s := S2x512x160) (k0_off259 t) S1x512x160.size (k0_off259_inb t)).toLoadRect (View.loadsAt_vmem h_S1x512x160)) fun _ =>
  .op (.store arg20 (Rect.unit (s := S2x512x160) (k0_off259 t) S1x512x160.size (k0_off259_inb t)) (k0_pay314 l a) Finset.univ
    (View.stores_vmem_bits_univ h_S1x512x160 rfl) (.inl rfl)) fun _ =>
  .op (.enqueueDma (slotM19 arg19 t) (.here (colsM arg5 t)) (.dma (semO t arg23))
    ((harg19.wordExact_slice rfl _ (k0_off262_wordsbf16 t)).reshape _ _) (harg5.wordExact_slice rfl _ (k0_off261_wordsbf16 t)) ⟨Or.inl rfl, trivial⟩) fun _ =>
  .op (.enqueueDma (slotM20 arg20 t) (.here (rowsM arg6 t)) (.dma (semO t arg24))
    ((View.wordExact_bits rfl).reshape _ _) (View.wordExact_bits rfl) ⟨Or.inl rfl, trivial⟩) fun _ => .ret ⟨⟩

/-- A slot's rectangle as it is written is the one it is sent from. -/
theorem slot19_eq : (Rect.unit (s := S2x2048x512) (k0_off257 t) S1x2048x512.size (k0_off257_inb t)).set = slot19 t := by
  ext y
  unfold slot19
  rw [Rect.mem_set_unit, Rect.mem_set_unit, k0_off257_eq, k0_off262_eq]
theorem slot20_eq : (Rect.unit (s := S2x512x160) (k0_off259 t) S1x512x160.size (k0_off259_inb t)).set = slot20 t := by
  ext y
  unfold slot20
  rw [Rect.mem_set_unit, Rect.mem_set_unit, k0_off259_eq, k0_off264_eq]

theorem send5_wp (Y : Vec F S2x2048x512 .bf16) (T : Vec F S2048x6144 .bf16)
    (hT : ∀ y : S2048x512.Idx, Y ((Rect.unit (s := S2x2048x512) (k0_off262 t) S1x2048x512.size (k0_off262_inb t)).emb (Shape.reshapeEquiv squeezes_S1x2048x512_S2048x512.numel_eq y))
      = T ((Rect.unit (s := S2048x6144) (k0_off261 t) S2048x512.size (k0_off261_inb t)).emb y)) (k : Pgm F) (Q : Unit → sProp 𝕄) :
    iprop(own c arg19 (slot19 t) Y ∗ (∃ Z, own c arg5 (colsO t) Z) ∗ zeroed c (semO t arg23))
      ⊢ iprop((Fly c (semO t arg23) (N5 arg5) iprop(own c arg5 (colsO t) T ∗ ∃ Y, own c arg19 (slot19 t) Y) -∗ wpP c k Q)
        -∗ wpP c (.op (.enqueueDma (slotM19 arg19 t) (.here (colsM arg5 t)) (.dma (semO t arg23))
          ((harg19.wordExact_slice rfl _ (k0_off262_wordsbf16 t)).reshape _ _) (harg5.wordExact_slice rfl _ (k0_off261_wordsbf16 t)) ⟨Or.inl rfl, trivial⟩) fun _ => k) Q) := by
  have hs : ∀ Y, own c arg19 (slot19 t) Y = (Own.Hold (c : Thread nD τ) (slotM19 arg19 t).view
      (fun y => Y ((Rect.unit (s := S2x2048x512) (k0_off262 t) S1x2048x512.size (k0_off262_inb t)).emb (Shape.reshapeEquiv squeezes_S1x2048x512_S2048x512.numel_eq y))) : sProp 𝕄) := fun Y =>
    (Own.hold_squeeze (c : Thread nD τ) arg19 (Rect.unit (s := S2x2048x512) (k0_off262 t) S1x2048x512.size (k0_off262_inb t)) squeezes_S1x2048x512_S2048x512.numel_eq Y).symm
  have hd : ∀ Z, own c arg5 (colsO t) Z = (Own.Hold (c : Thread nD τ) (colsM arg5 t).view
      (fun y => Z ((Rect.unit (s := S2048x6144) (k0_off261 t) S2048x512.size (k0_off261_inb t)).emb y)) : sProp 𝕄) := fun Z =>
    (Own.hold_slice (c : Thread nD τ) arg5 (Rect.unit (s := S2048x6144) (k0_off261 t) S2048x512.size (k0_off261_inb t)) Z).symm
  have hdel : iprop(Own.Hold (c : Thread nD τ) (colsM arg5 t).view (fun y => T ((Rect.unit (s := S2048x6144) (k0_off261 t) S2048x512.size (k0_off261_inb t)).emb y))
      ∗ Own.Hold (c : Thread nD τ) (slotM19 arg19 t).view (fun y => T ((Rect.unit (s := S2048x6144) (k0_off261 t) S2048x512.size (k0_off261_inb t)).emb y)))
      ⊢ (iprop(own c arg5 (colsO t) T ∗ ∃ Y, own c arg19 (slot19 t) Y) : sProp 𝕄) := by
    rw [hd T, ← funext hT, ← hs Y]
    iintro ⟨HD, HS⟩
    isplitl [HD]; · iexact HD
    iexists Y
    iexact HS
  have h := fun Z : Vec F S2048x6144 .bf16 => Own.wp_dma (Q := Q) (defs := defs₀ (F := F)) Variants.none (c : Thread nD τ) none EC
    (src := slotM19 arg19 t) (dst := colsM arg5 t) (sm := semO t arg23)
    (hsrc := (harg19.wordExact_slice rfl _ (k0_off262_wordsbf16 t)).reshape _ _) (hdst := harg5.wordExact_slice rfl _ (k0_off261_wordsbf16 t)) (hsem := ⟨Or.inl rfl, trivial⟩)
    (k := fun _ => k) () (N5 arg5) rfl (View.dmaCredit_pos (colsM arg5 t).view (by decide))
    (fun y => T ((Rect.unit (s := S2048x6144) (k0_off261 t) S2048x512.size (k0_off261_inb t)).emb y))
    (fun y => Z ((Rect.unit (s := S2048x6144) (k0_off261 t) S2048x512.size (k0_off261_inb t)).emb y))
    iprop(own c arg5 (colsO t) T ∗ ∃ Y, own c arg19 (slot19 t) Y) hdel
  rw [hs Y, funext hT]
  iintro ⟨HS, ⟨%Z, HD⟩, HV⟩
  iapply (h Z)
  isplitl [HS]; · iexact HS
  isplitl [HD]; · iapply (Entails.of_eq (hd Z)) $$ HD
  iexact HV

theorem send6_wp (Y : Vec F S2x512x160 .f32) (T : Vec F S6144x160 .f32)
    (hT : ∀ y : S512x160.Idx, Y ((Rect.unit (s := S2x512x160) (k0_off264 t) S1x512x160.size (k0_off264_inb t)).emb (Shape.reshapeEquiv squeezes_S1x512x160_S512x160.numel_eq y))
      = T ((Rect.unit (s := S6144x160) (k0_off263 t) S512x160.size (k0_off263_inb t)).emb y)) (k : Pgm F) (Q : Unit → sProp 𝕄) :
    iprop(own c arg20 (slot20 t) Y ∗ (∃ Z, own c arg6 (rowsO t) Z) ∗ zeroed c (semO t arg24))
      ⊢ iprop((Fly c (semO t arg24) (N6 arg6) iprop(own c arg6 (rowsO t) T ∗ ∃ Y, own c arg20 (slot20 t) Y) -∗ wpP c k Q)
        -∗ wpP c (.op (.enqueueDma (slotM20 arg20 t) (.here (rowsM arg6 t)) (.dma (semO t arg24))
          ((View.wordExact_bits rfl).reshape _ _) (View.wordExact_bits rfl) ⟨Or.inl rfl, trivial⟩) fun _ => k) Q) := by
  have hs : ∀ Y, own c arg20 (slot20 t) Y = (Own.Hold (c : Thread nD τ) (slotM20 arg20 t).view
      (fun y => Y ((Rect.unit (s := S2x512x160) (k0_off264 t) S1x512x160.size (k0_off264_inb t)).emb (Shape.reshapeEquiv squeezes_S1x512x160_S512x160.numel_eq y))) : sProp 𝕄) := fun Y =>
    (Own.hold_squeeze (c : Thread nD τ) arg20 (Rect.unit (s := S2x512x160) (k0_off264 t) S1x512x160.size (k0_off264_inb t)) squeezes_S1x512x160_S512x160.numel_eq Y).symm
  have hd : ∀ Z, own c arg6 (rowsO t) Z = (Own.Hold (c : Thread nD τ) (rowsM arg6 t).view
      (fun y => Z ((Rect.unit (s := S6144x160) (k0_off263 t) S512x160.size (k0_off263_inb t)).emb y)) : sProp 𝕄) := fun Z =>
    (Own.hold_slice (c : Thread nD τ) arg6 (Rect.unit (s := S6144x160) (k0_off263 t) S512x160.size (k0_off263_inb t)) Z).symm
  have hdel : iprop(Own.Hold (c : Thread nD τ) (rowsM arg6 t).view (fun y => T ((Rect.unit (s := S6144x160) (k0_off263 t) S512x160.size (k0_off263_inb t)).emb y))
      ∗ Own.Hold (c : Thread nD τ) (slotM20 arg20 t).view (fun y => T ((Rect.unit (s := S6144x160) (k0_off263 t) S512x160.size (k0_off263_inb t)).emb y)))
      ⊢ (iprop(own c arg6 (rowsO t) T ∗ ∃ Y, own c arg20 (slot20 t) Y) : sProp 𝕄) := by
    rw [hd T, ← funext hT, ← hs Y]
    iintro ⟨HD, HS⟩
    isplitl [HD]; · iexact HD
    iexists Y
    iexact HS
  have h := fun Z : Vec F S6144x160 .f32 => Own.wp_dma (Q := Q) (defs := defs₀ (F := F)) Variants.none (c : Thread nD τ) none EC
    (src := slotM20 arg20 t) (dst := rowsM arg6 t) (sm := semO t arg24)
    (hsrc := (View.wordExact_bits rfl).reshape _ _) (hdst := View.wordExact_bits rfl) (hsem := ⟨Or.inl rfl, trivial⟩)
    (k := fun _ => k) () (N6 arg6) rfl (View.dmaCredit_pos (rowsM arg6 t).view (by decide))
    (fun y => T ((Rect.unit (s := S6144x160) (k0_off263 t) S512x160.size (k0_off263_inb t)).emb y))
    (fun y => Z ((Rect.unit (s := S6144x160) (k0_off263 t) S512x160.size (k0_off263_inb t)).emb y))
    iprop(own c arg6 (rowsO t) T ∗ ∃ Y, own c arg20 (slot20 t) Y) hdel
  rw [hs Y, funext hT]
  iintro ⟨HS, ⟨%Z, HD⟩, HV⟩
  iapply (h Z)
  isplitl [HS]; · iexact HS
  isplitl [HD]; · iapply (Entails.of_eq (hd Z)) $$ HD
  iexact HV

theorem chunk_wp (Q : Unit → sProp 𝕄) :
    iprop(Ops c A Wt L16 LN arg13 arg15 arg16 arg17 ∗ FreeO c arg19 arg20 arg23 arg24 t ∗ FreshO c arg5 arg6 t)
      ⊢ iprop((iprop(Ops c A Wt L16 LN arg13 arg15 arg16 arg17 ∗ FlyO c A Wt L16 LN arg5 arg6 arg19 arg20 arg23 arg24 t) -∗ Q ⟨⟩)
        -∗ wpP c (chunkP arg5 harg5 arg6 arg13 arg15 arg16 arg17 arg19 harg19 arg20 arg23 arg24 t) Q) := by
  unfold chunkP Ops FreeO FreshO FlyO
  iintro ⟨⟨H13, H15, H16, H17⟩, ⟨HV5, HV6, ⟨%Y, H19⟩, ⟨%Z, H20⟩⟩, ⟨H5, H6⟩⟩ HK
  iapply (Own.wp_load_full Variants.none (c : Thread nD τ) none (m := arg17)) $$ H17
  iintro H17
  iapply (Own.wp_load Variants.none (c : Thread nD τ) none (m := arg13) (D := Finset.univ) (Finset.subset_univ _)) $$ H13
  iintro H13
  iapply (Own.wp_load Variants.none (c : Thread nD τ) none (m := arg19) (D := slot19 t) (slot19_eq t).subset) $$ H19
  iintro H19
  iapply (Own.wp_store Variants.none (c : Thread nD τ) none (m := arg19) (D := slot19 t) (slot19_eq t).subset) $$ H19
  iintro H19
  iapply (Own.wp_load_full Variants.none (c : Thread nD τ) none (m := arg16)) $$ H16
  iintro H16
  iapply (Own.wp_load Variants.none (c : Thread nD τ) none (m := arg15) (D := Finset.univ) (Finset.subset_univ _)) $$ H15
  iintro H15
  iapply (Own.wp_load Variants.none (c : Thread nD τ) none (m := arg20) (D := slot20 t) (slot20_eq t).subset) $$ H20
  iintro H20
  iapply (Own.wp_store Variants.none (c : Thread nD τ) none (m := arg20) (D := slot20 t) (slot20_eq t).subset) $$ H20
  iintro H20
  rw [window_w, window_ac]
  iapply (send5_wp c arg5 harg5 arg19 harg19 arg23 t _ (dxT LN Wt) (out_dx t LN Wt Y)) $$ [H19 H5 HV5]
  · isplitl [H19]; · iexact H19
    isplitl [H5]; · iexact H5
    iexact HV5
  iintro HF5
  iapply (send6_wp c arg6 arg20 arg24 t _ (dwT L16 A) (out_dw t L16 A Z)) $$ [H20 H6 HV6]
  · isplitl [H20]; · iexact H20
    isplitl [H6]; · iexact H6
    iexact HV6
  iintro HF6
  unfold wpP
  rw [wp_ret]
  imodintro
  iapply HK
  isplitl [H13 H15 H16 H17]
  · isplitl [H13]; · iexact H13
    isplitl [H15]; · iexact H15
    isplitl [H16]; · iexact H16
    iexact H17
  isplitl [HF5]; · iexact HF5
  iexact HF6

end Chunk

end Cert.KernelIdeal.Out

end
-- ==== Proof.KI.Drain.lean ====
/- The third loop's waits and its invariant. -/
module

public import proofs.«01_k».proof.Proof.KI.Out

@[expose] public section

set_option maxRecDepth 16384

noncomputable section

namespace Cert.KernelIdeal.Drain

open Cert.KernelIdeal Cert.KernelIdeal.Gen Cert.KernelIdeal.Steps Cert.KernelIdeal.Values Cert.KernelIdeal.Trip Cert.KernelIdeal.Land Cert.KernelIdeal.Out
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)

section Chunk
variable (A : FVec F S6144x2048 .bf16) (Wt : Vec F S160x6144 .bf16) (L16 : FVec F S160x2048 .bf16) (LN : FVec F S2048x160 .bf16)
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-! ## A slot's chunk awaited -/

theorem sem_congr (sems : DmaSems sig S2) {off : Fin 1 → ℕ} (inb : ∀ a, off a + S1.size a ≤ S2.size a) (h : off = ![t.val % 2]) :
    ((sems.slice (Rect.unit (s := S2) off S1.size inb)).squeeze S_ squeezes_S1_S_).sem = semO t sems := by
  have e := SemArray.slice_unit_congr sems (h.trans (k0_off260_eq t).symm) inb (k0_off260_inb t)
  unfold semO
  rw [e]

/-- Chunks of one parity share slots and semaphores. -/
theorem Free_congr {u t : Fin k0_t3_loop.trips} (h : u.val % 2 = t.val % 2) :
    (FreeO c arg19 arg20 arg23 arg24 u : sProp 𝕄) = FreeO c arg19 arg20 arg23 arg24 t := by
  have e19 : slot19 u = slot19 t := by
    ext y
    unfold slot19
    rw [Rect.mem_set_unit, Rect.mem_set_unit, k0_off262_eq, k0_off262_eq, h]
  have e20 : slot20 u = slot20 t := by
    ext y
    unfold slot20
    rw [Rect.mem_set_unit, Rect.mem_set_unit, k0_off264_eq, k0_off264_eq, h]
  have es : ∀ sems : DmaSems sig S2, semO u sems = semO t sems := fun sems => sem_congr t sems (k0_off260_inb u) ((k0_off260_eq u).trans (by rw [h]))
  unfold FreeO
  rw [e19, e20, es, es]

/-- Both results' transfers of chunk `u` awaited. -/
theorem drain_wp (u : Fin k0_t3_loop.trips) {s5 s6 : DmaSem sig} (h5 : s5 = semO u arg23) (h6 : s6 = semO u arg24)
    {sh5 sh6 : Shape} {e5 e6 : EltTy} {sp5 sp6 : Space} {src5 : Memref sig .tc sp5 sh5 e5} {src6 : Memref sig .tc sp6 sh6 e6}
    {dst5 : Memref sig .tc .hbm S2048x512 .bf16} {dst6 : Memref sig .tc .hbm S512x160 .f32} {w5 : src5.view.WordExact} {w5' : dst5.view.WordExact} {w6 : src6.view.WordExact} {w6' : dst6.view.WordExact}
    (hN5 : dst5.view.dmaCredit = (N5 arg5)) (hN6 : dst6.view.dmaCredit = (N6 arg6)) (k : Pgm F) (Q : Unit → sProp 𝕄) :
    iprop(FlyO c A Wt L16 LN arg5 arg6 arg19 arg20 arg23 arg24 u ∗ debts c)
      ⊢ iprop((iprop(LandO c A Wt L16 LN arg5 arg6 u ∗ FreeO c arg19 arg20 arg23 arg24 u ∗ debts c) -∗ wpP c k Q)
        -∗ wpP c (.op (.waitDma2 s5 src5 dst5 w5 w5') fun _ => .op (.waitDma2 s6 src6 dst6 w6 w6') fun _ => k) Q) := by
  subst h5 h6
  unfold FlyO LandO FreeO
  iintro ⟨⟨HF5, HF6⟩, HW⟩ HK
  iapply (await_wp c (sm := semO u arg23) (dst := dst5) hN5) $$ [HF5 HW]
  · isplitl [HF5] <;> iassumption
  iintro ⟨⟨H5, H19⟩, HV5, HW⟩
  iapply (await_wp c (sm := semO u arg24) (dst := dst6) hN6) $$ [HF6 HW]
  · isplitl [HF6] <;> iassumption
  iintro ⟨⟨H6, H20⟩, HV6, HW⟩
  iapply HK
  isplitl [H5 H6]
  · isplitl [H5] <;> iassumption
  isplitl [HV5 HV6 H19 H20]
  · isplitl [HV5]; · iexact HV5
    isplitl [HV6]; · iexact HV6
    isplitl [H19] <;> iassumption
  iexact HW

/-- The waits a trip opens with from the third on: for the chunk two before. -/
def waitP (h : k0_cond1 t = 1#1) : Pgm F :=
  .op (.waitDma2 ((arg23.slice (Rect.unit (s := S2) (k0_off251 t) S1.size (k0_off251_inb t h))).squeeze S_ squeezes_S1_S_).sem
    ((arg19.slice (Rect.unit (s := S2x2048x512) (k0_off253 t) S1x2048x512.size (k0_off253_inb t h)) (fun _ => rfl)).squeeze S2048x512 squeezes_S1x2048x512_S2048x512)
    (arg5.slice (Rect.unit (s := S2048x6144) (k0_off252 t) S2048x512.size (k0_off252_inb t h)) (fun _ => rfl))
    ((harg19.wordExact_slice rfl _ (k0_off253_wordsbf16 t h)).reshape _ _) (harg5.wordExact_slice rfl _ (k0_off252_wordsbf16 t h))) fun _ =>
  .op (.waitDma2 ((arg24.slice (Rect.unit (s := S2) (k0_off251 t) S1.size (k0_off251_inb t h))).squeeze S_ squeezes_S1_S_).sem
    ((arg20.slice (Rect.unit (s := S2x512x160) (k0_off255 t) S1x512x160.size (k0_off255_inb t h)) (fun _ => rfl)).squeeze S512x160 squeezes_S1x512x160_S512x160)
    (arg6.slice (Rect.unit (s := S6144x160) (k0_off254 t) S512x160.size (k0_off254_inb t h)) (fun _ => rfl))
    ((View.wordExact_bits rfl).reshape _ _) (View.wordExact_bits rfl)) fun _ => .ret ⟨⟩

/-- The trip: the waits where there are any, then the chunk. -/
def tripO : Pgm F :=
  (if h : k0_cond1 t = 1#1 then waitP arg5 harg5 arg6 arg19 harg19 arg20 arg23 arg24 t h else .ret ⟨⟩) >>= fun _ =>
    chunkP arg5 harg5 arg6 arg13 arg15 arg16 arg17 arg19 harg19 arg20 arg23 arg24 t

theorem cond_iff : ∀ t : Fin k0_t3_loop.trips, k0_cond1 t = 1#1 ↔ 2 ≤ t.val := by decide +kernel

/-! ## The invariant -/

/-- Chunk `t` before trip `n`. -/
def St3 (n : ℕ) (t : Fin k0_t3_loop.trips) : sProp 𝕄 :=
  if t.val + 2 < n then LandO c A Wt L16 LN arg5 arg6 t
  else if t.val < n then FlyO c A Wt L16 LN arg5 arg6 arg19 arg20 arg23 arg24 t else FreshO c arg5 arg6 t

/-- The slots no chunk has taken before trip `n`. -/
def Fr3 (n : ℕ) (t : Fin k0_t3_loop.trips) : sProp 𝕄 := if t.val < 2 ∧ n ≤ t.val then FreeO c arg19 arg20 arg23 arg24 t else iprop(emp)

/-- The invariant of the chunks' loop. -/
def Inv3 (n : ℕ) : sProp 𝕄 :=
  iprop(bigSep Finset.univ (St3 c A Wt L16 LN arg5 arg6 arg19 arg20 arg23 arg24 n) ∗ bigSep Finset.univ (Fr3 c arg19 arg20 arg23 arg24 n)
    ∗ Ops c A Wt L16 LN arg13 arg15 arg16 arg17 ∗ debts c)

theorem take_two {T : Type} [Fintype T] [DecidableEq T] (Φ : T → sProp (MT nD τ sig Unit (Elt F) ℕ (Pipeline.UD sig nD τ) ℕ)) {t u : T} (h : u ≠ t) :
    bigSep Finset.univ Φ = iprop(Φ t ∗ Φ u ∗ bigSep ((Finset.univ.erase t).erase u) Φ) := by
  rw [take_one Φ t]
  rw [show bigSep (Finset.univ.erase t) Φ = iprop(Φ u ∗ bigSep ((Finset.univ.erase t).erase u) Φ) from bigSep_erase (Finset.mem_erase.mpr ⟨h, Finset.mem_univ u⟩)]

theorem chunk_step :
    Inv3 c A Wt L16 LN arg5 arg6 arg13 arg15 arg16 arg17 arg19 arg20 arg23 arg24 t.val
      ⊢ wpP c (tripO arg5 harg5 arg6 arg13 arg15 arg16 arg17 arg19 harg19 arg20 arg23 arg24 t)
        (fun _ => Inv3 c A Wt L16 LN arg5 arg6 arg13 arg15 arg16 arg17 arg19 arg20 arg23 arg24 (t.val + 1)) := by
  have hfresh : St3 c A Wt L16 LN arg5 arg6 arg19 arg20 arg23 arg24 t.val t = FreshO c arg5 arg6 t := by
    unfold St3
    rw [if_neg (by omega), if_neg (by omega)]
  have hfly : St3 c A Wt L16 LN arg5 arg6 arg19 arg20 arg23 arg24 (t.val + 1) t = FlyO c A Wt L16 LN arg5 arg6 arg19 arg20 arg23 arg24 t := by
    unfold St3
    rw [if_neg (by omega), if_pos (by omega)]
  unfold tripO Inv3 wpP
  by_cases h : 2 ≤ t.val
  · rw [dif_pos ((cond_iff t).mpr h), wp_bind]
    let u : Fin k0_t3_loop.trips := ⟨t.val - 2, by omega⟩
    have hu : u.val + 2 = t.val := by show t.val - 2 + 2 = t.val; omega
    have hut : u ≠ t := fun e => by have := congrArg Fin.val e; omega
    rw [take_two (St3 c A Wt L16 LN arg5 arg6 arg19 arg20 arg23 arg24 t.val) hut, take_two (St3 c A Wt L16 LN arg5 arg6 arg19 arg20 arg23 arg24 (t.val + 1)) hut, hfresh, hfly,
      show St3 c A Wt L16 LN arg5 arg6 arg19 arg20 arg23 arg24 t.val u = FlyO c A Wt L16 LN arg5 arg6 arg19 arg20 arg23 arg24 u from by
        unfold St3; rw [if_neg (by omega), if_pos (by omega)],
      show St3 c A Wt L16 LN arg5 arg6 arg19 arg20 arg23 arg24 (t.val + 1) u = LandO c A Wt L16 LN arg5 arg6 u from by
        unfold St3; rw [if_pos (by omega)],
      bigSep_congr (s := (Finset.univ.erase t).erase u) (Φ := St3 c A Wt L16 LN arg5 arg6 arg19 arg20 arg23 arg24 (t.val + 1)) (Ψ := St3 c A Wt L16 LN arg5 arg6 arg19 arg20 arg23 arg24 t.val) (fun v hv => by
        have h1 : v.val ≠ u.val := fun e => (Finset.ne_of_mem_erase hv) (Fin.ext e)
        have h2 : v.val ≠ t.val := fun e => (Finset.ne_of_mem_erase (Finset.mem_of_mem_erase hv)) (Fin.ext e)
        unfold St3
        by_cases h3 : v.val + 2 < t.val
        · rw [if_pos h3, if_pos (by omega)]
        · by_cases h4 : v.val < t.val
          · rw [if_neg h3, if_neg (by omega), if_pos h4, if_pos (by omega)]
          · rw [if_neg h3, if_neg (by omega), if_neg h4, if_neg (by omega)]),
      bigSep_congr (s := Finset.univ) (Φ := Fr3 c arg19 arg20 arg23 arg24 (t.val + 1)) (Ψ := Fr3 c arg19 arg20 arg23 arg24 t.val) (fun v hv => by
        unfold Fr3
        rw [if_neg (by omega), if_neg (by omega)])]
    iintro ⟨⟨HX, HF, HB⟩, HFr, HO, HW⟩
    unfold waitP
    iapply (drain_wp c A Wt L16 LN arg5 arg6 arg19 arg20 arg23 arg24 u
      (sem_congr u arg23 (k0_off251_inb t ((cond_iff t).mpr h)) ((k0_off251_eq t).trans (by rw [← hu, Nat.add_mod_right])))
      (sem_congr u arg24 (k0_off251_inb t ((cond_iff t).mpr h)) ((k0_off251_eq t).trans (by rw [← hu, Nat.add_mod_right]))) rfl rfl) $$ [HF HW]
    · isplitl [HF] <;> iassumption
    rw [Free_congr c arg19 arg20 arg23 arg24 (u := u) (t := t) (by rw [← hu, Nat.add_mod_right])]
    iintro ⟨HL, HFree, HW⟩
    unfold wpP
    rw [wp_ret]
    imodintro
    iapply (chunk_wp c A Wt L16 LN arg5 harg5 arg6 arg13 arg15 arg16 arg17 arg19 harg19 arg20 arg23 arg24 t) $$ [HO HFree HX]
    · isplitl [HO]; · iexact HO
      isplitl [HFree]; · iexact HFree
      iexact HX
    iintro ⟨HO, HF⟩
    isplitl [HF HL HB]
    · isplitl [HF]; · iexact HF
      isplitl [HL]; · iexact HL
      iexact HB
    isplitl [HFr]; · iexact HFr
    isplitl [HO]; · iexact HO
    iexact HW
  · rw [dif_neg (fun e => h ((cond_iff t).mp e)), wp_bind, wp_ret]
    rw [take_one (St3 c A Wt L16 LN arg5 arg6 arg19 arg20 arg23 arg24 t.val) t, take_one (St3 c A Wt L16 LN arg5 arg6 arg19 arg20 arg23 arg24 (t.val + 1)) t, hfresh, hfly,
      take_one (Fr3 c arg19 arg20 arg23 arg24 t.val) t, take_one (Fr3 c arg19 arg20 arg23 arg24 (t.val + 1)) t,
      show (Fr3 c arg19 arg20 arg23 arg24 t.val t : sProp 𝕄) = FreeO c arg19 arg20 arg23 arg24 t from if_pos (by omega),
      show (Fr3 c arg19 arg20 arg23 arg24 (t.val + 1) t : sProp 𝕄) = iprop(emp) from if_neg (by omega),
      bigSep_congr (s := Finset.univ.erase t) (Φ := St3 c A Wt L16 LN arg5 arg6 arg19 arg20 arg23 arg24 (t.val + 1)) (Ψ := St3 c A Wt L16 LN arg5 arg6 arg19 arg20 arg23 arg24 t.val) (fun v hv => by
        have h2 : v.val ≠ t.val := fun e => (Finset.ne_of_mem_erase hv) (Fin.ext e)
        unfold St3
        by_cases h4 : v.val < t.val
        · rw [if_neg (show ¬ v.val + 2 < t.val + 1 by omega), if_neg (show ¬ v.val + 2 < t.val by omega), if_pos h4, if_pos (by omega)]
        · rw [if_neg (show ¬ v.val + 2 < t.val + 1 by omega), if_neg (show ¬ v.val + 2 < t.val by omega), if_neg h4, if_neg (by omega)]),
      bigSep_congr (s := Finset.univ.erase t) (Φ := Fr3 c arg19 arg20 arg23 arg24 (t.val + 1)) (Ψ := Fr3 c arg19 arg20 arg23 arg24 t.val) (fun v hv => by
        have h2 : v.val ≠ t.val := fun e => (Finset.ne_of_mem_erase hv) (Fin.ext e)
        unfold Fr3
        by_cases h4 : v.val < 2 ∧ t.val ≤ v.val
        · rw [if_pos h4, if_pos (by omega)]
        · rw [if_neg h4, if_neg (by omega)])]
    iintro ⟨⟨HX, HB⟩, ⟨HFree, HFr⟩, HO, HW⟩
    imodintro
    iapply (chunk_wp c A Wt L16 LN arg5 harg5 arg6 arg13 arg15 arg16 arg17 arg19 harg19 arg20 arg23 arg24 t) $$ [HO HFree HX]
    · isplitl [HO]; · iexact HO
      isplitl [HFree]; · iexact HFree
      iexact HX
    iintro ⟨HO, HF⟩
    isplitl [HF HB]
    · isplitl [HF]; · iexact HF
      iexact HB
    isplitl [HFr]
    · isplitr
      · iempintro
      iexact HFr
    isplitl [HO]; · iexact HO
    iexact HW

end Chunk

end Cert.KernelIdeal.Drain

end
-- ==== Proof.KI.Program.lean ====
/- The region's program between its loops: the transfers in, the waits, the transfers out. -/
module

public import proofs.«01_k».proof.Proof.KI.Drain

@[expose] public section

set_option maxRecDepth 16384

noncomputable section

namespace Cert.KernelIdeal.Program

open Cert.KernelIdeal Cert.KernelIdeal.Gen Cert.KernelIdeal.Steps Cert.KernelIdeal.Values Cert.KernelIdeal.Trip Cert.KernelIdeal.Land Cert.KernelIdeal.Out Cert.KernelIdeal.Drain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- Semaphore `i` of the four whole arrays' transfers. -/
abbrev in0 (arg22 : DmaSems sig S4) : DmaSem sig := ((arg22.slice (Rect.unit (s := S4) ![0] S1.size inb_S4_S1_0)).squeeze S_ squeezes_S1_S_).sem
abbrev in1 (arg22 : DmaSems sig S4) : DmaSem sig := ((arg22.slice (Rect.unit (s := S4) ![1] S1.size inb_S4_S1_1)).squeeze S_ squeezes_S1_S_).sem
abbrev in2 (arg22 : DmaSems sig S4) : DmaSem sig := ((arg22.slice (Rect.unit (s := S4) ![2] S1.size inb_S4_S1_2)).squeeze S_ squeezes_S1_S_).sem
abbrev in3 (arg22 : DmaSems sig S4) : DmaSem sig := ((arg22.slice (Rect.unit (s := S4) ![3] S1.size inb_S4_S1_3)).squeeze S_ squeezes_S1_S_).sem

/-- A tile's number, and a chunk's. -/
abbrev tile (i : ℕ) (h : i < k0_t2_loop.trips := by decide) : Fin k0_t2_loop.trips := ⟨i, h⟩
abbrev chunk (i : ℕ) (h : i < k0_t3_loop.trips := by decide) : Fin k0_t3_loop.trips := ⟨i, h⟩

section Whole
variable (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)

/-- The transfers in, and the weight awaited. -/
def inP (k : Pgm F) : Pgm F :=
  .op (.enqueueDma arg2 (.here arg10) (.dma (in0 arg22)) harg2.wordExact harg10.wordExact ⟨Or.inl rfl, trivial⟩) fun _ =>
  .op (.enqueueDma arg1 (.here arg9) (.dma (in1 arg22)) harg1.wordExact harg9.wordExact ⟨Or.inl rfl, trivial⟩) fun _ =>
  startX arg0 harg0 arg8 harg8 arg21 (tile 0) <|
  .op (.enqueueDma arg3 (.here arg11) (.dma (in2 arg22)) harg3.wordExact harg11.wordExact ⟨Or.inl rfl, trivial⟩) fun _ =>
  .op (.enqueueDma arg4 (.here arg12) (.dma (in3 arg22)) harg4.wordExact harg12.wordExact ⟨Or.inl rfl, trivial⟩) fun _ =>
  startX arg0 harg0 arg8 harg8 arg21 (tile 1) <|
  startX arg0 harg0 arg8 harg8 arg21 (tile 2) <|
  startX arg0 harg0 arg8 harg8 arg21 (tile 3) <|
  startX arg0 harg0 arg8 harg8 arg21 (tile 4) <|
  startX arg0 harg0 arg8 harg8 arg21 (tile 5) <|
  startX arg0 harg0 arg8 harg8 arg21 (tile 6) <|
  startX arg0 harg0 arg8 harg8 arg21 (tile 7) <|
  .op (.waitDma2 (in0 arg22) arg2 arg10 harg2.wordExact harg10.wordExact) fun _ => k

/-- The scales, the experts and the gates' gradient awaited. -/
def midP (k : Pgm F) : Pgm F :=
  .op (.waitDma2 (in1 arg22) arg1 arg9 harg1.wordExact harg9.wordExact) fun _ =>
  .op (.waitDma2 (in2 arg22) arg3 arg11 harg3.wordExact harg11.wordExact) fun _ =>
  .op (.waitDma2 (in3 arg22) arg4 arg12 harg4.wordExact harg12.wordExact) fun _ => k

/-- The last chunk of even number awaited. -/
def evenP : Pgm F :=
  .op (.waitDma2 ((arg23.slice (Rect.unit (s := S2) ![0] S1.size inb_S2_S1_0)).squeeze S_ squeezes_S1_S_).sem
    ((arg19.slice (Rect.unit (s := S2x2048x512) ![0, 0, 0] S1x2048x512.size inb_S2x2048x512_S1x2048x512_0_0_0) (fun _ => rfl)).squeeze S2048x512 squeezes_S1x2048x512_S2048x512)
    (arg5.slice (Rect.unit (s := S2048x6144) ![0, 5120] S2048x512.size inb_S2048x6144_S2048x512_0_5120) (fun _ => rfl))
    ((harg19.wordExact_slice rfl _ wordsbf16_S2x2048x512_S1x2048x512_0_0_0).reshape _ _) (harg5.wordExact_slice rfl _ wordsbf16_S2048x6144_S2048x512_0_5120)) fun _ =>
  .op (.waitDma2 ((arg24.slice (Rect.unit (s := S2) ![0] S1.size inb_S2_S1_0)).squeeze S_ squeezes_S1_S_).sem
    ((arg20.slice (Rect.unit (s := S2x512x160) ![0, 0, 0] S1x512x160.size inb_S2x512x160_S1x512x160_0_0_0) (fun _ => rfl)).squeeze S512x160 squeezes_S1x512x160_S512x160)
    (arg6.slice (Rect.unit (s := S6144x160) ![5120, 0] S512x160.size inb_S6144x160_S512x160_5120_0) (fun _ => rfl))
    ((View.wordExact_bits rfl).reshape _ _) (View.wordExact_bits rfl)) fun _ => .ret ⟨⟩

/-- The last of odd number, and the gradient of the logits. -/
def oddP : Pgm F :=
  .op (.waitDma2 ((arg23.slice (Rect.unit (s := S2) ![1] S1.size inb_S2_S1_1)).squeeze S_ squeezes_S1_S_).sem
    ((arg19.slice (Rect.unit (s := S2x2048x512) ![1, 0, 0] S1x2048x512.size inb_S2x2048x512_S1x2048x512_1_0_0) (fun _ => rfl)).squeeze S2048x512 squeezes_S1x2048x512_S2048x512)
    (arg5.slice (Rect.unit (s := S2048x6144) ![0, 5632] S2048x512.size inb_S2048x6144_S2048x512_0_5632) (fun _ => rfl))
    ((harg19.wordExact_slice rfl _ wordsbf16_S2x2048x512_S1x2048x512_1_0_0).reshape _ _) (harg5.wordExact_slice rfl _ wordsbf16_S2048x6144_S2048x512_0_5632)) fun _ =>
  .op (.waitDma2 ((arg24.slice (Rect.unit (s := S2) ![1] S1.size inb_S2_S1_1)).squeeze S_ squeezes_S1_S_).sem
    ((arg20.slice (Rect.unit (s := S2x512x160) ![1, 0, 0] S1x512x160.size inb_S2x512x160_S1x512x160_1_0_0) (fun _ => rfl)).squeeze S512x160 squeezes_S1x512x160_S512x160)
    (arg6.slice (Rect.unit (s := S6144x160) ![5632, 0] S512x160.size inb_S6144x160_S512x160_5632_0) (fun _ => rfl))
    ((View.wordExact_bits rfl).reshape _ _) (View.wordExact_bits rfl)) fun _ =>
  .op (.waitDma2 arg25.sem arg18 arg7 harg18.wordExact harg7.wordExact) fun _ => .ret ⟨⟩

/-- The three loops and what lies between. -/
def loopsP : Pgm F :=
  Scf.Loop.for k0_t1_loop k0_t1_ok (⟨⟩ : Unit) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
    midP arg1 harg1 arg3 harg3 arg4 harg4 arg9 harg9 arg11 harg11 arg12 harg12 arg22
      (Scf.Loop.for k0_t2_loop k0_t2_ok (⟨⟩ : Unit) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
        .op (.enqueueDma arg18 (.here arg7) (.dma arg25.sem) harg18.wordExact harg7.wordExact ⟨Or.inl rfl, trivial⟩) fun _ =>
          Scf.Loop.for k0_t3_loop k0_t3_ok (⟨⟩ : Unit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= fun _ =>
            evenP arg5 harg5 arg6 arg19 harg19 arg20 arg23 arg24)

end Whole

set_option maxRecDepth 65536 in
theorem body_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) :
    cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25
      = inP arg0 harg0 arg1 harg1 arg2 harg2 arg3 harg3 arg4 harg4 arg8 harg8 arg9 harg9 arg10 harg10 arg11 harg11 arg12 harg12 arg21 arg22
          (k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 >>= fun _ => oddP arg5 harg5 arg6 arg7 harg7 arg18 harg18 arg19 harg19 arg20 arg23 arg24 arg25) := by
  sl_kernel_rfl

set_option maxRecDepth 65536 in
theorem part59_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) :
    k0_part59 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 = loopsP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 := by
  sl_kernel_rfl

theorem turn_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u = turnP arg10 arg13 harg13 t := by
  sl_kernel_rfl

section ChunkHead
variable (arg5 : Memref sig .tc .hbm S2048x6144 .bf16) (harg5 : arg5.IsWhole) (arg6 : Memref sig .tc .hbm S6144x160 .f32) (harg6 : arg6.IsWhole)
  (arg13 : Memref sig .tc .vmem S160x6144 .bf16) (arg15 : Memref sig .tc .vmem S6144x2048 .bf16) (arg16 : Memref sig .tc .vmem S160x2048 .bf16) (arg17 : Memref sig .tc .vmem S2048x160 .bf16)
  (arg19 : Memref sig .tc .vmem S2x2048x512 .bf16) (harg19 : arg19.IsWhole) (arg20 : Memref sig .tc .vmem S2x512x160 .f32) (harg20 : arg20.IsWhole)
  (arg23 : DmaSems sig S2) (arg24 : DmaSems sig S2) (t : Fin k0_t3_loop.trips)

/-- A chunk up to its first transfer, -/
def chunkHead : Pgm F :=
  .op (.load arg17 (Rect.unit (s := S2048x160) ![0, 0] S2048x160.size inb_S2048x160_S2048x160_0_0).toLoadRect (View.loadsAt_vmem h_S2048x160)) fun l =>
  .op (.load arg13 (Rect.unit (s := S160x6144) (k0_off256 t) S160x512.size (k0_off256_inb t)).toLoadRect (View.loadsAt_vmem h_S160x512)) fun w =>
  .op (.load arg19 (Rect.unit (s := S2x2048x512) (k0_off257 t) S1x2048x512.size (k0_off257_inb t)).toLoadRect (View.loadsAt_vmem h_S1x2048x512)) fun _ =>
  .op (.store arg19 (Rect.unit (s := S2x2048x512) (k0_off257 t) S1x2048x512.size (k0_off257_inb t)) (k0_pay313 l w) Finset.univ
    (View.stores_vmem h_S1x2048x512 (harg19.storeExact_slice rfl _ (k0_off257_packedbf16 t)) (fun _ => rfl)) (.inl rfl)) fun _ =>
  .op (.load arg16 (Rect.unit (s := S160x2048) ![0, 0] S160x2048.size inb_S160x2048_S160x2048_0_0).toLoadRect (View.loadsAt_vmem h_S160x2048)) fun l =>
  .op (.load arg15 (Rect.unit (s := S6144x2048) (k0_off258 t) S512x2048.size (k0_off258_inb t)).toLoadRect (View.loadsAt_vmem h_S512x2048)) fun a =>
  .op (.load arg20 (Rect.unit (s := S2x512x160) (k0_off259 t) S1x512x160.size (k0_off259_inb t)).toLoadRect (View.loadsAt_vmem h_S1x512x160)) fun _ =>
  .op (.store arg20 (Rect.unit (s := S2x512x160) (k0_off259 t) S1x512x160.size (k0_off259_inb t)) (k0_pay314 l a) Finset.univ
    (View.stores_vmem_bits_univ h_S1x512x160 rfl) (.inl rfl)) fun _ =>
  .op (.enqueueDma (slotM19 arg19 t) (.here (colsM arg5 t)) (.dma (semO t arg23))
    ((harg19.wordExact_slice rfl _ (k0_off262_wordsbf16 t)).reshape _ _) (harg5.wordExact_slice rfl _ (k0_off261_wordsbf16 t)) ⟨Or.inl rfl, trivial⟩) fun _ => .ret ⟨⟩

/-- and its second. -/
def chunkLast : Pgm F :=
  .op (.enqueueDma (slotM20 arg20 t) (.here (rowsM arg6 t)) (.dma (semO t arg24))
    ((View.wordExact_bits rfl).reshape _ _) (View.wordExact_bits rfl) ⟨Or.inl rfl, trivial⟩) fun _ => .ret ⟨⟩

end ChunkHead

theorem part56_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) :
    k0_part56 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t
      = if h : k0_cond1 t = 1#1 then
          (waitP arg5 harg5 arg6 arg19 harg19 arg20 arg23 arg24 t h >>= fun _ => chunkHead arg5 harg5 arg13 arg15 arg16 arg17 arg19 harg19 arg20 arg23 t)
        else chunkHead arg5 harg5 arg13 arg15 arg16 arg17 arg19 harg19 arg20 arg23 t := by
  sl_kernel_rfl

theorem t3_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u = k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t >>= fun _ => chunkLast arg6 arg20 arg24 t := by
  sl_kernel_rfl

theorem chunk_eq (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_) (t : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32 t u
      = tripO arg5 harg5 arg6 arg13 arg15 arg16 arg17 arg19 harg19 arg20 arg23 arg24 t := by
  rw [t3_eq, part56_eq]
  unfold tripO
  by_cases h : k0_cond1 t = 1#1
  · rw [dif_pos h, dif_pos h]
    rfl
  · rw [dif_neg h, dif_neg h]
    rfl

end Cert.KernelIdeal.Program

end
-- ==== Proof.KI.Region.lean ====
/- The region run: its three loops, and the whole of it. -/
module

public import proofs.«01_k».proof.Proof.KI.Program

@[expose] public section

set_option maxRecDepth 16384

noncomputable section

namespace Cert.KernelIdeal.Region

open Cert.KernelIdeal Cert.KernelIdeal.Gen Cert.KernelIdeal.Steps Cert.KernelIdeal.Values Cert.KernelIdeal.Trip Cert.KernelIdeal.Land Cert.KernelIdeal.Out Cert.KernelIdeal.Drain Cert.KernelIdeal.Program
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)
variable (X : Vec F S2048x6144 .fp8e4m3) (Sc : Vec F S2048x192 .f32) (W : Vec F S6144x160 .bf16) (I : Vec F S2048x6 .i32) (G : Vec F S2048x6 .bf16)

/-- A memref held, at anything. -/
abbrev some_ (c : Dev nD) {sp : Space} {s : Shape} {e : EltTy} (m : Memref sig .tc sp s e) : sProp (MT nD τ sig Unit (Elt F) ℕ (Pipeline.UD sig nD τ) ℕ) :=
  iprop(∃ Y, own c m Finset.univ Y)

theorem trips1 : k0_t1_loop.trips = 12 := by decide
theorem trips2 : k0_t2_loop.trips = 8 := by decide
theorem trips3 : k0_t3_loop.trips = 12 := by decide

/-! ## The places cover their arrays -/

theorem off_axis {s : Shape} {off size : Fin s.rank → ℕ} {inb : ∀ a, off a + size a ≤ s.size a} {y : s.Idx} (h : y ∈ (Rect.unit off size inb).set) (a : Fin s.rank) :
    off a ≤ (y a).val ∧ (y a).val < off a + size a := (Rect.mem_set_unit.mp h) a

theorem rowsX_split (m : Memref sig .tc .hbm S2048x6144 .fp8e4m3) : (own c m Finset.univ X : sProp 𝕄) = bigSep Finset.univ fun t => own c m (rowsX t) X := by
  refine Own.At_split (c : Thread nD τ) m rowsX (fun t t' hne => Finset.disjoint_left.mpr fun y h h' => hne (Fin.ext ?_)) (fun y => ?_) X
  · have a := off_axis h 0
    have a' := off_axis h' 0
    rw [k0_off5_eq] at a a'
    change 256 * t.val ≤ (y 0).val ∧ (y 0).val < 256 * t.val + 256 at a
    change 256 * t'.val ≤ (y 0).val ∧ (y 0).val < 256 * t'.val + 256 at a'
    omega
  · have h0 := (y 0).isLt
    have h1 := (y 1).isLt
    change (y 0).val < 2048 at h0
    change (y 1).val < 6144 at h1
    refine ⟨⟨(y 0).val / 256, by rw [trips2]; omega⟩, ?_⟩
    unfold rowsX
    rw [Rect.mem_set_unit, k0_off5_eq]
    intro a
    fin_cases a
    · show 256 * ((y 0).val / 256) ≤ (y 0).val ∧ (y 0).val < 256 * ((y 0).val / 256) + 256
      omega
    · show 0 ≤ (y 1).val ∧ (y 1).val < 0 + 6144
      omega

theorem slot8_split (m : Memref sig .tc .vmem S8x256x6144 .fp8e4m3) (Y : Vec F S8x256x6144 .fp8e4m3) :
    (own c m Finset.univ Y : sProp 𝕄) = bigSep Finset.univ fun t => own c m (slot8 t) Y := by
  refine Own.At_split (c : Thread nD τ) m slot8 (fun t t' hne => Finset.disjoint_left.mpr fun y h h' => hne (Fin.ext ?_)) (fun y => ?_) Y
  · have a := off_axis h 0
    have a' := off_axis h' 0
    rw [k0_off4_eq] at a a'
    change t.val ≤ (y 0).val ∧ (y 0).val < t.val + 1 at a
    change t'.val ≤ (y 0).val ∧ (y 0).val < t'.val + 1 at a'
    omega
  · have h0 := (y 0).isLt
    have h1 := (y 1).isLt
    have h2 := (y 2).isLt
    change (y 0).val < 8 at h0
    change (y 1).val < 256 at h1
    change (y 2).val < 6144 at h2
    refine ⟨⟨(y 0).val, by rw [trips2]; omega⟩, ?_⟩
    unfold slot8
    rw [Rect.mem_set_unit, k0_off4_eq]
    intro a
    fin_cases a
    · show (y 0).val ≤ (y 0).val ∧ (y 0).val < (y 0).val + 1
      omega
    · show 0 ≤ (y 1).val ∧ (y 1).val < 0 + 256
      omega
    · show 0 ≤ (y 2).val ∧ (y 2).val < 0 + 6144
      omega

theorem colsO_split (m : Memref sig .tc .hbm S2048x6144 .bf16) (Y : Vec F S2048x6144 .bf16) :
    (own c m Finset.univ Y : sProp 𝕄) = bigSep Finset.univ fun t => own c m (colsO t) Y := by
  refine Own.At_split (c : Thread nD τ) m colsO (fun t t' hne => Finset.disjoint_left.mpr fun y h h' => hne (Fin.ext ?_)) (fun y => ?_) Y
  · have a := off_axis h 1
    have a' := off_axis h' 1
    rw [k0_off261_eq] at a a'
    change 512 * t.val ≤ (y 1).val ∧ (y 1).val < 512 * t.val + 512 at a
    change 512 * t'.val ≤ (y 1).val ∧ (y 1).val < 512 * t'.val + 512 at a'
    omega
  · have h0 := (y 0).isLt
    have h1 := (y 1).isLt
    change (y 0).val < 2048 at h0
    change (y 1).val < 6144 at h1
    refine ⟨⟨(y 1).val / 512, by rw [trips3]; omega⟩, ?_⟩
    unfold colsO
    rw [Rect.mem_set_unit, k0_off261_eq]
    intro a
    fin_cases a
    · show 0 ≤ (y 0).val ∧ (y 0).val < 0 + 2048
      omega
    · show 512 * ((y 1).val / 512) ≤ (y 1).val ∧ (y 1).val < 512 * ((y 1).val / 512) + 512
      omega

theorem rowsO_split (m : Memref sig .tc .hbm S6144x160 .f32) (Y : Vec F S6144x160 .f32) :
    (own c m Finset.univ Y : sProp 𝕄) = bigSep Finset.univ fun t => own c m (rowsO t) Y := by
  refine Own.At_split (c : Thread nD τ) m rowsO (fun t t' hne => Finset.disjoint_left.mpr fun y h h' => hne (Fin.ext ?_)) (fun y => ?_) Y
  · have a := off_axis h 0
    have a' := off_axis h' 0
    rw [k0_off263_eq] at a a'
    change 512 * t.val ≤ (y 0).val ∧ (y 0).val < 512 * t.val + 512 at a
    change 512 * t'.val ≤ (y 0).val ∧ (y 0).val < 512 * t'.val + 512 at a'
    omega
  · have h0 := (y 0).isLt
    have h1 := (y 1).isLt
    change (y 0).val < 6144 at h0
    change (y 1).val < 160 at h1
    refine ⟨⟨(y 0).val / 512, by rw [trips3]; omega⟩, ?_⟩
    unfold rowsO
    rw [Rect.mem_set_unit, k0_off263_eq]
    intro a
    fin_cases a
    · show 512 * ((y 0).val / 512) ≤ (y 0).val ∧ (y 0).val < 512 * ((y 0).val / 512) + 512
      omega
    · show 0 ≤ (y 1).val ∧ (y 1).val < 0 + 160
      omega

/-- The two slots of a buffer of two, by the first two chunks. -/
theorem slot19_two : slot19 (chunk 0) ∪ slot19 (chunk 1) = Finset.univ ∧ Disjoint (slot19 (chunk 0)) (slot19 (chunk 1)) := by
  constructor
  · refine Finset.eq_univ_of_forall fun y => Finset.mem_union.mpr ?_
    have h0 := (y 0).isLt
    have h1 := (y 1).isLt
    have h2 := (y 2).isLt
    change (y 0).val < 2 at h0
    change (y 1).val < 2048 at h1
    change (y 2).val < 512 at h2
    unfold slot19
    rw [Rect.mem_set_unit, Rect.mem_set_unit, k0_off262_eq, k0_off262_eq]
    rcases (by omega : (y 0).val = 0 ∨ (y 0).val = 1) with h | h
    · left
      intro a
      fin_cases a
      · show 0 ≤ (y 0).val ∧ (y 0).val < 0 + 1
        omega
      · show 0 ≤ (y 1).val ∧ (y 1).val < 0 + 2048
        omega
      · show 0 ≤ (y 2).val ∧ (y 2).val < 0 + 512
        omega
    · right
      intro a
      fin_cases a
      · show 1 ≤ (y 0).val ∧ (y 0).val < 1 + 1
        omega
      · show 0 ≤ (y 1).val ∧ (y 1).val < 0 + 2048
        omega
      · show 0 ≤ (y 2).val ∧ (y 2).val < 0 + 512
        omega
  · refine Finset.disjoint_left.mpr fun y h h' => ?_
    have a := off_axis h 0
    have a' := off_axis h' 0
    rw [k0_off262_eq] at a a'
    change 0 ≤ (y 0).val ∧ (y 0).val < 0 + 1 at a
    change 1 ≤ (y 0).val ∧ (y 0).val < 1 + 1 at a'
    omega

theorem slot20_two : slot20 (chunk 0) ∪ slot20 (chunk 1) = Finset.univ ∧ Disjoint (slot20 (chunk 0)) (slot20 (chunk 1)) := by
  constructor
  · refine Finset.eq_univ_of_forall fun y => Finset.mem_union.mpr ?_
    have h0 := (y 0).isLt
    have h1 := (y 1).isLt
    have h2 := (y 2).isLt
    change (y 0).val < 2 at h0
    change (y 1).val < 512 at h1
    change (y 2).val < 160 at h2
    unfold slot20
    rw [Rect.mem_set_unit, Rect.mem_set_unit, k0_off264_eq, k0_off264_eq]
    rcases (by omega : (y 0).val = 0 ∨ (y 0).val = 1) with h | h
    · left
      intro a
      fin_cases a
      · show 0 ≤ (y 0).val ∧ (y 0).val < 0 + 1
        omega
      · show 0 ≤ (y 1).val ∧ (y 1).val < 0 + 512
        omega
      · show 0 ≤ (y 2).val ∧ (y 2).val < 0 + 160
        omega
    · right
      intro a
      fin_cases a
      · show 1 ≤ (y 0).val ∧ (y 0).val < 1 + 1
        omega
      · show 0 ≤ (y 1).val ∧ (y 1).val < 0 + 512
        omega
      · show 0 ≤ (y 2).val ∧ (y 2).val < 0 + 160
        omega
  · refine Finset.disjoint_left.mpr fun y h h' => ?_
    have a := off_axis h 0
    have a' := off_axis h' 0
    rw [k0_off264_eq] at a a'
    change 0 ≤ (y 0).val ∧ (y 0).val < 0 + 1 at a
    change 1 ≤ (y 0).val ∧ (y 0).val < 1 + 1 at a'
    omega

/-- Both chunks' slots and semaphores free, as the buffers and the semaphores. -/
theorem free_two (arg19 : Memref sig .tc .vmem S2x2048x512 .bf16) (arg20 : Memref sig .tc .vmem S2x512x160 .f32) (arg23 arg24 : DmaSems sig S2) :
    iprop(FreeO c arg19 arg20 arg23 arg24 (chunk 0) ∗ FreeO c arg19 arg20 arg23 arg24 (chunk 1))
      ⊢ (iprop(some_ c arg19 ∗ some_ c arg20 ∗ zeroed c (semO (chunk 0) arg23) ∗ zeroed c (semO (chunk 1) arg23) ∗ zeroed c (semO (chunk 0) arg24) ∗ zeroed c (semO (chunk 1) arg24)) : sProp 𝕄) := by
  unfold FreeO
  iintro ⟨⟨Ha, Hb, ⟨%Y0, H0⟩, ⟨%Z0, K0⟩⟩, ⟨Hc, Hd, ⟨%Y1, H1⟩, ⟨%Z1, K1⟩⟩⟩
  have e19 := Own.At_join (Ix := Unit) (Name := ℕ) (U := Pipeline.UD sig nD τ) (Lvl := ℕ) (Val := Elt F) (c : Thread nD τ) arg19 slot19_two.2 Y0 Y1
  have e20 := Own.At_join (Ix := Unit) (Name := ℕ) (U := Pipeline.UD sig nD τ) (Lvl := ℕ) (Val := Elt F) (c : Thread nD τ) arg20 slot20_two.2 Z0 Z1
  rw [slot19_two.1] at e19
  rw [slot20_two.1] at e20
  isplitl [H0 H1]
  · iapply e19 $$ [H0 H1]
    isplitl [H0] <;> iassumption
  isplitl [K0 K1]
  · iapply e20 $$ [K0 K1]
    isplitl [K0] <;> iassumption
  isplitl [Ha]; · iexact Ha
  isplitl [Hc]; · iexact Hc
  isplitl [Hb]; · iexact Hb
  iexact Hd

theorem two_free (arg19 : Memref sig .tc .vmem S2x2048x512 .bf16) (arg20 : Memref sig .tc .vmem S2x512x160 .f32) (arg23 arg24 : DmaSems sig S2) :
    (iprop(some_ c arg19 ∗ some_ c arg20 ∗ zeroed c (semO (chunk 0) arg23) ∗ zeroed c (semO (chunk 1) arg23) ∗ zeroed c (semO (chunk 0) arg24) ∗ zeroed c (semO (chunk 1) arg24)) : sProp 𝕄)
      ⊢ iprop(FreeO c arg19 arg20 arg23 arg24 (chunk 0) ∗ FreeO c arg19 arg20 arg23 arg24 (chunk 1)) := by
  unfold FreeO
  iintro ⟨⟨%Y, H⟩, ⟨%Z, K⟩, Ha, Hc, Hb, Hd⟩
  have e19 := Own.At_union (Ix := Unit) (Name := ℕ) (U := Pipeline.UD sig nD τ) (Lvl := ℕ) (Val := Elt F) (c : Thread nD τ) arg19 slot19_two.2 Y
  have e20 := Own.At_union (Ix := Unit) (Name := ℕ) (U := Pipeline.UD sig nD τ) (Lvl := ℕ) (Val := Elt F) (c : Thread nD τ) arg20 slot20_two.2 Z
  rw [slot19_two.1] at e19
  rw [slot20_two.1] at e20
  icases e19 $$ H with ⟨H0, H1⟩
  icases e20 $$ K with ⟨K0, K1⟩
  isplitl [Ha Hb H0 K0]
  · isplitl [Ha]; · iexact Ha
    isplitl [Hb]; · iexact Hb
    isplitl [H0]
    · iexists _
      iexact H0
    iexists _
    iexact K0
  isplitl [Hc]; · iexact Hc
  isplitl [Hd]; · iexact Hd
  isplitl [H1]
  · iexists _
    iexact H1
  iexists _
  iexact K1

end Cert.KernelIdeal.Region

end
-- ==== Proof.KI.Whole.lean ====
/- The region run, from the five arguments to the three results. -/
module

public import proofs.«01_k».proof.Proof.KI.Region

@[expose] public section

set_option maxRecDepth 16384

noncomputable section

namespace Cert.KernelIdeal.Whole

open Cert.KernelIdeal Cert.KernelIdeal.Gen Cert.KernelIdeal.Steps Cert.KernelIdeal.Values Cert.KernelIdeal.Trip Cert.KernelIdeal.Land Cert.KernelIdeal.Out Cert.KernelIdeal.Drain Cert.KernelIdeal.Program Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline library's beside the transfers' counters. -/
local notation "𝕄" => MT nD τ sig Unit (Elt F) ℕ (Pipeline.UD sig nD τ) ℕ

variable (c : Dev nD)
variable (X : Vec F S2048x6144 .fp8e4m3) (Sc : Vec F S2048x192 .f32) (W : Vec F S6144x160 .bf16) (I : Vec F S2048x6 .i32) (G : Vec F S2048x6 .bf16)

theorem none_left {T : Type} (s : Finset T) : bigSep s (fun _ => (iprop(emp) : sProp (MT nD τ sig Unit (Elt F) ℕ (Pipeline.UD sig nD τ) ℕ))) = iprop(emp) := by
  classical
  induction s using Finset.induction_on with
  | empty => rfl
  | insert a s ha ih =>
    rw [bigSep_insert ha, ih]
    exact equiv_iff.mp emp_sep

/-- The last chunk's neighbour put back. -/
theorem take_erased (Φ : Fin k0_t3_loop.trips → sProp (MT nD τ sig Unit (Elt F) ℕ (Pipeline.UD sig nD τ) ℕ)) :
    bigSep (Finset.univ.erase (chunk 11)) Φ = iprop(Φ (chunk 10) ∗ bigSep ((Finset.univ.erase (chunk 10)).erase (chunk 11)) Φ) := by
  rw [Finset.erase_right_comm]
  exact bigSep_erase (by decide)

section Region
variable (arg0 : Memref sig .tc .hbm S2048x6144 .fp8e4m3) (harg0 : arg0.IsWhole) (arg1 : Memref sig .tc .hbm S2048x192 .f32) (harg1 : arg1.IsWhole) (arg2 : Memref sig .tc .hbm S6144x160 .bf16) (harg2 : arg2.IsWhole) (arg3 : Memref sig .tc .hbm S2048x6 .i32) (harg3 : arg3.IsWhole) (arg4 : Memref sig .tc .hbm S2048x6 .bf16) (harg4 : arg4.IsWhole) (arg5 : Memref sig .tc .hbm S2048x6144 .bf16) (harg5 : arg5.IsWhole) (arg6 : Memref sig .tc .hbm S6144x160 .f32) (harg6 : arg6.IsWhole) (arg7 : Memref sig .tc .hbm S2048x160 .f32) (harg7 : arg7.IsWhole) (arg8 : Memref sig .tc .vmem S8x256x6144 .fp8e4m3) (harg8 : arg8.IsWhole) (arg9 : Memref sig .tc .vmem S2048x192 .f32) (harg9 : arg9.IsWhole) (arg10 : Memref sig .tc .vmem S6144x160 .bf16) (harg10 : arg10.IsWhole) (arg11 : Memref sig .tc .vmem S2048x6 .i32) (harg11 : arg11.IsWhole) (arg12 : Memref sig .tc .vmem S2048x6 .bf16) (harg12 : arg12.IsWhole) (arg13 : Memref sig .tc .vmem S160x6144 .bf16) (harg13 : arg13.IsWhole) (arg14 : Memref sig .tc .vmem S192x256 .f32) (harg14 : arg14.IsWhole) (arg15 : Memref sig .tc .vmem S6144x2048 .bf16) (harg15 : arg15.IsWhole) (arg16 : Memref sig .tc .vmem S160x2048 .bf16) (harg16 : arg16.IsWhole) (arg17 : Memref sig .tc .vmem S2048x160 .bf16) (harg17 : arg17.IsWhole) (arg18 : Memref sig .tc .vmem S2048x160 .f32) (harg18 : arg18.IsWhole) (arg19 : Memref sig .tc .vmem S2x2048x512 .bf16) (harg19 : arg19.IsWhole) (arg20 : Memref sig .tc .vmem S2x512x160 .f32) (harg20 : arg20.IsWhole) (arg21 : DmaSems sig S8) (arg22 : DmaSems sig S4) (arg23 : DmaSems sig S2) (arg24 : DmaSems sig S2) (arg25 : DmaSems sig S_)

/-! ## The loops -/

theorem loop1_wp {kk : Unit → Pgm F} {Q : Unit → sProp 𝕄} :
    iprop(own c arg10 Finset.univ W ∗ some_ c arg13)
      ⊢ iprop((iprop(own c arg10 Finset.univ W ∗ own c arg13 Finset.univ (wtT W)) -∗ wpP c (kk ⟨⟩) Q)
        -∗ wpP c (Scf.Loop.for k0_t1_loop k0_t1_ok (⟨⟩ : Unit) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t1_loop.lb k0_t1_loop.ub k0_t1_loop.st k0_t1_ok (⟨⟩ : Unit)
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv1 c W arg10 arg13 n)
    (fun t u => by rw [turn_eq]; exact turn_step c W arg10 arg13 harg13 t) (kk := kk) (Q := Q)
  iintro ⟨H10, ⟨%Y, H13⟩⟩ HK
  iapply hl $$ [H10 H13]
  · unfold Inv1
    isplitl [H10]; · iexact H10
    iexists Y
    isplitl [H13]; · iexact H13
    ipureintro
    intro y hy
    omega
  iintro %u
  unfold Inv1
  iintro ⟨H10, ⟨%Y, H13, %hY⟩⟩
  have e : own c arg13 Finset.univ Y ⊢ own c arg13 Finset.univ (wtT W) := Entails.of_eq (Own.At_congr (c : Thread nD τ) arg13 fun y _ => hY y (by
    have := (y 1).isLt
    change (y 1).val < 6144 at this
    rw [show Scf.trips k0_t1_loop.lb k0_t1_loop.ub k0_t1_loop.st = 12 from trips1]
    omega))
  iapply HK
  isplitl [H10]; · iexact H10
  iapply e $$ H13

theorem loop2_wp {kk : Unit → Pgm F} {Q : Unit → sProp 𝕄} :
    iprop(bigSep Finset.univ (FlyX c X arg0 arg8 arg21) ∗ own c arg9 Finset.univ Sc ∗ own c arg11 Finset.univ I ∗ own c arg12 Finset.univ G ∗ own c arg13 Finset.univ (wtT W)
        ∗ some_ c arg14 ∗ some_ c arg15 ∗ some_ c arg16 ∗ some_ c arg17 ∗ some_ c arg18 ∗ debts c)
      ⊢ iprop((iprop(bigSep Finset.univ (LandX c X arg0 arg8 arg21) ∗ own c arg9 Finset.univ Sc ∗ own c arg11 Finset.univ I ∗ own c arg12 Finset.univ G ∗ own c arg13 Finset.univ (wtT W)
          ∗ some_ c arg14 ∗ own c arg15 Finset.univ (aT X Sc) ∗ own c arg16 Finset.univ (d16T (Dt X Sc W I G)) ∗ own c arg17 Finset.univ (dl16 (Dt X Sc W I G))
          ∗ own c arg18 Finset.univ (dlogT (Dt X Sc W I G)) ∗ debts c) -∗ wpP c (kk ⟨⟩) Q)
        -∗ wpP c (Scf.Loop.for k0_t2_loop k0_t2_ok (⟨⟩ : Unit) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t2_loop.lb k0_t2_loop.ub k0_t2_loop.st k0_t2_ok (⟨⟩ : Unit)
    (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv2 c X Sc W I G arg0 arg8 arg9 arg11 arg12 arg13 arg14 arg15 arg16 arg17 arg18 arg21 n)
    (fun t u => by rw [trip_eq]; exact tile_step c X Sc W I G arg0 harg0 arg8 harg8 arg9 arg11 arg12 arg13 arg14 arg15 harg15 arg16 harg16 arg17 harg17 arg18 arg21 t) (kk := kk) (Q := Q)
  iintro ⟨HX, H9, H11, H12, H13, H14, ⟨%Y15, H15⟩, ⟨%Y16, H16⟩, ⟨%Y17, H17⟩, ⟨%Y18, H18⟩, HW⟩ HK
  iapply hl $$ [HX H9 H11 H12 H13 H14 H15 H16 H17 H18 HW]
  · unfold Inv2 Rest2 Held
    isplitl [HX]
    · rw [bigSep_congr (s := Finset.univ) (Φ := St2 c X arg0 arg8 arg21 0) (Ψ := FlyX c X arg0 arg8 arg21) (fun t _ => if_neg (by omega))]
      iexact HX
    isplitl [H11 H12 H13 H16 H17 H18]
    · isplitl [H11]; · iexact H11
      isplitl [H12]; · iexact H12
      isplitl [H13]; · iexact H13
      isplitl [H16]
      · iexists Y16
        isplitl [H16]; · iexact H16
        ipureintro
        intro y hy
        omega
      isplitl [H17]
      · iexists Y17
        isplitl [H17]; · iexact H17
        ipureintro
        intro y hy
        omega
      iexists Y18
      isplitl [H18]; · iexact H18
      ipureintro
      intro y hy
      omega
    isplitl [H15]
    · iexists Y15
      isplitl [H15]; · iexact H15
      ipureintro
      intro y hy
      omega
    isplitl [H9]; · iexact H9
    isplitl [H14]; · iexact H14
    iexact HW
  iintro %u
  rw [show Scf.trips k0_t2_loop.lb k0_t2_loop.ub k0_t2_loop.st = 8 from trips2]
  unfold Inv2 Rest2 Held
  rw [bigSep_congr (s := Finset.univ) (Φ := St2 c X arg0 arg8 arg21 8) (Ψ := LandX c X arg0 arg8 arg21) (fun t _ => if_pos (t2_lt t))]
  iintro ⟨HX, ⟨H11, H12, H13, ⟨%Z16, H16, %h16⟩, ⟨%Z17, H17, %h17⟩, ⟨%Z18, H18, %h18⟩⟩, ⟨%Z15, H15, %h15⟩, H9, H14, HW⟩
  have e16 : own c arg16 Finset.univ Z16 ⊢ own c arg16 Finset.univ (d16T (Dt X Sc W I G)) := Entails.of_eq (Own.At_congr (c : Thread nD τ) arg16 fun y _ => h16 y (by
      have := (y 1).isLt
      change (y 1).val < 2048 at this
      omega))
  have e17 : own c arg17 Finset.univ Z17 ⊢ own c arg17 Finset.univ (dl16 (Dt X Sc W I G)) := Entails.of_eq (Own.At_congr (c : Thread nD τ) arg17 fun y _ => h17 y (by
      have := (y 0).isLt
      change (y 0).val < 2048 at this
      omega))
  have e18 : own c arg18 Finset.univ Z18 ⊢ own c arg18 Finset.univ (dlogT (Dt X Sc W I G)) := Entails.of_eq (Own.At_congr (c : Thread nD τ) arg18 fun y _ => h18 y (by
      have := (y 0).isLt
      change (y 0).val < 2048 at this
      omega))
  have e15 : own c arg15 Finset.univ Z15 ⊢ own c arg15 Finset.univ (aT X Sc) := Entails.of_eq (Own.At_congr (c : Thread nD τ) arg15 fun y _ => h15 y (by
      have := (y 1).isLt
      change (y 1).val < 2048 at this
      omega))
  iapply HK
  isplitl [HX]; · iexact HX
  isplitl [H9]; · iexact H9
  isplitl [H11]; · iexact H11
  isplitl [H12]; · iexact H12
  isplitl [H13]; · iexact H13
  isplitl [H14]; · iexact H14
  isplitl [H15]; · iapply e15 $$ H15
  isplitl [H16]; · iapply e16 $$ H16
  isplitl [H17]; · iapply e17 $$ H17
  isplitl [H18]; · iapply e18 $$ H18
  iexact HW

section Third
variable (A : FVec F S6144x2048 .bf16) (Wt : Vec F S160x6144 .bf16) (L16 : FVec F S160x2048 .bf16) (LN : FVec F S2048x160 .bf16)

theorem loop3_wp {kk : Unit → Pgm F} {Q : Unit → sProp 𝕄} :
    iprop(bigSep Finset.univ (FreshO c arg5 arg6) ∗ FreeO c arg19 arg20 arg23 arg24 (chunk 0) ∗ FreeO c arg19 arg20 arg23 arg24 (chunk 1)
        ∗ Ops c A Wt L16 LN arg13 arg15 arg16 arg17 ∗ debts c)
      ⊢ iprop((iprop(bigSep ((Finset.univ.erase (chunk 10)).erase (chunk 11)) (LandO c A Wt L16 LN arg5 arg6)
          ∗ FlyO c A Wt L16 LN arg5 arg6 arg19 arg20 arg23 arg24 (chunk 10) ∗ FlyO c A Wt L16 LN arg5 arg6 arg19 arg20 arg23 arg24 (chunk 11)
          ∗ Ops c A Wt L16 LN arg13 arg15 arg16 arg17 ∗ debts c) -∗ wpP c (kk ⟨⟩) Q)
        -∗ wpP c (Scf.Loop.for k0_t3_loop k0_t3_ok (⟨⟩ : Unit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) >>= kk) Q) := by
  have hl := Scf.wp_for_bind frame (wpE (defs₀ (F := F)) Variants.none (c : Thread nD τ) none) Set.univ k0_t3_loop.lb k0_t3_loop.ub k0_t3_loop.st k0_t3_ok (⟨⟩ : Unit)
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 0#32 1#32) (fun n _ => Inv3 c A Wt L16 LN arg5 arg6 arg13 arg15 arg16 arg17 arg19 arg20 arg23 arg24 n)
    (fun t u => by rw [chunk_eq]; exact chunk_step c A Wt L16 LN arg5 harg5 arg6 arg13 arg15 arg16 arg17 arg19 harg19 arg20 arg23 arg24 t) (kk := kk) (Q := Q)
  have hne : chunk 1 ≠ chunk 0 := by decide
  have hne' : chunk 11 ≠ chunk 10 := by decide
  iintro ⟨HX, HF0, HF1, HO, HW⟩ HK
  iapply hl $$ [HX HF0 HF1 HO HW]
  · unfold Inv3
    rw [bigSep_congr (s := Finset.univ) (Φ := St3 c A Wt L16 LN arg5 arg6 arg19 arg20 arg23 arg24 0) (Ψ := FreshO c arg5 arg6) (fun t _ => by
        unfold St3; rw [if_neg (by omega), if_neg (by omega)]),
      take_two (Fr3 c arg19 arg20 arg23 arg24 0) hne,
      show (Fr3 c arg19 arg20 arg23 arg24 0 (chunk 0) : sProp 𝕄) = FreeO c arg19 arg20 arg23 arg24 (chunk 0) from if_pos (by decide),
      show (Fr3 c arg19 arg20 arg23 arg24 0 (chunk 1) : sProp 𝕄) = FreeO c arg19 arg20 arg23 arg24 (chunk 1) from if_pos (by decide),
      bigSep_congr (s := (Finset.univ.erase (chunk 0)).erase (chunk 1)) (Φ := Fr3 c arg19 arg20 arg23 arg24 0) (Ψ := fun _ => (iprop(emp) : sProp 𝕄)) (fun t ht => by
        have h1 : t.val ≠ 1 := fun e => (Finset.ne_of_mem_erase ht) (Fin.ext e)
        have h2 : t.val ≠ 0 := fun e => (Finset.ne_of_mem_erase (Finset.mem_of_mem_erase ht)) (Fin.ext e)
        exact if_neg (by omega)),
      none_left]
    isplitl [HX]; · iexact HX
    isplitl [HF0 HF1]
    · isplitl [HF0]; · iexact HF0
      isplitl [HF1]; · iexact HF1
      iempintro
    isplitl [HO]; · iexact HO
    iexact HW
  iintro %u
  rw [show Scf.trips k0_t3_loop.lb k0_t3_loop.ub k0_t3_loop.st = 12 from trips3]
  unfold Inv3
  rw [take_two (St3 c A Wt L16 LN arg5 arg6 arg19 arg20 arg23 arg24 12) hne',
    show St3 c A Wt L16 LN arg5 arg6 arg19 arg20 arg23 arg24 12 (chunk 10) = FlyO c A Wt L16 LN arg5 arg6 arg19 arg20 arg23 arg24 (chunk 10) from by
      unfold St3; rw [if_neg (by decide), if_pos (by decide)],
    show St3 c A Wt L16 LN arg5 arg6 arg19 arg20 arg23 arg24 12 (chunk 11) = FlyO c A Wt L16 LN arg5 arg6 arg19 arg20 arg23 arg24 (chunk 11) from by
      unfold St3; rw [if_neg (by decide), if_pos (by decide)],
    bigSep_congr (s := (Finset.univ.erase (chunk 10)).erase (chunk 11)) (Φ := St3 c A Wt L16 LN arg5 arg6 arg19 arg20 arg23 arg24 12) (Ψ := LandO c A Wt L16 LN arg5 arg6) (fun t ht => by
      have h1 : t.val ≠ 11 := fun e => (Finset.ne_of_mem_erase ht) (Fin.ext e)
      have h2 : t.val ≠ 10 := fun e => (Finset.ne_of_mem_erase (Finset.mem_of_mem_erase ht)) (Fin.ext e)
      have := t3_lt t
      exact if_pos (by omega))]
  iintro ⟨⟨HF10, HF11, HX⟩, HFr, HO, HW⟩
  iapply HK
  isplitl [HX]; · iexact HX
  isplitl [HF10]; · iexact HF10
  isplitl [HF11]; · iexact HF11
  isplitl [HO]; · iexact HO
  iexact HW

end Third

/-! ## The codes' transfers -/

/-- Tile `t`'s codes before start `n`: on the way already, or their places ready. -/
def St0 (n : ℕ) (t : Fin k0_t2_loop.trips) : sProp 𝕄 :=
  if t.val < n then FlyX c X arg0 arg8 arg21 t else iprop(own c arg0 (rowsX t) X ∗ (∃ Y, own c arg8 (slot8 t) Y) ∗ zeroed c (semX arg21 t))

theorem start_step (t : Fin k0_t2_loop.trips) {n : ℕ} (hn : t.val = n) (k : Pgm F) (Q : Unit → sProp 𝕄) :
    bigSep Finset.univ (St0 c X arg0 arg8 arg21 n)
      ⊢ iprop((bigSep Finset.univ (St0 c X arg0 arg8 arg21 (n + 1)) -∗ wpP c k Q) -∗ wpP c (startX arg0 harg0 arg8 harg8 arg21 t k) Q) := by
  subst hn
  rw [take_one (St0 c X arg0 arg8 arg21 t.val) t, take_one (St0 c X arg0 arg8 arg21 (t.val + 1)) t,
    show St0 c X arg0 arg8 arg21 t.val t = iprop(own c arg0 (rowsX t) X ∗ (∃ Y, own c arg8 (slot8 t) Y) ∗ zeroed c (semX arg21 t)) from if_neg (lt_irrefl _),
    show St0 c X arg0 arg8 arg21 (t.val + 1) t = FlyX c X arg0 arg8 arg21 t from if_pos (Nat.lt_succ_self _),
    bigSep_congr (s := Finset.univ.erase t) (Φ := St0 c X arg0 arg8 arg21 (t.val + 1)) (Ψ := St0 c X arg0 arg8 arg21 t.val) (fun u hu => by
      have hne : u.val ≠ t.val := fun h => (Finset.ne_of_mem_erase hu) (Fin.ext h)
      unfold St0
      by_cases h : u.val < t.val
      · rw [if_pos h, if_pos (by omega)]
      · rw [if_neg h, if_neg (by omega)])]
  iintro ⟨HR, HB⟩ HK
  iapply (startX_wp c X arg0 harg0 arg8 harg8 arg21 t) $$ HR
  iintro HF
  iapply HK
  isplitl [HF] <;> iassumption

/-! ## The region -/

/-- The semaphores, all at zero. -/
def Zeros : sProp 𝕄 :=
  iprop(bigSep Finset.univ (fun t => zeroed c (semX arg21 t)) ∗ zeroed c (in0 arg22) ∗ zeroed c (in1 arg22) ∗ zeroed c (in2 arg22) ∗ zeroed c (in3 arg22)
    ∗ zeroed c (semO (chunk 0) arg23) ∗ zeroed c (semO (chunk 1) arg23) ∗ zeroed c (semO (chunk 0) arg24) ∗ zeroed c (semO (chunk 1) arg24) ∗ zeroed c arg25.sem)

/-- The arguments. -/
def Args : sProp 𝕄 :=
  iprop(own c arg0 Finset.univ X ∗ own c arg1 Finset.univ Sc ∗ own c arg2 Finset.univ W ∗ own c arg3 Finset.univ I ∗ own c arg4 Finset.univ G)

/-- The scratch buffers, at anything. -/
def Scratch : sProp 𝕄 :=
  iprop(some_ c arg8 ∗ some_ c arg9 ∗ some_ c arg10 ∗ some_ c arg11 ∗ some_ c arg12 ∗ some_ c arg13 ∗ some_ c arg14 ∗ some_ c arg15 ∗ some_ c arg16 ∗ some_ c arg17
    ∗ some_ c arg18 ∗ some_ c arg19 ∗ some_ c arg20)

theorem loops_wp (Q : Unit → sProp 𝕄) :
    iprop(own c arg10 Finset.univ W ∗ some_ c arg13
        ∗ Fly c (in1 arg22) (amt arg9) iprop(own c arg9 Finset.univ Sc ∗ own c arg1 Finset.univ Sc)
        ∗ Fly c (in2 arg22) (amt arg11) iprop(own c arg11 Finset.univ I ∗ own c arg3 Finset.univ I)
        ∗ Fly c (in3 arg22) (amt arg12) iprop(own c arg12 Finset.univ G ∗ own c arg4 Finset.univ G)
        ∗ bigSep Finset.univ (FlyX c X arg0 arg8 arg21)
        ∗ (some_ c arg14 ∗ some_ c arg15 ∗ some_ c arg16 ∗ some_ c arg17 ∗ some_ c arg18)
        ∗ some_ c arg7 ∗ zeroed c arg25.sem
        ∗ bigSep Finset.univ (FreshO c arg5 arg6) ∗ FreeO c arg19 arg20 arg23 arg24 (chunk 0) ∗ FreeO c arg19 arg20 arg23 arg24 (chunk 1) ∗ debts c)
      ⊢ iprop((iprop(own c arg10 Finset.univ W
          ∗ (own c arg9 Finset.univ Sc ∗ own c arg1 Finset.univ Sc ∗ zeroed c (in1 arg22))
          ∗ (own c arg11 Finset.univ I ∗ own c arg3 Finset.univ I ∗ zeroed c (in2 arg22))
          ∗ (own c arg12 Finset.univ G ∗ own c arg4 Finset.univ G ∗ zeroed c (in3 arg22))
          ∗ bigSep Finset.univ (LandX c X arg0 arg8 arg21)
          ∗ some_ c arg14
          ∗ Fly c arg25.sem (amt arg7) iprop(own c arg7 Finset.univ (dlogT (Dt X Sc W I G)) ∗ own c arg18 Finset.univ (dlogT (Dt X Sc W I G)))
          ∗ bigSep (Finset.univ.erase (chunk 11)) (LandO c (aT X Sc) (wtT W) (d16T (Dt X Sc W I G)) (dl16 (Dt X Sc W I G)) arg5 arg6)
          ∗ FlyO c (aT X Sc) (wtT W) (d16T (Dt X Sc W I G)) (dl16 (Dt X Sc W I G)) arg5 arg6 arg19 arg20 arg23 arg24 (chunk 11)
          ∗ FreeO c arg19 arg20 arg23 arg24 (chunk 0)
          ∗ Ops c (aT X Sc) (wtT W) (d16T (Dt X Sc W I G)) (dl16 (Dt X Sc W I G)) arg13 arg15 arg16 arg17 ∗ debts c) -∗ Q ⟨⟩)
        -∗ wpP c (loopsP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) Q) := by
  unfold loopsP midP evenP
  iintro ⟨H10, H13, HF1, HF2, HF3, HX, ⟨H14, H15, H16, H17, H18⟩, H7, HV, HB, HS0, HS1, HW⟩ HK
  iapply (loop1_wp c W arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [H10 H13]
  · isplitl [H10] <;> iassumption
  iintro ⟨H10, H13⟩
  iapply (await_wp c (sm := in1 arg22) (dst := arg9) rfl) $$ [HF1 HW]
  · isplitl [HF1] <;> iassumption
  iintro ⟨⟨H9, H1⟩, HV1, HW⟩
  iapply (await_wp c (sm := in2 arg22) (dst := arg11) rfl) $$ [HF2 HW]
  · isplitl [HF2] <;> iassumption
  iintro ⟨⟨H11, H3⟩, HV2, HW⟩
  iapply (await_wp c (sm := in3 arg22) (dst := arg12) rfl) $$ [HF3 HW]
  · isplitl [HF3] <;> iassumption
  iintro ⟨⟨H12, H4⟩, HV3, HW⟩
  iapply (loop2_wp c X Sc W I G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [HX H9 H11 H12 H13 H14 H15 H16 H17 H18 HW]
  · isplitl [HX]; · iexact HX
    isplitl [H9]; · iexact H9
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact HW
  iintro ⟨HX, H9, H11, H12, H13, H14, H15, H16, H17, H18, HW⟩
  iapply (copy_wp c (src := arg18) (dst := arg7) (sm := arg25.sem) (by decide)) $$ [H18 H7 HV]
  · isplitl [H18]; · iexact H18
    isplitl [H7]; · iexact H7
    iexact HV
  iintro HF7
  iapply (loop3_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25 (aT X Sc) (wtT W) (d16T (Dt X Sc W I G)) (dl16 (Dt X Sc W I G))) $$ [HB HS0 HS1 H13 H15 H16 H17 HW]
  · isplitl [HB]; · iexact HB
    isplitl [HS0]; · iexact HS0
    isplitl [HS1]; · iexact HS1
    isplitl [H13 H15 H16 H17]
    · unfold Ops
      isplitl [H13]; · iexact H13
      isplitl [H15]; · iexact H15
      isplitl [H16]; · iexact H16
      iexact H17
    iexact HW
  iintro ⟨HB, HF10, HF11, HO, HW⟩
  iapply (drain_wp c (aT X Sc) (wtT W) (d16T (Dt X Sc W I G)) (dl16 (Dt X Sc W I G)) arg5 arg6 arg19 arg20 arg23 arg24 (chunk 10)
    (sem_congr (chunk 10) arg23 inb_S2_S1_0 rfl) (sem_congr (chunk 10) arg24 inb_S2_S1_0 rfl) rfl rfl) $$ [HF10 HW]
  · isplitl [HF10] <;> iassumption
  rw [Free_congr c arg19 arg20 arg23 arg24 (u := chunk 10) (t := chunk 0) rfl]
  iintro ⟨HL, HS0, HW⟩
  unfold wpP
  rw [wp_ret]
  imodintro
  iapply HK
  isplitl [H10]; · iexact H10
  isplitl [H9 H1 HV1]
  · isplitl [H9]; · iexact H9
    isplitl [H1] <;> iassumption
  isplitl [H11 H3 HV2]
  · isplitl [H11]; · iexact H11
    isplitl [H3] <;> iassumption
  isplitl [H12 H4 HV3]
  · isplitl [H12]; · iexact H12
    isplitl [H4] <;> iassumption
  isplitl [HX]; · iexact HX
  isplitl [H14]; · iexact H14
  isplitl [HF7]; · iexact HF7
  isplitl [HB HL]
  · rw [take_erased (LandO c (aT X Sc) (wtT W) (d16T (Dt X Sc W I G)) (dl16 (Dt X Sc W I G)) arg5 arg6)]
    isplitl [HL]; · iexact HL
    iexact HB
  isplitl [HF11]; · iexact HF11
  isplitl [HS0]; · iexact HS0
  isplitl [HO]; · iexact HO
  iexact HW

/-- Two families together are the family of their pairs. -/
theorem pairs {ι : Type} [Fintype ι] [DecidableEq ι] (Φ Ψ : ι → sProp 𝕄) :
    iprop(bigSep Finset.univ Φ ∗ bigSep Finset.univ Ψ) = bigSep Finset.univ (fun t => iprop(Φ t ∗ Ψ t)) :=
  (bigSep_sep (s := Finset.univ) (Φ := Φ) (Ψ := Ψ)).symm

/-- A family is turned into another member by member. -/
theorem each {ι : Type} [Fintype ι] {Φ Ψ : ι → sProp 𝕄} (h : ∀ t, Φ t ⊢ Ψ t) : bigSep Finset.univ Φ ⊢ bigSep Finset.univ Ψ :=
  bigSep_mono fun t _ => h t

/-- THE REGION: from the arguments, the results' arrays at anything, the scratch and the semaphores at zero, it runs to the arguments unchanged, the results at their
    values, the scratch at anything and the semaphores at zero again. -/
theorem region_wp (Q : Unit → sProp 𝕄) :
    iprop(Args c X Sc W I G arg0 arg1 arg2 arg3 arg4 ∗ (some_ c arg5 ∗ some_ c arg6 ∗ some_ c arg7)
        ∗ Scratch c arg8 arg9 arg10 arg11 arg12 arg13 arg14 arg15 arg16 arg17 arg18 arg19 arg20 ∗ Zeros c arg21 arg22 arg23 arg24 arg25 ∗ debts c)
      ⊢ iprop((iprop(Args c X Sc W I G arg0 arg1 arg2 arg3 arg4
          ∗ (own c arg5 Finset.univ (dxT (dl16 (Dt X Sc W I G)) (wtT W)) ∗ own c arg6 Finset.univ (dwT (d16T (Dt X Sc W I G)) (aT X Sc)) ∗ own c arg7 Finset.univ (dlogT (Dt X Sc W I G)))
          ∗ Scratch c arg8 arg9 arg10 arg11 arg12 arg13 arg14 arg15 arg16 arg17 arg18 arg19 arg20 ∗ Zeros c arg21 arg22 arg23 arg24 arg25 ∗ debts c) -∗ Q ⟨⟩)
        -∗ wpP c (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) Q) := by
  rw [body_eq]
  unfold inP Args Scratch Zeros
  have st := fun (t : Fin k0_t2_loop.trips) (n : ℕ) (h : t.val = n) => start_step (F := F) c X arg0 harg0 arg8 harg8 arg21 t h
  have s0 := st (tile 0) 0 rfl
  have s1 := st (tile 1) 1 rfl
  have s2 := st (tile 2) 2 rfl
  have s3 := st (tile 3) 3 rfl
  have s4 := st (tile 4) 4 rfl
  have s5 := st (tile 5) 5 rfl
  have s6 := st (tile 6) 6 rfl
  have s7 := st (tile 7) 7 rfl
  iintro ⟨⟨H0, H1, H2, H3, H4⟩, ⟨⟨%Y5, H5⟩, ⟨%Y6, H6⟩, H7⟩, ⟨⟨%Y8, H8⟩, H9, H10, H11, H12, H13, H14, H15, H16, H17, H18, H19, H20⟩, ⟨HVX, HV0, HV1, HV2, HV3, HVa, HVb, HVc, HVd, HV25⟩, HW⟩ HK
  have e0 : iprop(own c arg0 Finset.univ X ∗ own c arg8 Finset.univ Y8 ∗ bigSep Finset.univ (fun t => zeroed c (semX arg21 t))) ⊢ bigSep Finset.univ (St0 c X arg0 arg8 arg21 0) := by
    rw [rowsX_split, slot8_split, pairs, pairs]
    refine each fun t => ?_
    unfold St0
    rw [if_neg (by omega)]
    iintro ⟨H0, H8, HV⟩
    isplitl [H0]; · iexact H0
    isplitl [H8]
    · iexists Y8
      iexact H8
    iexact HV
  have e56 : iprop(own c arg5 Finset.univ Y5 ∗ own c arg6 Finset.univ Y6) ⊢ bigSep Finset.univ (FreshO c arg5 arg6) := by
    rw [colsO_split, rowsO_split, pairs]
    refine each fun t => ?_
    unfold FreshO
    iintro ⟨H5, H6⟩
    isplitl [H5]
    · iexists Y5
      iexact H5
    iexists Y6
    iexact H6
  iapply (copy_wp c (src := arg2) (dst := arg10) (sm := in0 arg22) (by decide)) $$ [H2 H10 HV0]
  · isplitl [H2]; · iexact H2
    isplitl [H10] <;> iassumption
  iintro HF0
  iapply (copy_wp c (src := arg1) (dst := arg9) (sm := in1 arg22) (by decide)) $$ [H1 H9 HV1]
  · isplitl [H1]; · iexact H1
    isplitl [H9] <;> iassumption
  iintro HF1
  ihave HS := e0 $$ [H0 H8 HVX]
  · isplitl [H0]; · iexact H0
    isplitl [H8] <;> iassumption
  iapply (s0 _ Q) $$ HS
  iintro HS
  iapply (copy_wp c (src := arg3) (dst := arg11) (sm := in2 arg22) (by decide)) $$ [H3 H11 HV2]
  · isplitl [H3]; · iexact H3
    isplitl [H11] <;> iassumption
  iintro HF2
  iapply (copy_wp c (src := arg4) (dst := arg12) (sm := in3 arg22) (by decide)) $$ [H4 H12 HV3]
  · isplitl [H4]; · iexact H4
    isplitl [H12] <;> iassumption
  iintro HF3
  iapply (s1 _ Q) $$ HS
  iintro HS
  iapply (s2 _ Q) $$ HS
  iintro HS
  iapply (s3 _ Q) $$ HS
  iintro HS
  iapply (s4 _ Q) $$ HS
  iintro HS
  iapply (s5 _ Q) $$ HS
  iintro HS
  iapply (s6 _ Q) $$ HS
  iintro HS
  iapply (s7 _ Q) $$ HS
  iintro HS
  iapply (await_wp c (sm := in0 arg22) (dst := arg10) rfl) $$ [HF0 HW]
  · isplitl [HF0] <;> iassumption
  iintro ⟨⟨H10, H2⟩, HV0, HW⟩
  have e8 : bigSep Finset.univ (St0 c X arg0 arg8 arg21 (7 + 1)) ⊢ bigSep Finset.univ (FlyX c X arg0 arg8 arg21) :=
    Entails.of_eq (bigSep_congr fun t _ => if_pos (t2_lt t))
  have eS := two_free (F := F) c arg19 arg20 arg23 arg24
  unfold wpP
  rw [wp_bind]
  icases eS $$ [H19 H20 HVa HVb HVc HVd] with ⟨HS0, HS1⟩
  · isplitl [H19]; · iexact H19
    isplitl [H20]; · iexact H20
    isplitl [HVa]; · iexact HVa
    isplitl [HVb]; · iexact HVb
    isplitl [HVc]; · iexact HVc
    iexact HVd
  rw [part59_eq]
  iapply (loops_wp c X Sc W I G arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24 arg25) $$ [H10 H13 HF1 HF2 HF3 HS H14 H15 H16 H17 H18 H7 HV25 H5 H6 HS0 HS1 HW]
  · isplitl [H10]; · iexact H10
    isplitl [H13]; · iexact H13
    isplitl [HF1]; · iexact HF1
    isplitl [HF2]; · iexact HF2
    isplitl [HF3]; · iexact HF3
    isplitl [HS]; · iapply e8 $$ HS
    isplitl [H14 H15 H16 H17 H18]
    · isplitl [H14]; · iexact H14
      isplitl [H15]; · iexact H15
      isplitl [H16]; · iexact H16
      isplitl [H17]; · iexact H17
      iexact H18
    isplitl [H7]; · iexact H7
    isplitl [HV25]; · iexact HV25
    isplitl [H5 H6]
    · iapply e56 $$ [H5 H6]
      isplitl [H5] <;> iassumption
    isplitl [HS0]; · iexact HS0
    isplitl [HS1]; · iexact HS1
    iexact HW
  iintro ⟨H10, ⟨H9, H1, HV1⟩, ⟨H11, H3, HV2⟩, ⟨H12, H4, HV3⟩, HX, H14, HF7, HB, HF11, HS0, HO, HW⟩
  unfold oddP
  iapply (drain_wp c (aT X Sc) (wtT W) (d16T (Dt X Sc W I G)) (dl16 (Dt X Sc W I G)) arg5 arg6 arg19 arg20 arg23 arg24 (chunk 11)
    (sem_congr (chunk 11) arg23 inb_S2_S1_1 rfl) (sem_congr (chunk 11) arg24 inb_S2_S1_1 rfl) rfl rfl) $$ [HF11 HW]
  · isplitl [HF11] <;> iassumption
  iintro ⟨HL, HS1, HW⟩
  iapply (await_wp c (sm := arg25.sem) (dst := arg7) rfl) $$ [HF7 HW]
  · isplitl [HF7] <;> iassumption
  iintro ⟨⟨H7, H18⟩, HV25, HW⟩
  unfold wpP
  rw [wp_ret]
  imodintro
  iapply HK
  have f0 : bigSep Finset.univ (LandX c X arg0 arg8 arg21) ⊢ iprop(own c arg0 Finset.univ X ∗ own c arg8 Finset.univ (x8T X) ∗ bigSep Finset.univ (fun t => zeroed c (semX arg21 t))) := by
    rw [rowsX_split, slot8_split, pairs, pairs]
    refine each fun t => ?_
    unfold LandX
    iintro ⟨H8, H0, HV⟩
    isplitl [H0]; · iexact H0
    isplitl [H8] <;> iassumption
  have f56 : iprop(LandO c (aT X Sc) (wtT W) (d16T (Dt X Sc W I G)) (dl16 (Dt X Sc W I G)) arg5 arg6 (chunk 11)
      ∗ bigSep (Finset.univ.erase (chunk 11)) (LandO c (aT X Sc) (wtT W) (d16T (Dt X Sc W I G)) (dl16 (Dt X Sc W I G)) arg5 arg6))
      ⊢ iprop(own c arg5 Finset.univ (dxT (dl16 (Dt X Sc W I G)) (wtT W)) ∗ own c arg6 Finset.univ (dwT (d16T (Dt X Sc W I G)) (aT X Sc))) := by
    rw [← take_one (LandO c (aT X Sc) (wtT W) (d16T (Dt X Sc W I G)) (dl16 (Dt X Sc W I G)) arg5 arg6) (chunk 11), colsO_split, rowsO_split, pairs]
    exact Entails.refl
  have fS := free_two (F := F) c arg19 arg20 arg23 arg24
  rw [← Free_congr (F := F) c arg19 arg20 arg23 arg24 (u := chunk 11) (t := chunk 1) rfl] at fS
  icases f0 $$ HX with ⟨H0, H8, HVX⟩
  icases f56 $$ [HL HB] with ⟨H5, H6⟩
  · isplitl [HL] <;> iassumption
  icases fS $$ [HS0 HS1] with ⟨H19, H20, HVa, HVb, HVc, HVd⟩
  · isplitl [HS0] <;> iassumption
  unfold Ops
  icases HO with ⟨H13, H15, H16, H17⟩
  isplitl [H0 H1 H2 H3 H4]
  · isplitl [H0]; · iexact H0
    isplitl [H1]; · iexact H1
    isplitl [H2]; · iexact H2
    isplitl [H3]; · iexact H3
    iexact H4
  isplitl [H5 H6 H7]
  · isplitl [H5]; · iexact H5
    isplitl [H6]; · iexact H6
    iexact H7
  isplitl [H8 H9 H10 H11 H12 H13 H14 H15 H16 H17 H18 H19 H20]
  · isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexists _; iexact H16
    isplitl [H17]; · iexists _; iexact H17
    isplitl [H18]; · iexists _; iexact H18
    isplitl [H19]; · iexact H19
    iexact H20
  isplitl [HVX HV0 HV1 HV2 HV3 HVa HVb HVc HVd HV25]
  · isplitl [HVX]; · iexact HVX
    isplitl [HV0]; · iexact HV0
    isplitl [HV1]; · iexact HV1
    isplitl [HV2]; · iexact HV2
    isplitl [HV3]; · iexact HV3
    isplitl [HVa]; · iexact HVa
    isplitl [HVb]; · iexact HVb
    isplitl [HVc]; · iexact HVc
    isplitl [HVd]; · iexact HVd
    iexact HV25
  iexact HW

end Region

end Cert.KernelIdeal.Whole

end
-- ==== Proof.KI.Run.lean ====
/- The launch: the program around the region, run from the launch memory to the arguments unchanged, the three results at their values and every semaphore at zero. -/
module

public import proofs.«01_k».proof.Proof.KI.Whole
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue

@[expose] public section

set_option maxRecDepth 16384

noncomputable section

namespace Cert.KernelIdeal.Run

open Cert.KernelIdeal Cert.KernelIdeal.Gen Cert.KernelIdeal.Values Cert.KernelIdeal.Trip Cert.KernelIdeal.Land Cert.KernelIdeal.Out Cert.KernelIdeal.Program Cert.KernelIdeal.Region Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the program computes -/

/-- The five operands as the region finds them. -/
def opX (c : Dev nD) : Vec F S2048x6144 .fp8e4m3 := (Memref.whole main_v0).view.read (Elt F) (V m c main_v0)
def opS (c : Dev nD) : Vec F S2048x192 .f32 := (Memref.whole main_v1).view.read (Elt F) (V m c main_v1)
def opW (c : Dev nD) : Vec F S6144x160 .bf16 := (Memref.whole main_arg2).view.read (Elt F) (V m c main_arg2)
def opI (c : Dev nD) : Vec F S2048x6 .i32 := (Memref.whole main_v2).view.read (Elt F) (V m c main_v2)
def opG (c : Dev nD) : Vec F S2048x6 .bf16 := (Memref.whole main_v3).view.read (Elt F) (V m c main_v3)

/-- The gradient of the logits, transposed, and the three results. -/
def dtOf (c : Dev nD) := Dt (opX m c) (opS m c) (opW m c) (opI m c) (opG m c)
def res0 (c : Dev nD) : Vec F S2048x6144 .bf16 := dxT (dl16 (dtOf m c)) (wtT (opW m c))
def res1 (c : Dev nD) : Vec F S6144x160 .f32 := dwT (d16T (dtOf m c)) (aT (opX m c) (opS m c))
def res2 (c : Dev nD) : Vec F S2048x160 .f32 := dlogT (dtOf m c)

/-- What the buffers hold at the end: the results at their values, the others as the region finds them. -/
def G (c : Dev nD) : (b : Ref sig .tc) → Buf (Elt F) ((c : Thread nD τ).loc b) :=
  Function.update (Function.update (Function.update (V m c) main_v4_0 ((Memref.whole main_v4_0).view.rep (res0 m c)))
    main_v4_1 ((Memref.whole main_v4_1).view.rep (res1 m c))) main_v4_2 ((Memref.whole main_v4_2).view.rep (res2 m c))

/-! ## Whole buffers -/

/-- A whole buffer at contents `f` is its memref held at the values read from `f`. -/
theorem whole_own (c : Dev nD) (b : Ref sig .tc) (f : Buf (Elt F) ((c : Thread nD τ).loc b)) :
    (((c : Thread nD τ).loc b) ↦{fullShare} f : sProp 𝕄) = own c (Memref.whole b) Finset.univ ((Memref.whole b).view.read (Elt F) f) := by
  have h := Own.of_pointsTo (Ix := Unit) (Name := ℕ) (U := Pipeline.UD sig nD τ) (Lvl := ℕ) (c : Thread nD τ) (Memref.whole b) Finset.univ f
  rw [View.setOn_univ, show (Memref.whole b : Memref sig .tc _ _ _).view.set = Finset.univ from View.set_whole b] at h
  exact h

theorem both {A B : sProp (MT nD τ sig Unit (Elt F) ℕ (Pipeline.UD sig nD τ) ℕ)} (h : A ⊢ B) (h' : B ⊢ A) : A = B := Entails.antisymm h h'

/-- A whole buffer at some contents. -/
theorem whole_some (c : Dev nD) (b : Ref sig .tc) :
    (iprop(∃ f : Buf (Elt F) ((c : Thread nD τ).loc b), ((c : Thread nD τ).loc b) ↦{fullShare} f) : sProp 𝕄) = some_ c (Memref.whole b) := by
  refine both ?_ ?_
  · iintro ⟨%f, H⟩
    iexists _
    have e := Entails.of_eq (whole_own (F := F) c b f)
    iapply e $$ H
  · iintro ⟨%Y, H⟩
    iexists ((Memref.whole b).view.rep Y)
    have e := Entails.of_eq (whole_own (F := F) c b ((Memref.whole b).view.rep Y)).symm
    rw [View.read_rep] at e
    iapply e $$ H

/-! ## The buffers and semaphores of the region -/

/-- The operands left in HBM, and the results written there. -/
def H0 : Finset (Ref sig .tc) := {main_v0, main_v1, main_arg2, main_v2, main_v3}
def R0 : Finset (Ref sig .tc) := {main_v4_0, main_v4_1, main_v4_2}
theorem H0_sub : H0 ⊆ Pipeline.restRefs sig cfg0.spec := by decide
theorem R0_sub : R0 ⊆ Pipeline.restRefs sig cfg0.spec \ H0 := by decide

/-- The region's seventeen transfer semaphores. -/
abbrev osem0 : Fin 17 → SemLoc sig := fun j => SemLoc.dma j
theorem ownSemFacts0 : Pipeline.OwnSemFacts cfg0.spec osem0 := by decide

/-- One of them at zero. -/
abbrev cell (c : Dev nD) (j : Fin 17) : sProp (MT nD τ sig Unit (Elt F) ℕ (Pipeline.UD sig nD τ) ℕ) := semVal ((c : Thread nD τ), SemLoc.dma j) 0

theorem zeros_eq (c : Dev nD) :
    (Pipeline.ownSems0 (Ix := Unit) (Name := ℕ) (U := Pipeline.UD sig nD τ) (Lvl := ℕ) (Val := Elt F) (τ := τ) osem0 c : sProp 𝕄)
      = Zeros c cc0_scratch13 cc0_scratch14 cc0_scratch15 cc0_scratch16 cc0_scratch17 := by
  have l : (Pipeline.ownSems0 (Ix := Unit) (Name := ℕ) (U := Pipeline.UD sig nD τ) (Lvl := ℕ) (Val := Elt F) (τ := τ) osem0 c : sProp 𝕄)
      = iprop(cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13 ∗ cell c 14 ∗ cell c 15 ∗ cell c 16) := by
    rw [Pipeline.ownSems0_eq_of_list c osem0 [0, 1, 2, 3, 4, 5, 6, 7, 8, 9, 10, 11, 12, 13, 14, 15, 16] (by decide) (by decide)]
    rfl
  have r : (bigSep Finset.univ (fun t => zeroed c (semX cc0_scratch13 t)) : sProp 𝕄) = iprop(cell c 0 ∗ cell c 1 ∗ cell c 2 ∗ cell c 3 ∗ cell c 4 ∗ cell c 5 ∗ cell c 6 ∗ cell c 7) := by
    rw [BI.bigSep_eq_bigSepL_of_eq [tile 0, tile 1, tile 2, tile 3, tile 4, tile 5, tile 6, tile 7] (by decide) (by decide)]
    rfl
  rw [l]
  unfold Zeros
  rw [r]
  refine both ?_ ?_
  · iintro ⟨Z0, Z1, Z2, Z3, Z4, Z5, Z6, Z7, Z8, Z9, Z10, Z11, Z12, Z13, Z14, Z15, Z16⟩
    isplitl [Z0 Z1 Z2 Z3 Z4 Z5 Z6 Z7]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    iexact Z16
  · iintro ⟨⟨Z0, Z1, Z2, Z3, Z4, Z5, Z6, Z7⟩, Z8, Z9, Z10, Z11, Z12, Z13, Z14, Z15, Z16⟩
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    iexact Z16

theorem args_eq (c : Dev nD) :
    (bigSep H0 (fun b => ((c : Thread nD τ).loc b) ↦{fullShare} V m c b) : sProp 𝕄)
      = Args c (opX m c) (opS m c) (opW m c) (opI m c) (opG m c) (Memref.whole main_v0) (Memref.whole main_v1) (Memref.whole main_arg2) (Memref.whole main_v2) (Memref.whole main_v3) := by
  rw [BI.bigSep_eq_bigSepL_of_eq [main_v0, main_v1, main_arg2, main_v2, main_v3] (by decide) (by decide)]
  simp only [BI.bigSepL_cons_cons, BI.bigSepL_singleton, whole_own]
  rfl

theorem scratch_eq (c : Dev nD) :
    (Pipeline.scopedRest (Ix := Unit) (Name := ℕ) (U := Pipeline.UD sig nD τ) (Lvl := ℕ) (Val := Elt F) cfg0.spec c : sProp 𝕄)
      = Scratch c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) := by
  rw [scopedRest0_eq]
  simp only [whole_some]
  rfl

theorem start_results (c : Dev nD) :
    (Pipeline.routed R0 c (V m c) : sProp 𝕄) ⊢ iprop(some_ c (Memref.whole main_v4_0) ∗ some_ c (Memref.whole main_v4_1) ∗ some_ c (Memref.whole main_v4_2)) := by
  unfold Pipeline.routed
  rw [BI.bigSep_eq_bigSepL_of_eq [main_v4_0, main_v4_1, main_v4_2] (by decide) (by decide)]
  simp only [BI.bigSepL_cons_cons, BI.bigSepL_singleton, whole_own]
  show iprop(own c (Memref.whole main_v4_0) Finset.univ _ ∗ own c (Memref.whole main_v4_1) Finset.univ _ ∗ own c (Memref.whole main_v4_2) Finset.univ _) ⊢ _
  iintro ⟨H0, H1, H2⟩
  isplitl [H0]; · iexists _; iexact H0
  isplitl [H1]; · iexists _; iexact H1
  iexists _; iexact H2

theorem end_results (c : Dev nD) :
    iprop(own c (Memref.whole main_v4_0) Finset.univ (res0 m c) ∗ own c (Memref.whole main_v4_1) Finset.univ (res1 m c) ∗ own c (Memref.whole main_v4_2) Finset.univ (res2 m c))
      = (Pipeline.routed R0 c (G m c) : sProp 𝕄) := by
  unfold Pipeline.routed G
  rw [BI.bigSep_eq_bigSepL_of_eq [main_v4_0, main_v4_1, main_v4_2] (by decide) (by decide)]
  simp only [BI.bigSepL_cons_cons, BI.bigSepL_singleton, Function.update_self,
    Function.update_of_ne (show main_v4_0 ≠ main_v4_1 by decide), Function.update_of_ne (show main_v4_0 ≠ main_v4_2 by decide),
    Function.update_of_ne (show main_v4_1 ≠ main_v4_2 by decide), whole_own, View.read_rep]
  rfl

/-! ## The body obligation -/

/-- Before the region's one point the buffers are as the region finds them; after it the results are at their values. -/
def dats (_ : Fin 1) (c : Dev nD) : Dat τ (Elt F) Unit ℕ (Pipeline.UD sig nD τ) ℕ cfg0 c where
  A w := w.elim0
  after w := w.elim0
  Φ t := if t.val = 0 then Pipeline.ΦDRG osem0 cfg0.spec H0 R0 (V m) (V m) c else Pipeline.ΦDRG osem0 cfg0.spec H0 R0 (V m) (G m) c
  q _ := fullShare
  owed _ := 0

theorem Φ_start (c : Dev nD) (t : Fin cfg0.N) : (dats m 0 c).Φ t.castSucc = Pipeline.ΦDRG osem0 cfg0.spec H0 R0 (V m) (V m) c := by
  rw [fin_N0 t]; rfl

theorem Φ_end (c : Dev nD) (t : Fin cfg0.N) : (dats m 0 c).Φ t.succ = Pipeline.ΦDRG osem0 cfg0.spec H0 R0 (V m) (G m) c := by
  rfl

theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  rw [Φ_start, Φ_end, Pipeline.ΦDRG_eq, Pipeline.ΦDRG_eq, zeros_eq, args_eq, scratch_eq, ← end_results]
  unfold Dat.owesAt Pipeline.owesWithin
  rw [show (dats m 0 c).owed t.castSucc = 0 from rfl, show (dats m 0 c).owed t.succ = 0 from rfl]
  have hs := start_results m c
  iintro ⟨⟨HS, HP, HZ, HA, HR⟩, ⟨%W, -, HW⟩, -⟩
  unfold bodyAt0
  have h := region_wp (F := F) c (opX m c) (opS m c) (opW m c) (opI m c) (opG m c)
    (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17
  iapply h $$ [HS HZ HA HR HW]
  · isplitl [HA]; · iexact HA
    isplitl [HR]; · iapply hs $$ HR
    isplitl [HS]; · iexact HS
    isplitl [HZ]; · iexact HZ
    iexists W
    iexact HW
  iintro ⟨HA, HR, HS, HZ, ⟨%W', HW⟩⟩
  isplitl [HA HR HS HZ HP]
  · isplitl [HS]; · iexact HS
    isplitl [HP]; · iexact HP
    isplitl [HZ]; · iexact HZ
    isplitl [HA]; · iexact HA
    iexact HR
  isplitl [HW]
  · iexists W'
    isplitr
    · ipureintro
      exact fun _ _ => Or.inl trivial
    iexact HW
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  simp only [show (Finset.univ : Finset (Fin cfg0.W)) = ∅ from rfl, bigSep_empty]
  exact triple_restated (sound_body m c t) rfl .rfl fun _ => .rfl

/-! ## The run -/

/-- @main up to the region: the four reshapes. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := G m)
    (hin := fun c => Entails.of_eq (Φ_start m c t0_0).symm) (hout := fun c => Entails.of_eq (Φ_end m c t0_0))

/-- An argument is none of the results. -/
theorem not_written {b : Ref sig .tc} (h : b ∈ Pipeline.restRefs sig cfg0.spec) (hb : b ∉ R0) : b ∈ Pipeline.restRefs sig cfg0.spec \ R0 :=
  Finset.mem_sdiff.mpr ⟨h, hb⟩

/-- THE RUN: the program ends with its arguments unchanged, its three results at their values and every semaphore at zero. -/
theorem run_values : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, (Memref.whole main_v4_0).view.read (Elt F) (r.2.mem ((c.tc : Thread nD τ).loc main_v4_0)) = res0 m c
        ∧ (Memref.whole main_v4_1).view.read (Elt F) (r.2.mem ((c.tc : Thread nD τ).loc main_v4_1)) = res1 m c
        ∧ (Memref.whole main_v4_2).view.read (Elt F) (r.2.mem ((c.tc : Thread nD τ).loc main_v4_2)) = res2 m c) :=
  (θ_run defs _ _).mono (fun r h => by
    refine ⟨⟨fun c => ⟨?_, ?_, ?_, ?_, ?_⟩, h.2⟩, fun c => ⟨?_, ?_, ?_⟩⟩
    · exact ((h.1.toR c).2 main_arg0 (not_written (Pipeline.mem_restRefs_of main_arg0 (by decide) (by decide)) (by decide))).trans (V_main_arg0 m c)
    · exact ((h.1.toR c).2 main_arg1 (not_written (Pipeline.mem_restRefs_of main_arg1 (by decide) (by decide)) (by decide))).trans (V_main_arg1 m c)
    · exact ((h.1.toR c).2 main_arg2 (not_written (Pipeline.mem_restRefs_of main_arg2 (by decide) (by decide)) (by decide))).trans (V_main_arg2 m c)
    · exact ((h.1.toR c).2 main_arg3 (not_written (Pipeline.mem_restRefs_of main_arg3 (by decide) (by decide)) (by decide))).trans (V_main_arg3 m c)
    · exact ((h.1.toR c).2 main_arg4 (not_written (Pipeline.mem_restRefs_of main_arg4 (by decide) (by decide)) (by decide))).trans (V_main_arg4 m c)
    · rw [h.1.written c (b := main_v4_0) (by decide)]
      unfold G
      rw [Function.update_of_ne (by decide), Function.update_of_ne (by decide), Function.update_self, View.read_rep]
    · rw [h.1.written c (b := main_v4_1) (by decide)]
      unfold G
      rw [Function.update_of_ne (by decide), Function.update_self, View.read_rep]
    · rw [h.1.written c (b := main_v4_2) (by decide)]
      unfold G
      rw [Function.update_self, View.read_rep]) (run_main m ρ)

end Cert.KernelIdeal.Run

end
-- ==== Proof.Alg.Plain.lean ====
/- The router's backward pass over the extended reals, one plain formula after another: both the kernel's results and
   the reference's are shown to be these.

   `A` is one token's row of activations, `ids` its six experts, `g` the gradient of its six gates. -/
module

public import Idealize.ShloMosaic.Lib.Pointwise

@[expose] public section

noncomputable section

namespace Cert.Plain

open Idealize.ShloMosaic

variable (A : Fin 6144 → EReal) (W : Fin 6144 → Fin 160 → EReal) (ids : Fin 6 → BitVec 32) (g : Fin 6 → EReal)

/-- Whether the `q`-th chosen expert is expert `e`. -/
def hit (q : Fin 6) (e : Fin 160) : BitVec 1 := IntOp.cmpi CmpIPredicate.eq (ids q) (BitVec.ofNat 32 e.val)

/-- The logit of expert `e`. -/
def logit (e : Fin 160) : EReal := ∑ d, A d * W d e

/-- The logit of the `q`-th chosen expert. -/
def sel (q : Fin 6) : EReal := ∑ e, Scalar.select (hit ids q e) (logit A W e) 0

/-- The numbers below are about six selected logits `l`: the largest, -/
def top (l : Fin 6 → EReal) : EReal := Finset.univ.fold max ⊥ l
/-- the softmax, -/
def gate (l : Fin 6 → EReal) (q : Fin 6) : EReal := Ideal.div (Ideal.exp (l q - top l)) (∑ p, Ideal.exp (l p - top l))
/-- and the gradient of the selected logits, from the gates `s`. -/
def dsel (s : Fin 6 → EReal) (q : Fin 6) : EReal := s q * (g q - ∑ p, s p * g p)

/-- The gradient of the logit of expert `e`. -/
def dlogit (e : Fin 160) : EReal := ∑ q, Scalar.select (hit ids q e) (dsel g (gate (sel A W ids)) q) 0

/-- The comparison reads the same from both sides. -/
theorem cmpi_eq_comm (a b : BitVec 32) : IntOp.cmpi CmpIPredicate.eq a b = IntOp.cmpi CmpIPredicate.eq b a := by
  unfold IntOp.cmpi
  simp [BEq.comm, eq_comm]

/-- The largest of six, taken one after another. -/
theorem top_six (l : Fin 6 → EReal) : max (max (max (max (max (l 0) (l 1)) (l 2)) (l 3)) (l 4)) (l 5) = top l := by
  unfold top
  rw [show (Finset.univ : Finset (Fin 6)) = {0, 1, 2, 3, 4, 5} by decide]
  simp [Finset.fold_insert, max_assoc]

/-- The word of minus infinity is the least number, so that the largest of six begins there. -/
theorem top_ofBits (l : Fin 6 → EReal) :
    max (Ideal.ofBits FTy.f32 4286578688#32) (Finset.univ.fold max (Ideal.ofBits FTy.f32 4286578688#32) l) = top l := by
  have h : Ideal.ofBits FTy.f32 4286578688#32 = ⊥ := by simp [Ideal.ofBits, Ideal.ieee]
  rw [h]
  simp [top]

end Cert.Plain
-- ==== Proof.Alg.KerValue.lean ====
/- The kernel's results over the extended reals, index by index, in the plain formulas. -/
module

public import proofs.«01_k».proof.Proof.KI.Values
public import proofs.«01_k».proof.Proof.Alg.Plain
public import Idealize.ShloMosaic.Lib.Pointwise

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Steps Cert.KernelIdeal.Values

/-! ## One tile -/

theorem logits_at (w : Vec Ideal S160x6144 .bf16) (a : Vec Ideal S6144x256 .bf16) (e : Fin 160) (t : Fin 256) :
    logitsOf w a (ix2 e t) = Plain.logit (fun d => a (ix2 d t)) (fun d e => w (ix2 e d)) e := by
  pointwise [logitsOf, Plain.logit]
  exact Finset.sum_congr rfl fun d _ => mul_comm _ _

theorem hit_at (ids : Vec Ideal S256x6 .i32) (q : Fin 6) (e : Fin 160) (t : Fin 256) :
    hitOf (F := Ideal) ids q (ix2 e t) = Plain.hit (fun q => ids (ix2 t q)) q e := by
  pointwise [hitOf, Plain.hit]
  exact Plain.cmpi_eq_comm _ _

theorem sel_at (w : Vec Ideal S160x6144 .bf16) (a : Vec Ideal S6144x256 .bf16) (ids : Vec Ideal S256x6 .i32) (q : Fin 6) (t : Fin 256) :
    selOf (logitsOf w a) ids q (ix2 (0 : Fin 1) t)
      = Plain.sel (fun d => a (ix2 d t)) (fun d e => w (ix2 e d)) (fun q => ids (ix2 t q)) q := by
  have h : selOf (logitsOf w a) ids q (ix2 (0 : Fin 1) t)
      = ∑ e : Fin 160, Scalar.select (hitOf (F := Ideal) ids q (ix2 e t)) (logitsOf w a (ix2 e t)) (0 : EReal) := by
    pointwise [selOf, zeros]
  rw [h]
  exact Finset.sum_congr rfl fun e _ => by rw [hit_at, logits_at]

theorem gate_at (l : Fin 6 → FVec Ideal S1x256 .f32) (q : Fin 6) (t : Fin 256) :
    gateOf l q (ix2 (0 : Fin 1) t) = Plain.gate (fun p => l p (ix2 (0 : Fin 1) t)) q := by
  pointwise [gateOf, expOf, sumOf, maxOf]
  unfold Plain.gate
  rw [Fin.sum_univ_six, ← Plain.top_six]

theorem dg_at (g : Vec Ideal S256x6 .bf16) (q : Fin 6) (t : Fin 256) : dgOf g q (ix2 (0 : Fin 1) t) = g (ix2 t q) := by
  pointwise [dgOf]

theorem dsel_at (s d : Fin 6 → FVec Ideal S1x256 .f32) (q : Fin 6) (t : Fin 256) :
    dselOf s d q (ix2 (0 : Fin 1) t) = Plain.dsel (fun p => d p (ix2 (0 : Fin 1) t)) (fun p => s p (ix2 (0 : Fin 1) t)) q := by
  pointwise [dselOf, sumOf]
  unfold Plain.dsel
  rw [Fin.sum_univ_six]

theorem term_at (ids : Vec Ideal S256x6 .i32) (s d : Fin 6 → FVec Ideal S1x256 .f32) (q : Fin 6) (e : Fin 160) (t : Fin 256) :
    termOf ids s d q (ix2 e t) = Scalar.select (hitOf (F := Ideal) ids q (ix2 e t)) (dselOf s d q (ix2 (0 : Fin 1) t)) (0 : EReal) := by
  pointwise [termOf, zeros]

/-- The gradient of the logits of a tile. -/
theorem dl_at (w : Vec Ideal S160x6144 .bf16) (a : Vec Ideal S6144x256 .bf16) (ids : Vec Ideal S256x6 .i32) (g : Vec Ideal S256x6 .bf16)
    (e : Fin 160) (t : Fin 256) :
    dlT w a ids g (ix2 e t)
      = Plain.dlogit (fun d => a (ix2 d t)) (fun d e => w (ix2 e d)) (fun q => ids (ix2 t q)) (fun q => g (ix2 t q)) e := by
  pointwise [dlT, zeros]
  unfold Plain.dlogit
  rw [Fin.sum_univ_six]
  simp only [term_at, hit_at, dsel_at, gate_at, sel_at, dg_at]

/-! ## The whole arrays -/

variable (X : Vec Ideal S2048x6144 .fp8e4m3) (Sc : Vec Ideal S2048x192 .f32) (W : Vec Ideal S6144x160 .bf16)
  (I : Vec Ideal S2048x6 .i32) (G : Vec Ideal S2048x6 .bf16)

/-- The activations. -/
def act (n : Fin 2048) (d : Fin 6144) : EReal := (X (ix2 n d) : EReal) * (Sc (ix2 n (⟨d.val / 32, by omega⟩ : Fin 192)) : EReal)

/-- The gradient of the logits. -/
def dlg (n : Fin 2048) (e : Fin 160) : EReal :=
  Plain.dlogit (act X Sc n) (fun d e => W (ix2 d e)) (fun q => I (ix2 n q)) (fun q => G (ix2 n q)) e

theorem act_at (n : Fin 2048) (d : Fin 6144) : aT X Sc (ix2 d n) = act X Sc n d := by
  pointwise [aT, act]

theorem tile_index (n : Fin 2048) : (⟨256 * (tileOf n).val + (tokOf n).val, by have := (tokOf n).isLt; have := (tileOf n).isLt; omega⟩ : Fin 2048) = n :=
  Fin.ext (Nat.div_add_mod n.val 256)

theorem chunk_index (d : Fin 6144) : (⟨512 * (chunkOf d).val + (featOf d).val, by have := (featOf d).isLt; have := (chunkOf d).isLt; omega⟩ : Fin 6144) = d :=
  Fin.ext (Nat.div_add_mod d.val 512)

theorem tileA_at (A : FVec Ideal S6144x2048 .bf16) (n : Fin 2048) (d : Fin 6144) : tileA A (tileOf n) (ix2 d (tokOf n)) = A (ix2 d n) :=
  congrArg (fun k => A (ix2 d k)) (tile_index n)

theorem tile6_at {α : Type} (J : S2048x6.Idx → α) (n : Fin 2048) (q : Fin 6) : tile6 J (tileOf n) (ix2 (tokOf n) q) = J (ix2 n q) :=
  congrArg (fun k => J (ix2 k q)) (tile_index n)

theorem wt_at (d : Fin 6144) (e : Fin 160) : wtT W (ix2 e d) = W (ix2 d e) := rfl

theorem tileD_at (n : Fin 2048) (e : Fin 160) : tileD X Sc W I G (tileOf n) (ix2 e (tokOf n)) = dlg X Sc W I G n e := by
  unfold tileD dlg
  rw [dl_at]
  simp only [tileA_at, tile6_at, act_at, wt_at]

/-- The third result. -/
theorem dlog_at (n : Fin 2048) (e : Fin 160) : dlogT (tileD X Sc W I G) (ix2 n e) = dlg X Sc W I G n e := by
  rw [← tileD_at]
  pointwise [dlogT, dlN]

theorem dl16_at (n : Fin 2048) (e : Fin 160) : dl16 (tileD X Sc W I G) (ix2 n e) = dlg X Sc W I G n e := by
  rw [← tileD_at]
  pointwise [dl16, dl16N]

theorem d16_at (n : Fin 2048) (e : Fin 160) : d16T (tileD X Sc W I G) (ix2 e n) = dlg X Sc W I G n e := by
  rw [← tileD_at]
  pointwise [d16T, dl16T]

theorem chunkW_at (Wt : Vec Ideal S160x6144 .bf16) (d : Fin 6144) (e : Fin 160) : chunkW Wt (chunkOf d) (ix2 e (featOf d)) = Wt (ix2 e d) :=
  congrArg (fun k => Wt (ix2 e k)) (chunk_index d)

theorem chunkA_at (A : FVec Ideal S6144x2048 .bf16) (d : Fin 6144) (n : Fin 2048) : chunkA A (chunkOf d) (ix2 (featOf d) n) = A (ix2 d n) :=
  congrArg (fun k => A (ix2 k n)) (chunk_index d)

/-- The first result. -/
theorem dx_at (n : Fin 2048) (d : Fin 6144) :
    dxT (dl16 (tileD X Sc W I G)) (wtT W) (ix2 n d) = ∑ e : Fin 160, dlg X Sc W I G n e * (W (ix2 d e) : EReal) := by
  have h (L : FVec Ideal S2048x160 .bf16) (Wt : Vec Ideal S160x6144 .bf16) : dxT L Wt (ix2 n d)
      = ∑ e : Fin 160, (L (ix2 n e) : EReal) * (chunkW Wt (chunkOf d) (ix2 e (featOf d)) : EReal) := by
    pointwise [dxT, k0_pay313]
  rw [h]
  exact Finset.sum_congr rfl fun e _ => by rw [dl16_at, chunkW_at, wt_at]

/-- The second result. -/
theorem dw_at (d : Fin 6144) (e : Fin 160) :
    dwT (d16T (tileD X Sc W I G)) (aT X Sc) (ix2 d e) = ∑ n : Fin 2048, act X Sc n d * dlg X Sc W I G n e := by
  have h (L : FVec Ideal S160x2048 .bf16) (A : FVec Ideal S6144x2048 .bf16) : dwT L A (ix2 d e)
      = ∑ n : Fin 2048, (L (ix2 e n) : EReal) * (chunkA A (chunkOf d) (ix2 (featOf d) n) : EReal) := by
    pointwise [dwT, k0_pay314]
  rw [h]
  exact Finset.sum_congr rfl fun n _ => by rw [d16_at, chunkA_at, act_at, mul_comm]

end Cert.KernelIdeal.Results
-- ==== Proof.Alg.RefValue.lean ====
/- The reference's results over the extended reals, index by index, in the plain formulas. -/
module

public import proofs.«01_k».proof.Proof.Gen.ReferenceIdeal.Value
public import proofs.«01_k».proof.Proof.Alg.Plain
public import Idealize.ShloMosaic.Lib.Pipeline.ValueKit
public import Idealize.ShloMosaic.Lib.Pointwise

@[expose] public section

set_option maxRecDepth 16384

noncomputable section

namespace Cert.ReferenceIdeal.Results

open Idealize.ShloMosaic Idealize.ShloMosaic.TcCoe Idealize.SL.Sem
open Idealize.ShloMosaic.Pipeline (Dat)
open Cert.ReferenceIdeal Cert.ReferenceIdeal.Gen

section Body
variable (x : Vec Ideal S2048x192x32 .fp8e4m3) (s : Vec Ideal S2048x192x1 .f32) (w : Vec Ideal S6144x160 .bf16)
  (i : Vec Ideal S2048x6 .i32) (g : Vec Ideal S2048x6 .bf16)

/-- The activations. -/
def act (n : Fin 2048) (d : Fin 6144) : EReal :=
  (x (ix3 n (⟨d.val / 32, by omega⟩ : Fin 192) (⟨d.val % 32, by omega⟩ : Fin 32)) : EReal)
    * (s (ix3 n (⟨d.val / 32, by omega⟩ : Fin 192) (0 : Fin 1)) : EReal)

/-- The gradient of the logits. -/
def dlg (n : Fin 2048) (e : Fin 160) : EReal :=
  Plain.dlogit (act x s n) (fun d e => w (ix2 d e)) (fun q => i (ix2 n q)) (fun q => g (ix2 n q)) e

theorem act_at (n : Fin 2048) (d : Fin 6144) : k0_pay5 x s (ix2 n d) = act x s n d := by
  pointwise [k0_pay5, act]

theorem hit_at (n : Fin 2048) (q : Fin 6) (e : Fin 160) : k0_pay6 (F := Ideal) i (ix3 n q e) = Plain.hit (fun q => i (ix2 n q)) q e := by
  pointwise [k0_pay6, Plain.hit]

theorem gate_at (n : Fin 2048) (q : Fin 6) :
    k0_pay7 x s w i (ix2 n q) = Plain.gate (Plain.sel (act x s n) (fun d e => w (ix2 d e)) (fun q => i (ix2 n q))) q := by
  pointwise [k0_pay7, k0_pay6, k0_pay5]
  rw [Plain.top_ofBits]
  rfl

theorem dg_at (n : Fin 2048) (q : Fin 6) : k0_pay8 g (ix2 n q) = g (ix2 n q) := by
  pointwise [k0_pay8]

theorem dot_at (n : Fin 2048) : k0_pay9 x s w i g (ix2 n (0 : Fin 1))
    = ∑ p : Fin 6, (k0_pay7 x s w i (ix2 n p) : EReal) * (k0_pay8 g (ix2 n p) : EReal) := by
  pointwise [k0_pay9]

/-- The third result. -/
theorem dlog_at (n : Fin 2048) (e : Fin 160) :
    k0_pay1 (k0_pay6 (F := Ideal) i) (k0_pay7 x s w i) (k0_pay8 g) (k0_pay9 x s w i g) (ix2 n e) = dlg x s w i g n e := by
  have h (a : IVec S2048x6x160 1) (b c : FVec Ideal S2048x6 .f32) (d : FVec Ideal S2048x1 .f32) : k0_pay1 a b c d (ix2 n e)
      = ∑ q : Fin 6, Scalar.select (a (ix3 n q e)) ((b (ix2 n q) : EReal) * ((c (ix2 n q) : EReal) - (d (ix2 n (0 : Fin 1)) : EReal))) (0 : EReal) := by
    pointwise [k0_pay1]
  rw [h]
  simp only [dot_at, hit_at, gate_at, dg_at]
  rfl

theorem dl16_at (n : Fin 2048) (e : Fin 160) :
    k0_pay2 (k0_pay6 (F := Ideal) i) (k0_pay7 x s w i) (k0_pay8 g) (k0_pay9 x s w i g) (ix2 n e) = dlg x s w i g n e := by
  rw [← dlog_at]
  rfl

/-- The first result. -/
theorem dx_at (n : Fin 2048) (d : Fin 6144) :
    k0_pay3 w (k0_pay6 (F := Ideal) i) (k0_pay7 x s w i) (k0_pay8 g) (k0_pay9 x s w i g) (ix2 n d)
      = ∑ e : Fin 160, dlg x s w i g n e * (w (ix2 d e) : EReal) := by
  have h (a : IVec S2048x6x160 1) (b c : FVec Ideal S2048x6 .f32) (v : FVec Ideal S2048x1 .f32) : k0_pay3 w a b c v (ix2 n d)
      = ∑ e : Fin 160, (k0_pay2 a b c v (ix2 n e) : EReal) * (w (ix2 d e) : EReal) := by
    pointwise [k0_pay3]
  rw [h]
  exact Finset.sum_congr rfl fun e _ => by rw [dl16_at]

/-- The second result. -/
theorem dw_at (d : Fin 6144) (e : Fin 160) :
    k0_pay4 (k0_pay5 x s) (k0_pay6 (F := Ideal) i) (k0_pay7 x s w i) (k0_pay8 g) (k0_pay9 x s w i g) (ix2 d e)
      = ∑ n : Fin 2048, act x s n d * dlg x s w i g n e := by
  have h (u : FVec Ideal S2048x6144 .bf16) (a : IVec S2048x6x160 1) (b c : FVec Ideal S2048x6 .f32) (v : FVec Ideal S2048x1 .f32) :
      k0_pay4 u a b c v (ix2 d e) = ∑ n : Fin 2048, (u (ix2 n d) : EReal) * (k0_pay2 a b c v (ix2 n e) : EReal) := by
    pointwise [k0_pay4]
  rw [h]
  exact Finset.sum_congr rfl fun n _ => by rw [dl16_at, act_at]

end Body

/-! ## The arrays after the run -/

variable (m : (ℓ : Loc nD τ sig) → Buf (Elt Ideal) ℓ)

/-- The operands as the call finds them. -/
abbrev xR (c : Dev nD) : Vec Ideal S2048x192x32 .fp8e4m3 := V m c main_v0
abbrev sR (c : Dev nD) : Vec Ideal S2048x192x1 .f32 := V m c main_v1
abbrev wR (c : Dev nD) : Vec Ideal S6144x160 .bf16 := V m c main_arg2
abbrev iR (c : Dev nD) : Vec Ideal S2048x6 .i32 := V m c main_v2
abbrev gR (c : Dev nD) : Vec Ideal S2048x6 .bf16 := V m c main_v3

theorem idx : ∀ t : Fin cfg0.N, win0_0.index t = ![0, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) : iblk m c 0 t = xR m c := by blk_ext! [iblk, idx t]
theorem blk1 (c : Dev nD) (t : Fin cfg0.N) : iblk m c 1 t = sR m c := by blk_ext! [iblk, idx t]
theorem blk2 (c : Dev nD) (t : Fin cfg0.N) : iblk m c 2 t = wR m c := by blk_ext! [iblk, idx t]
theorem blk3 (c : Dev nD) (t : Fin cfg0.N) : iblk m c 3 t = iR m c := by blk_ext! [iblk, idx t]
theorem blk4 (c : Dev nD) (t : Fin cfg0.N) : iblk m c 4 t = gR m c := by blk_ext! [iblk, idx t]

theorem pay10 (x : Vec Ideal S2048x192x32 .fp8e4m3) (s : Vec Ideal S2048x192x1 .f32) (w : Vec Ideal S6144x160 .bf16)
    (i : Vec Ideal S2048x6 .i32) (g : Vec Ideal S2048x6 .bf16) : k0_pay10 x s w i g = k0_pay6 (F := Ideal) i := by
  unfold k0_pay10
  frame_out
theorem pay11 (x : Vec Ideal S2048x192x32 .fp8e4m3) (s : Vec Ideal S2048x192x1 .f32) (w : Vec Ideal S6144x160 .bf16)
    (i : Vec Ideal S2048x6 .i32) (g : Vec Ideal S2048x6 .bf16) : k0_pay11 x s w i g = k0_pay7 x s w i := by
  unfold k0_pay11
  frame_out
theorem pay12 (x : Vec Ideal S2048x192x32 .fp8e4m3) (s : Vec Ideal S2048x192x1 .f32) (w : Vec Ideal S6144x160 .bf16)
    (i : Vec Ideal S2048x6 .i32) (g : Vec Ideal S2048x6 .bf16) : k0_pay12 x s w i g = k0_pay8 g := by
  unfold k0_pay12
  frame_out
theorem pay13 (x : Vec Ideal S2048x192x32 .fp8e4m3) (s : Vec Ideal S2048x192x1 .f32) (w : Vec Ideal S6144x160 .bf16)
    (i : Vec Ideal S2048x6 .i32) (g : Vec Ideal S2048x6 .bf16) : k0_pay13 x s w i g = k0_pay9 x s w i g := by
  unfold k0_pay13
  frame_out

theorem final5 (c : Dev nD) : (dats m 0 c).arrAt 5 (cfgs 0).N
    = k0_pay3 (wR m c) (k0_pay6 (F := Ideal) (iR m c)) (k0_pay7 (xR m c) (sR m c) (wR m c) (iR m c)) (k0_pay8 (gR m c))
        (k0_pay9 (xR m c) (sR m c) (wR m c) (iR m c) (gR m c)) := by
  refine (dats m 0 c).arrAt_eq_of_after_last 5 t0_0 (by decide +kernel) _ fun j => ?_
  blk_simp
  rw [after0_5, blk0, blk1, blk2, blk3, blk4]
  frame_out
  rw [pay10, pay11, pay12, pay13]

theorem final6 (c : Dev nD) : (dats m 0 c).arrAt 6 (cfgs 0).N
    = k0_pay4 (k0_pay5 (xR m c) (sR m c)) (k0_pay6 (F := Ideal) (iR m c)) (k0_pay7 (xR m c) (sR m c) (wR m c) (iR m c)) (k0_pay8 (gR m c))
        (k0_pay9 (xR m c) (sR m c) (wR m c) (iR m c) (gR m c)) := by
  refine (dats m 0 c).arrAt_eq_of_after_last 6 t0_0 (by decide +kernel) _ fun j => ?_
  blk_simp
  rw [after0_6, blk0, blk1, blk2, blk3, blk4]
  frame_out
  rw [pay10, pay11, pay12, pay13]

theorem final7 (c : Dev nD) : (dats m 0 c).arrAt 7 (cfgs 0).N
    = k0_pay1 (k0_pay6 (F := Ideal) (iR m c)) (k0_pay7 (xR m c) (sR m c) (wR m c) (iR m c)) (k0_pay8 (gR m c))
        (k0_pay9 (xR m c) (sR m c) (wR m c) (iR m c) (gR m c)) := by
  refine (dats m 0 c).arrAt_eq_of_after_last 7 t0_0 (by decide +kernel) _ fun j => ?_
  blk_simp
  rw [after0_7, blk0, blk1, blk2, blk3, blk4]
  frame_out
  rw [pay10, pay11, pay12, pay13]

end Cert.ReferenceIdeal.Results
-- ==== Proof.Alg.Operands.lean ====
/- The operands of the two calls are the same arguments, reshaped: what each holds at an index, and that kernel and
   reference therefore compute from the same numbers. -/
module

public import proofs.«01_k».proof.Proof.KI.Run
public import proofs.«01_k».proof.Proof.Alg.KerValue
public import proofs.«01_k».proof.Proof.Alg.RefValue

@[expose] public section

set_option maxRecDepth 16384

noncomputable section

namespace Cert.Operands

open Idealize.ShloMosaic Idealize.ShloMosaic.TcCoe Idealize.SL.Sem

/-- The sequence of a token, -/
abbrev seqOf (n : Fin 2048) : Fin 2 := ⟨n.val / 1024, by omega⟩
/-- and its place there. -/
abbrev posOf (n : Fin 2048) : Fin 1024 := ⟨n.val % 1024, by omega⟩

section Kernel
open Cert.KernelIdeal Cert.KernelIdeal.Gen Cert.KernelIdeal.Run
variable (m : (ℓ : Loc nD τ sig) → Buf (Elt Ideal) ℓ) (c : Dev nD)

theorem kx (n : Fin 2048) (d : Fin 6144) : opX m c (ix2 n d) = m ((c : Thread nD τ).loc main_arg0) (ix3 (seqOf n) (posOf n) d) := by
  show V m c main_v0 (ix2 n d) = _
  entry_read
  pointwise
theorem ks (n : Fin 2048) (b : Fin 192) : opS m c (ix2 n b) = m ((c : Thread nD τ).loc main_arg1) (ix3 (seqOf n) (posOf n) b) := by
  show V m c main_v1 (ix2 n b) = _
  entry_read
  pointwise
theorem kw : opW m c = m ((c : Thread nD τ).loc main_arg2) := V_main_arg2 m c
theorem ki (n : Fin 2048) (q : Fin 6) : opI m c (ix2 n q) = m ((c : Thread nD τ).loc main_arg3) (ix3 (seqOf n) (posOf n) q) := by
  show V m c main_v2 (ix2 n q) = _
  entry_read
  pointwise
theorem kg (n : Fin 2048) (q : Fin 6) : opG m c (ix2 n q) = m ((c : Thread nD τ).loc main_arg4) (ix3 (seqOf n) (posOf n) q) := by
  show V m c main_v3 (ix2 n q) = _
  entry_read
  pointwise
end Kernel

section Reference
open Cert.ReferenceIdeal Cert.ReferenceIdeal.Gen Cert.ReferenceIdeal.Results
variable (m : (ℓ : Loc nD τ sig) → Buf (Elt Ideal) ℓ) (c : Dev nD)

theorem rx (n : Fin 2048) (a : Fin 192) (b : Fin 32) : xR m c (ix3 n a b)
    = m ((c : Thread nD τ).loc main_arg0) (ix3 (seqOf n) (posOf n) (⟨a.val * 32 + b.val, by omega⟩ : Fin 6144)) := by
  show V m c main_v0 _ = _
  entry_read
  pointwise
theorem rs (n : Fin 2048) (a : Fin 192) : sR m c (ix3 n a (0 : Fin 1)) = m ((c : Thread nD τ).loc main_arg1) (ix3 (seqOf n) (posOf n) a) := by
  show V m c main_v1 _ = _
  entry_read
  pointwise
theorem rw_ : wR m c = m ((c : Thread nD τ).loc main_arg2) := V_main_arg2 m c
theorem ri (n : Fin 2048) (q : Fin 6) : iR m c (ix2 n q) = m ((c : Thread nD τ).loc main_arg3) (ix3 (seqOf n) (posOf n) q) := by
  show V m c main_v2 _ = _
  entry_read
  pointwise
theorem rg (n : Fin 2048) (q : Fin 6) : gR m c (ix2 n q) = m ((c : Thread nD τ).loc main_arg4) (ix3 (seqOf n) (posOf n) q) := by
  show V m c main_v3 _ = _
  entry_read
  pointwise
end Reference

/-! ## The same numbers -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments are the same on device `c`. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'} (c : Dev Cert.KernelIdeal.nD) (h : Same m m' c)
include h

open Cert.KernelIdeal.Run (opX opS opW opI opG)
open Cert.ReferenceIdeal.Results (xR sR wR iR gR)

theorem act_eq (n : Fin 2048) (d : Fin 6144) :
    Cert.KernelIdeal.Results.act (opX m c) (opS m c) n d = Cert.ReferenceIdeal.Results.act (xR m' c) (sR m' c) n d := by
  unfold Cert.KernelIdeal.Results.act Cert.ReferenceIdeal.Results.act
  rw [kx, ks, rx, rs]
  have e : (⟨d.val / 32 * 32 + d.val % 32, by omega⟩ : Fin 6144) = d := Fin.ext (by show d.val / 32 * 32 + d.val % 32 = d.val; omega)
  simp only [e]
  exact congrArg₂ (fun a b : EReal => a * b) (congrFun h.1.symm _) (congrFun h.2.1.symm _)

theorem w_eq : opW m c = wR m' c := (kw m c).trans (h.2.2.1.symm.trans (rw_ m' c).symm)

theorem dlg_eq (n : Fin 2048) (e : Fin 160) :
    Cert.KernelIdeal.Results.dlg (opX m c) (opS m c) (opW m c) (opI m c) (opG m c) n e
      = Cert.ReferenceIdeal.Results.dlg (xR m' c) (sR m' c) (wR m' c) (iR m' c) (gR m' c) n e := by
  unfold Cert.KernelIdeal.Results.dlg Cert.ReferenceIdeal.Results.dlg
  have ea := funext (act_eq c h n)
  have ew : (fun (d : Fin 6144) (e : Fin 160) => opW m c (ix2 d e)) = fun d e => wR m' c (ix2 d e) :=
    funext fun d => funext fun e => congrFun (w_eq c h) (ix2 d e)
  have ei : (fun q : Fin 6 => opI m c (ix2 n q)) = fun q => iR m' c (ix2 n q) :=
    funext fun q => (ki m c n q).trans ((congrFun h.2.2.2.1.symm _).trans (ri m' c n q).symm)
  have eg : (fun q : Fin 6 => opG m c (ix2 n q)) = fun q => gR m' c (ix2 n q) :=
    funext fun q => (kg m c n q).trans ((congrFun h.2.2.2.2.symm _).trans (rg m' c n q).symm)
  exact congr (congr (congr (congr (congrArg Plain.dlogit ea) ew) ei) eg) rfl

/-! ## The three results -/

theorem res0_eq : (Cert.ReferenceIdeal.Gen.dats m' 0 c).arrAt 5 (Cert.ReferenceIdeal.cfgs 0).N = Cert.KernelIdeal.Run.res0 m c := by
  rw [Cert.ReferenceIdeal.Results.final5]
  funext z
  rw [eq_ix2 (n0 := 2048) (n1 := 6144) z]
  refine (Cert.ReferenceIdeal.Results.dx_at _ _ _ _ _ _ _).trans (Eq.trans ?_ (Cert.KernelIdeal.Results.dx_at _ _ _ _ _ _ _).symm)
  exact Finset.sum_congr rfl fun e _ => congrArg₂ (fun a b : EReal => a * b) (dlg_eq c h _ e).symm (congrFun (w_eq c h).symm _)

theorem res1_eq : (Cert.ReferenceIdeal.Gen.dats m' 0 c).arrAt 6 (Cert.ReferenceIdeal.cfgs 0).N = Cert.KernelIdeal.Run.res1 m c := by
  rw [Cert.ReferenceIdeal.Results.final6]
  funext z
  rw [eq_ix2 (n0 := 6144) (n1 := 160) z]
  refine (Cert.ReferenceIdeal.Results.dw_at _ _ _ _ _ _ _).trans (Eq.trans ?_ (Cert.KernelIdeal.Results.dw_at _ _ _ _ _ _ _).symm)
  exact Finset.sum_congr rfl fun n _ => congrArg₂ (fun a b : EReal => a * b) (act_eq c h n _).symm (dlg_eq c h n _).symm

theorem res2_eq : (Cert.ReferenceIdeal.Gen.dats m' 0 c).arrAt 7 (Cert.ReferenceIdeal.cfgs 0).N = Cert.KernelIdeal.Run.res2 m c := by
  rw [Cert.ReferenceIdeal.Results.final7]
  funext z
  rw [eq_ix2 (n0 := 2048) (n1 := 160) z]
  refine (Cert.ReferenceIdeal.Results.dlog_at _ _ _ _ _ _ _).trans (Eq.trans ?_ (Cert.KernelIdeal.Results.dlog_at _ _ _ _ _ _ _).symm)
  exact (dlg_eq c h _ _).symm

end Cert.Operands
-- ==== Proof.lean ====
/- The proof of the certificate's claims: the three programs run to their ends with their arguments unchanged and every
   semaphore at zero, and over the reals the kernel's three results are the reference's. -/
module

public import proofs.«01_k».proof.Defs
public import proofs.«01_k».proof.Proof.K.Run
public import proofs.«01_k».proof.Proof.KI.Run
public import proofs.«01_k».proof.Proof.Gen.ReferenceIdeal.Value
public import proofs.«01_k».proof.Proof.Alg.Operands

@[expose] public section

noncomputable section

namespace Cert.Proof

open Idealize.ShloMosaic Idealize.SL.Sem

/-- Over the reals, the kernel's three results are the reference's. -/
theorem algebraic [hKernelIdeal : Cert.KernelIdeal.Facts] [hReferenceIdeal : Cert.ReferenceIdeal.Facts] :
    algebraic_KernelIdeal_ReferenceIdeal (hKernelIdeal := hKernelIdeal) (hReferenceIdeal := hReferenceIdeal) := by
  intro m g m' g' _ hargs
  refine ⟨Cert.KernelIdeal.Run.res0 m, Cert.KernelIdeal.Run.res1 m, Cert.KernelIdeal.Run.res2 m, ?_, ?_⟩
  · exact (θ_run _ _ _).mono (fun _ h c => ⟨(h.2 c).1, (h.2 c).2.1, (h.2 c).2.2, h.1.1 c⟩) (Cert.KernelIdeal.Run.run_values m g)
  · refine (θ_run _ _ _).mono (fun _ h c => ?_) (Cert.ReferenceIdeal.Value.run_blocks m' g')
    exact ⟨(h c).1.trans (Cert.Operands.res0_eq c (hargs c)), (h c).2.1.trans (Cert.Operands.res1_eq c (hargs c)),
      (h c).2.2.1.trans (Cert.Operands.res2_eq c (hargs c)), (h c).2.2.2⟩

theorem claim : Cert.Claim := ⟨Cert.Kernel.Gen.facts, Cert.KernelIdeal.Gen.facts, Cert.ReferenceIdeal.Gen.facts,
  fun m ρ _ => (θ_run _ _ _).mono (fun _ h => h.1) (Cert.Kernel.Run.run_values m ρ),
  fun m ρ _ => (θ_run _ _ _).mono (fun _ h => h.1) (Cert.KernelIdeal.Run.run_values m ρ),
  fun m ρ _ => Cert.ReferenceIdeal.Gen.frame m ρ,
  trivial,
  algebraic (hKernelIdeal := Cert.KernelIdeal.Gen.facts) (hReferenceIdeal := Cert.ReferenceIdeal.Gen.facts)⟩

end Cert.Proof

end
